-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_on_all_but_rotation_pre_finite [hKernelIdeal : Cert.KernelIdeal.Facts] [hReferenceIdeal : Cert.ReferenceIdeal.Facts] [hPre_finite : Cert.Pre_finite.Facts] [hOn_all_but_rotation : Cert.On_all_but_rotation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2456)) (v1 : (c : Dev Cert.KernelIdeal.nD) → Buf (Elt Ideal) ((c.tc : Thread Cert.KernelIdeal.nD Cert.KernelIdeal.τ).loc Cert.KernelIdeal.main_v2465)) (v2 : (c : Dev Cert.KernelIdeal.nD) → Buf (Elt Ideal) ((c.tc : Thread Cert.KernelIdeal.nD Cert.KernelIdeal.τ).loc Cert.KernelIdeal.main_v12_0)) (v3 : (c : Dev Cert.KernelIdeal.nD) → Buf (Elt Ideal) ((c.tc : Thread Cert.KernelIdeal.nD Cert.KernelIdeal.τ).loc Cert.KernelIdeal.main_v12_1)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 3, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v2456) i = v0 c i)
          ∧ (∀ i : (⟨3, ![8, 3, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v2465) i = v1 c i)
          ∧ (∀ i : (⟨3, ![8, 2048, 1]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v12_0) i = v2 c i)
          ∧ (∀ i : (⟨3, ![8, 2048, 1]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v12_1) i = v3 c i)
          ∧ (∀ i : (⟨3, ![8, 3, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.KernelIdeal.nD Cert.KernelIdeal.τ).loc Cert.KernelIdeal.main_v15) i = v4 c i)
          ∧ (∀ i : (⟨2, ![8, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 i = 1#1 → r.2.mem ((c.tc : Thread Cert.KernelIdeal.nD Cert.KernelIdeal.τ).loc Cert.KernelIdeal.main_v17) i = v5 c i)
          ∧ (∀ i : (⟨2, ![8, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 i = 1#1 → r.2.mem ((c.tc : Thread Cert.KernelIdeal.nD Cert.KernelIdeal.τ).loc Cert.KernelIdeal.main_v19) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 3, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v56) i = v0 c i)
          ∧ (∀ i : (⟨3, ![8, 3, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v57) i = v1 c i)
          ∧ (∀ i : (⟨3, ![8, 2048, 1]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v19) i = v2 c i)
          ∧ (∀ i : (⟨3, ![8, 2048, 1]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v20) i = v3 c i)
          ∧ (∀ i : (⟨3, ![8, 3, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.ReferenceIdeal.nD Cert.ReferenceIdeal.τ).loc Cert.ReferenceIdeal.main_v53) i = v4 c i)
          ∧ (∀ i : (⟨2, ![8, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 i = 1#1 → r.2.mem ((c.tc : Thread Cert.ReferenceIdeal.nD Cert.ReferenceIdeal.τ).loc Cert.ReferenceIdeal.main_v54) i = v5 c i)
          ∧ (∀ i : (⟨2, ![8, 3]⟩ : Shape).Idx, (Cert.On_all_but_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 i = 1#1 → r.2.mem ((c.tc : Thread Cert.ReferenceIdeal.nD Cert.ReferenceIdeal.τ).loc Cert.ReferenceIdeal.main_v55) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hOn_all_but_rotation : Cert.On_all_but_rotation.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_all_but_rotation_pre_finite (hKernelIdeal := hKernelIdeal) (hReferenceIdeal := hReferenceIdeal) (hPre_finite := hPre_finite) (hOn_all_but_rotation := hOn_all_but_rotation)
    ∧ preserves_Kernel2_Kernel2Ideal
    ∧ algebraic_Kernel2Ideal_Reference2Ideal (hKernel2Ideal := hKernel2Ideal) (hReference2Ideal := hReference2Ideal)
-- ==== On_all_but_rotation.lean ====
abbrev S8x64x2048 : Shape := ⟨3, ![8, 64, 2048]⟩
abbrev S8x3x2048 : Shape := ⟨3, ![8, 3, 2048]⟩
abbrev S8 : Shape := ⟨1, ![8]⟩
abbrev S_ : Shape := ⟨0, ![]⟩
abbrev S8x3x3 : Shape := ⟨3, ![8, 3, 3]⟩
abbrev S8x2048x1 : Shape := ⟨3, ![8, 2048, 1]⟩
abbrev S8x3 : Shape := ⟨2, ![8, 3]⟩

class Facts : Prop where
  bcast_S_S8x3x3 : S_.BroadcastsInDim S8x3x3 (![] : Fin 0 → Fin S8x3x3.rank)
  bcast_S_S8x2048x1 : S_.BroadcastsInDim S8x2048x1 (![] : Fin 0 → Fin S8x2048x1.rank)
  bcast_S_S8x3 : S_.BroadcastsInDim S8x3 (![] : Fin 0 → Fin S8x3.rank)

variable [Facts]

def fn {F : FTy → Type} [FloatOps F] (main_arg0 : FVec F S8x64x2048 .f32) (main_arg1 : FVec F S8x64x2048 .f32) (main_arg2 : FVec F S8x3x2048 .f32) (main_arg3 : FVec F S8x3x2048 .f32) (main_arg4 : FVec F S8 .f32) (main_arg5 : IVec S_ 32) : IVec S8x3x3 1 × IVec S8x3x3 1 × IVec S8x2048x1 1 × IVec S8x2048x1 1 × IVec S8x3x3 1 × IVec S8x3 1 × IVec S8x3 1 :=
  let main_c : IVec S_ 1 := constantI S_ 1 0#1
  let main_v0 : IVec S8x3x3 1 := broadcastInDim S8x3x3 ![] bcast_S_S8x3x3 main_c
  let main_c_0 : IVec S_ 1 := constantI S_ 1 1#1
  let main_v1 : IVec S8x2048x1 1 := broadcastInDim S8x2048x1 ![] bcast_S_S8x2048x1 main_c_0
  let main_c_1 : IVec S_ 1 := constantI S_ 1 1#1
  let main_v2 : IVec S8x2048x1 1 := broadcastInDim S8x2048x1 ![] bcast_S_S8x2048x1 main_c_1
  let main_c_2 : IVec S_ 1 := constantI S_ 1 1#1
  let main_v3 : IVec S8x3x3 1 := broadcastInDim S8x3x3 ![] bcast_S_S8x3x3 main_c_2
  let main_c_3 : IVec S_ 1 := constantI S_ 1 1#1
  let main_v4 : IVec S8x3 1 := broadcastInDim S8x3 ![] bcast_S_S8x3 main_c_3
  let main_c_4 : IVec S_ 1 := constantI S_ 1 1#1
  let main_v5 : IVec S8x3 1 := broadcastInDim S8x3 ![] bcast_S_S8x3 main_c_4
  (main_v0, main_v0, main_v1, main_v2, main_v3, main_v4, main_v5)
-- ==== Pre_finite.lean ====
abbrev S8x64x2048 : Shape := ⟨3, ![8, 64, 2048]⟩
abbrev S8x3x2048 : Shape := ⟨3, ![8, 3, 2048]⟩
abbrev S8 : Shape := ⟨1, ![8]⟩
abbrev S_ : Shape := ⟨0, ![]⟩

class Facts : Prop where
  bcast_S_S8x64x2048 : S_.BroadcastsInDim S8x64x2048 (![] : Fin 0 → Fin S8x64x2048.rank)
  reducesTo_S8x64x2048_S_d0_1_2 : S8x64x2048.ReducesTo [0, 1, 2] S_
  h_S_ : 0 < S_.numel
  bcast_S_S8x3x2048 : S_.BroadcastsInDim S8x3x2048 (![] : Fin 0 → Fin S8x3x2048.rank)
  reducesTo_S8x3x2048_S_d0_1_2 : S8x3x2048.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x64x2048 .f32) (main_arg1 : FVec F S8x64x2048 .f32) (main_arg2 : FVec F S8x3x2048 .f32) (main_arg3 : FVec F S8x3x2048 .f32) (main_arg4 : FVec F S8 .f32) (main_arg5 : IVec S_ 32) : IVec S_ 1 :=
  let main_v0 : FVec F S8x64x2048 .f32 := Host.absf main_arg0
  let main_cst : FVec F S_ .f32 := constant S_ .f32 0x7F800000#32
  let main_v1 : FVec F S8x64x2048 .f32 := broadcastInDim S8x64x2048 ![] bcast_S_S8x64x2048 main_cst
  let main_v2 : IVec S8x64x2048 1 := cmpf .olt main_v0 main_v1
  let main_c : IVec S_ 1 := constantI S_ 1 1#1
  let main_v3 : IVec S_ 1 := (fun x v => Host.reduce IntOp.andi x v reducesTo_S8x64x2048_S_d0_1_2 h_S_) main_v2 main_c
  let main_v4 : FVec F S8x64x2048 .f32 := Host.absf main_arg1
  let main_cst_0 : FVec F S_ .f32 := constant S_ .f32 0x7F800000#32
  let main_v5 : FVec F S8x64x2048 .f32 := broadcastInDim S8x64x2048 ![] bcast_S_S8x64x2048 main_cst_0
  let main_v6 : IVec S8x64x2048 1 := cmpf .olt main_v4 main_v5
  let main_c_1 : IVec S_ 1 := constantI S_ 1 1#1
  let main_v7 : IVec S_ 1 := (fun x v => Host.reduce IntOp.andi x v reducesTo_S8x64x2048_S_d0_1_2 h_S_) main_v6 main_c_1
  let main_v8 : IVec S_ 1 := andi main_v3 main_v7
  let main_v9 : FVec F S8x3x2048 .f32 := Host.absf main_arg3
  let main_cst_2 : FVec F S_ .f32 := constant S_ .f32 0x7F800000#32
  let main_v10 : FVec F S8x3x2048 .f32 := broadcastInDim S8x3x2048 ![] bcast_S_S8x3x2048 main_cst_2
  let main_v11 : IVec S8x3x2048 1 := cmpf .olt main_v9 main_v10
  let main_c_3 : IVec S_ 1 := constantI S_ 1 1#1
  let main_v12 : IVec S_ 1 := (fun x v => Host.reduce IntOp.andi x v reducesTo_S8x3x2048_S_d0_1_2 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x64x2048 : Shape := ⟨3, ![8, 64, 2048]⟩
abbrev S8x3x2048 : Shape := ⟨3, ![8, 3, 2048]⟩
abbrev S8 : Shape := ⟨1, ![8]⟩
abbrev S_ : Shape := ⟨0, ![]⟩
abbrev S8x1x2048 : Shape := ⟨3, ![8, 1, 2048]⟩
abbrev S8x4x2048 : Shape := ⟨3, ![8, 4, 2048]⟩
abbrev S8x8x2048 : Shape := ⟨3, ![8, 8, 2048]⟩
abbrev S8x16x2048 : Shape := ⟨3, ![8, 16, 2048]⟩
abbrev S8x1 : Shape := ⟨2, ![8, 1]⟩
abbrev S8x2048x1 : Shape := ⟨3, ![8, 2048, 1]⟩
abbrev S1x64x512 : Shape := ⟨3, ![1, 64, 512]⟩
abbrev S1x64x2048 : Shape := ⟨3, ![1, 64, 2048]⟩
abbrev S1x16x2048 : Shape := ⟨3, ![1, 16, 2048]⟩
abbrev S1x512x1 : Shape := ⟨3, ![1, 512, 1]⟩
abbrev S1x8x512 : Shape := ⟨3, ![1, 8, 512]⟩
abbrev S64x512 : Shape := ⟨2, ![64, 512]⟩
abbrev S64x2048 : Shape := ⟨2, ![64, 2048]⟩
abbrev S512x2048 : Shape := ⟨2, ![512, 2048]⟩
abbrev S1x1 : Shape := ⟨2, ![1, 1]⟩
abbrev S512 : Shape := ⟨1, ![512]⟩
abbrev S512x1 : Shape := ⟨2, ![512, 1]⟩
abbrev S16x2048 : Shape := ⟨2, ![16, 2048]⟩
abbrev S16x512 : Shape := ⟨2, ![16, 512]⟩
abbrev S8x512 : Shape := ⟨2, ![8, 512]⟩
abbrev S8x8x8 : Shape := ⟨3, ![8, 8, 8]⟩
abbrev S1x8x2048 : Shape := ⟨3, ![1, 8, 2048]⟩
abbrev S1x1x2048 : Shape := ⟨3, ![1, 1, 2048]⟩
abbrev S1x8x8 : Shape := ⟨3, ![1, 8, 8]⟩
abbrev S8x2048 : Shape := ⟨2, ![8, 2048]⟩
abbrev S1x2048 : Shape := ⟨2, ![1, 2048]⟩
abbrev S1 : Shape := ⟨1, ![1]⟩
abbrev S1x1x1 : Shape := ⟨3, ![1, 1, 1]⟩
abbrev S8x8 : Shape := ⟨2, ![8, 8]⟩
abbrev S8x3x3 : Shape := ⟨3, ![8, 3, 3]⟩
abbrev S8x3x1 : Shape := ⟨3, ![8, 3, 1]⟩
abbrev S8x3 : Shape := ⟨2, ![8, 3]⟩
abbrev S8x1x1 : Shape := ⟨3, ![8, 1, 1]⟩
abbrev S8x1x3 : Shape := ⟨3, ![8, 1, 3]⟩

abbrev nBuf : Space → Nat
  | .hbm => 2673
  | .vmem => 22
  | .smem => 1
  | _ => 0

abbrev hbmTy0_0 (i : Nat) : BufTy := match i % 128 with
  | 0 => ⟨S8x64x2048, .f32⟩
  | 1 => ⟨S8x64x2048, .f32⟩
  | 2 => ⟨S8x3x2048, .f32⟩
  | 3 => ⟨S8x3x2048, .f32⟩
  | 4 => ⟨S8, .f32⟩
  | 5 => ⟨S_, .i32⟩
  | 6 => ⟨S8x64x2048, .bf16⟩
  | 7 => ⟨S8x64x2048, .bf16⟩
  | 8 => ⟨S_, .f32⟩
  | 9 => ⟨S8x1x2048, .f32⟩
  | 10 => ⟨S_, .f32⟩
  | 11 => ⟨S8x4x2048, .f32⟩
  | 12 => ⟨S8x8x2048, .f32⟩
  | 13 => ⟨S8x8x2048, .f32⟩
  | 14 => ⟨S8x8x2048, .bf16⟩
  | 15 => ⟨S8x8x2048, .f32⟩
  | 16 => ⟨S8x8x2048, .f32⟩
  | 17 => ⟨S8x8x2048, .bf16⟩
  | 18 => ⟨S8x16x2048, .bf16⟩
  | 19 => ⟨S8x1, .f32⟩
  | 20 => ⟨S8x2048x1, .i32⟩
  | 21 => ⟨S8x2048x1, .f32⟩
  | 22 => ⟨S8x8x2048, .f32⟩
  | 23 => ⟨S8x1x2048, .f32⟩
  | 24 => ⟨S8x8x8, .f32⟩
  | 25 => ⟨S8x8x8, .f32⟩
  | 26 => ⟨S8x3x3, .f32⟩
  | 27 => ⟨S8x3x1, .f32⟩
  | 28 => ⟨S8x3, .f32⟩
  | 29 => ⟨S8x3x1, .f32⟩
  | 30 => ⟨S8x3, .f32⟩
  | 31 => ⟨S8x1x1, .f32⟩
  | 32 => ⟨S8, .f32⟩
  | 33 => ⟨S8x1x1, .f32⟩
  | 34 => ⟨S8, .f32⟩
  | 35 => ⟨S8x1x1, .f32⟩
  | 36 => ⟨S8, .f32⟩
  | 37 => ⟨S8x1x1, .f32⟩
  | 38 => ⟨S8, .f32⟩
  | 39 => ⟨S8x1x1, .f32⟩
  | 40 => ⟨S8, .f32⟩
  | 41 => ⟨S8x1x1, .f32⟩
  | 42 => ⟨S8, .f32⟩
  | 43 => ⟨S8x1x1, .f32⟩
  | 44 => ⟨S8, .f32⟩
  | 45 => ⟨S8x1x1, .f32⟩
  | 46 => ⟨S8, .f32⟩
  | 47 => ⟨S8x1x1, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S_, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .i1⟩
  | 71 => ⟨S8, .f32⟩
  | 72 => ⟨S8, .f32⟩
  | 73 => ⟨S_, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S_, .f32⟩
  | 89 => ⟨S8, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_1 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S_, .f32⟩
  | 10 => ⟨S8, .f32⟩
  | 11 => ⟨S8, .i1⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S_, .f32⟩
  | 30 => ⟨S8, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S_, .f32⟩
  | 79 => ⟨S8, .f32⟩
  | 80 => ⟨S8, .i1⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S_, .f32⟩
  | 99 => ⟨S8, .f32⟩
  | 100 => ⟨S8, .f32⟩
  | 101 => ⟨S8, .f32⟩
  | 102 => ⟨S_, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_2 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S_, .f32⟩
  | 20 => ⟨S8, .f32⟩
  | 21 => ⟨S8, .i1⟩
  | 22 => ⟨S8, .f32⟩
  | 23 => ⟨S8, .f32⟩
  | 24 => ⟨S_, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S_, .f32⟩
  | 89 => ⟨S8, .f32⟩
  | 90 => ⟨S8, .i1⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S_, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S_, .f32⟩
  | 109 => ⟨S8, .f32⟩
  | 110 => ⟨S8, .f32⟩
  | 111 => ⟨S8, .f32⟩
  | 112 => ⟨S_, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_3 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S_, .f32⟩
  | 30 => ⟨S8, .f32⟩
  | 31 => ⟨S8, .i1⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S_, .f32⟩
  | 99 => ⟨S8, .f32⟩
  | 100 => ⟨S8, .i1⟩
  | 101 => ⟨S8, .f32⟩
  | 102 => ⟨S8, .f32⟩
  | 103 => ⟨S_, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S_, .f32⟩
  | 119 => ⟨S8, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_4 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S_, .f32⟩
  | 40 => ⟨S8, .f32⟩
  | 41 => ⟨S8, .i1⟩
  | 42 => ⟨S8, .f32⟩
  | 43 => ⟨S8, .f32⟩
  | 44 => ⟨S_, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S_, .f32⟩
  | 109 => ⟨S8, .f32⟩
  | 110 => ⟨S8, .i1⟩
  | 111 => ⟨S8, .f32⟩
  | 112 => ⟨S8, .f32⟩
  | 113 => ⟨S_, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_5 (i : Nat) : BufTy := match i % 128 with
  | 0 => ⟨S_, .f32⟩
  | 1 => ⟨S8, .f32⟩
  | 2 => ⟨S8, .f32⟩
  | 3 => ⟨S8, .f32⟩
  | 4 => ⟨S_, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S_, .f32⟩
  | 50 => ⟨S8, .f32⟩
  | 51 => ⟨S8, .i1⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S_, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S_, .f32⟩
  | 70 => ⟨S8, .f32⟩
  | 71 => ⟨S8, .f32⟩
  | 72 => ⟨S8, .f32⟩
  | 73 => ⟨S_, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S_, .f32⟩
  | 119 => ⟨S8, .f32⟩
  | 120 => ⟨S8, .i1⟩
  | 121 => ⟨S8, .f32⟩
  | 122 => ⟨S8, .f32⟩
  | 123 => ⟨S_, .f32⟩
  | 124 => ⟨S8, .f32⟩
  | 125 => ⟨S8, .f32⟩
  | 126 => ⟨S8, .f32⟩
  | 127 => ⟨S8, .f32⟩
  | _ => ⟨S8x64x2048, .f32⟩

abbrev hbmTy0_6 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S_, .f32⟩
  | 60 => ⟨S8, .f32⟩
  | 61 => ⟨S8, .i1⟩
  | 62 => ⟨S8, .f32⟩
  | 63 => ⟨S8, .f32⟩
  | 64 => ⟨S_, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S_, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_7 (i : Nat) : BufTy := match i % 128 with
  | 0 => ⟨S_, .f32⟩
  | 1 => ⟨S8, .f32⟩
  | 2 => ⟨S8, .i1⟩
  | 3 => ⟨S8, .f32⟩
  | 4 => ⟨S8, .f32⟩
  | 5 => ⟨S_, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S_, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S_, .f32⟩
  | 70 => ⟨S8, .f32⟩
  | 71 => ⟨S8, .i1⟩
  | 72 => ⟨S8, .f32⟩
  | 73 => ⟨S8, .f32⟩
  | 74 => ⟨S_, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_8 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S_, .f32⟩
  | 11 => ⟨S8, .f32⟩
  | 12 => ⟨S8, .i1⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S_, .f32⟩
  | 31 => ⟨S8, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S_, .f32⟩
  | 80 => ⟨S8, .f32⟩
  | 81 => ⟨S8, .i1⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S_, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S_, .f32⟩
  | 100 => ⟨S8, .f32⟩
  | 101 => ⟨S8, .f32⟩
  | 102 => ⟨S8, .f32⟩
  | 103 => ⟨S_, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_9 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S_, .f32⟩
  | 21 => ⟨S8, .f32⟩
  | 22 => ⟨S8, .i1⟩
  | 23 => ⟨S8, .f32⟩
  | 24 => ⟨S8, .f32⟩
  | 25 => ⟨S_, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S_, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S8, .f32⟩
  | 44 => ⟨S_, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S_, .f32⟩
  | 90 => ⟨S8, .f32⟩
  | 91 => ⟨S8, .i1⟩
  | 92 => ⟨S8, .f32⟩
  | 93 => ⟨S8, .f32⟩
  | 94 => ⟨S_, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S_, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S_, .f32⟩
  | 110 => ⟨S8, .f32⟩
  | 111 => ⟨S8, .f32⟩
  | 112 => ⟨S8, .f32⟩
  | 113 => ⟨S_, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_10 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S_, .f32⟩
  | 31 => ⟨S8, .f32⟩
  | 32 => ⟨S8, .i1⟩
  | 33 => ⟨S8, .f32⟩
  | 34 => ⟨S8, .f32⟩
  | 35 => ⟨S_, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S_, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S_, .f32⟩
  | 100 => ⟨S8, .f32⟩
  | 101 => ⟨S8, .i1⟩
  | 102 => ⟨S8, .f32⟩
  | 103 => ⟨S8, .f32⟩
  | 104 => ⟨S_, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S_, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S_, .f32⟩
  | 120 => ⟨S8, .f32⟩
  | 121 => ⟨S8, .f32⟩
  | 122 => ⟨S8, .f32⟩
  | 123 => ⟨S_, .f32⟩
  | 124 => ⟨S8, .f32⟩
  | 125 => ⟨S8, .f32⟩
  | 126 => ⟨S8, .f32⟩
  | 127 => ⟨S8, .f32⟩
  | _ => ⟨S8x64x2048, .f32⟩

abbrev hbmTy0_11 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S_, .f32⟩
  | 41 => ⟨S8, .f32⟩
  | 42 => ⟨S8, .i1⟩
  | 43 => ⟨S8, .f32⟩
  | 44 => ⟨S8, .f32⟩
  | 45 => ⟨S_, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S_, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S_, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S_, .f32⟩
  | 110 => ⟨S8, .f32⟩
  | 111 => ⟨S8, .i1⟩
  | 112 => ⟨S8, .f32⟩
  | 113 => ⟨S8, .f32⟩
  | 114 => ⟨S_, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S_, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_12 (i : Nat) : BufTy := match i % 128 with
  | 0 => ⟨S8, .f32⟩
  | 1 => ⟨S_, .f32⟩
  | 2 => ⟨S8, .f32⟩
  | 3 => ⟨S8, .f32⟩
  | 4 => ⟨S8, .f32⟩
  | 5 => ⟨S_, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S_, .f32⟩
  | 51 => ⟨S8, .f32⟩
  | 52 => ⟨S8, .i1⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S_, .f32⟩
  | 71 => ⟨S8, .f32⟩
  | 72 => ⟨S8, .f32⟩
  | 73 => ⟨S8, .f32⟩
  | 74 => ⟨S_, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S_, .f32⟩
  | 120 => ⟨S8, .f32⟩
  | 121 => ⟨S8, .i1⟩
  | 122 => ⟨S8, .f32⟩
  | 123 => ⟨S8, .f32⟩
  | 124 => ⟨S_, .f32⟩
  | 125 => ⟨S8, .f32⟩
  | 126 => ⟨S8, .f32⟩
  | 127 => ⟨S8, .f32⟩
  | _ => ⟨S8x64x2048, .f32⟩

abbrev hbmTy0_13 (i : Nat) : BufTy := match i % 128 with
  | 0 => ⟨S8, .f32⟩
  | 1 => ⟨S8, .f32⟩
  | 2 => ⟨S8, .f32⟩
  | 3 => ⟨S_, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S_, .f32⟩
  | 61 => ⟨S8, .f32⟩
  | 62 => ⟨S8, .i1⟩
  | 63 => ⟨S8, .f32⟩
  | 64 => ⟨S8, .f32⟩
  | 65 => ⟨S_, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S_, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_14 (i : Nat) : BufTy := match i % 128 with
  | 0 => ⟨S8, .f32⟩
  | 1 => ⟨S_, .f32⟩
  | 2 => ⟨S8, .f32⟩
  | 3 => ⟨S8, .i1⟩
  | 4 => ⟨S8, .f32⟩
  | 5 => ⟨S8, .f32⟩
  | 6 => ⟨S_, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S_, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S_, .f32⟩
  | 71 => ⟨S8, .f32⟩
  | 72 => ⟨S8, .i1⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S_, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S_, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_15 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S_, .f32⟩
  | 12 => ⟨S8, .f32⟩
  | 13 => ⟨S8, .i1⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S_, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S_, .f32⟩
  | 81 => ⟨S8, .f32⟩
  | 82 => ⟨S8, .i1⟩
  | 83 => ⟨S8, .f32⟩
  | 84 => ⟨S8, .f32⟩
  | 85 => ⟨S_, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S_, .f32⟩
  | 101 => ⟨S8, .f32⟩
  | 102 => ⟨S8, .f32⟩
  | 103 => ⟨S8, .f32⟩
  | 104 => ⟨S_, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_16 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S_, .f32⟩
  | 22 => ⟨S8, .f32⟩
  | 23 => ⟨S8, .i1⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S_, .f32⟩
  | 46 => ⟨S8, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S_, .f32⟩
  | 91 => ⟨S8, .f32⟩
  | 92 => ⟨S8, .i1⟩
  | 93 => ⟨S8, .f32⟩
  | 94 => ⟨S8, .f32⟩
  | 95 => ⟨S_, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S_, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S8, .f32⟩
  | 114 => ⟨S_, .f32⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_17 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S_, .f32⟩
  | 32 => ⟨S8, .f32⟩
  | 33 => ⟨S8, .i1⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S_, .f32⟩
  | 101 => ⟨S8, .f32⟩
  | 102 => ⟨S8, .i1⟩
  | 103 => ⟨S8, .f32⟩
  | 104 => ⟨S8, .f32⟩
  | 105 => ⟨S_, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S_, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S_, .f32⟩
  | 125 => ⟨S8, .f32⟩
  | 126 => ⟨S8, .f32⟩
  | 127 => ⟨S8, .f32⟩
  | _ => ⟨S8x64x2048, .f32⟩

abbrev hbmTy0_18 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S_, .f32⟩
  | 42 => ⟨S8, .f32⟩
  | 43 => ⟨S8, .i1⟩
  | 44 => ⟨S8, .f32⟩
  | 45 => ⟨S8, .f32⟩
  | 46 => ⟨S_, .f32⟩
  | 47 => ⟨S8, .f32⟩
  | 48 => ⟨S8, .f32⟩
  | 49 => ⟨S8, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S_, .f32⟩
  | 62 => ⟨S8, .f32⟩
  | 63 => ⟨S8, .f32⟩
  | 64 => ⟨S8, .f32⟩
  | 65 => ⟨S_, .f32⟩
  | 66 => ⟨S8, .f32⟩
  | 67 => ⟨S8, .f32⟩
  | 68 => ⟨S8, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S_, .f32⟩
  | 111 => ⟨S8, .f32⟩
  | 112 => ⟨S8, .i1⟩
  | 113 => ⟨S8, .f32⟩
  | 114 => ⟨S8, .f32⟩
  | 115 => ⟨S_, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S8, .f32⟩
  | 127 => ⟨S8, .f32⟩
  | _ => ⟨S8x64x2048, .f32⟩

abbrev hbmTy0_19 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S8, .f32⟩
  | 6 => ⟨S_, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S_, .f32⟩
  | 52 => ⟨S8, .f32⟩
  | 53 => ⟨S8, .i1⟩
  | 54 => ⟨S8, .f32⟩
  | 55 => ⟨S8, .f32⟩
  | 56 => ⟨S_, .f32⟩
  | 57 => ⟨S8, .f32⟩
  | 58 => ⟨S8, .f32⟩
  | 59 => ⟨S8, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S_, .f32⟩
  | 72 => ⟨S8, .f32⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .i1⟩
  | 120 => ⟨S8, .f32⟩
  | 121 => ⟨S8, .f32⟩
  | 122 => ⟨S8, .f32⟩
  | 123 => ⟨S8, .f32⟩
  | 124 => ⟨S8, .f32⟩
  | 125 => ⟨S8, .i1⟩
  | 126 => ⟨S8, .f32⟩
  | 127 => ⟨S8, .f32⟩
  | _ => ⟨S8x64x2048, .f32⟩

abbrev hbmTy0_20 (i : Nat) : BufTy := match i % 128 with
  | 0 => ⟨S8, .f32⟩
  | 1 => ⟨S8, .f32⟩
  | 2 => ⟨S8, .f32⟩
  | 3 => ⟨S8, .i1⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S8, .f32⟩
  | 41 => ⟨S8, .f32⟩
  | 42 => ⟨S_, .f32⟩
  | 43 => ⟨S8, .f32⟩
  | 44 => ⟨S8, .f32⟩
  | 45 => ⟨S8x1, .f32⟩
  | 46 => ⟨S8x1, .f32⟩
  | 47 => ⟨S8x1, .f32⟩
  | 48 => ⟨S8x3, .f32⟩
  | 49 => ⟨S8, .f32⟩
  | 50 => ⟨S8, .f32⟩
  | 51 => ⟨S8, .f32⟩
  | 52 => ⟨S_, .f32⟩
  | 53 => ⟨S8, .f32⟩
  | 54 => ⟨S8, .f32⟩
  | 55 => ⟨S8, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8, .f32⟩
  | 65 => ⟨S8, .f32⟩
  | 66 => ⟨S8, .f32⟩
  | 67 => ⟨S_, .f32⟩
  | 68 => ⟨S8, .f32⟩
  | 69 => ⟨S8, .f32⟩
  | 70 => ⟨S8x1, .f32⟩
  | 71 => ⟨S8x1, .f32⟩
  | 72 => ⟨S8x1, .f32⟩
  | 73 => ⟨S8x3, .f32⟩
  | 74 => ⟨S8, .f32⟩
  | 75 => ⟨S8, .f32⟩
  | 76 => ⟨S8, .f32⟩
  | 77 => ⟨S_, .f32⟩
  | 78 => ⟨S8, .f32⟩
  | 79 => ⟨S8, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8x1, .f32⟩
  | 96 => ⟨S8x1, .f32⟩
  | 97 => ⟨S8x1, .f32⟩
  | 98 => ⟨S8x3, .f32⟩
  | 99 => ⟨S8x1x3, .f32⟩
  | 100 => ⟨S8x1x3, .f32⟩
  | 101 => ⟨S8x1x3, .f32⟩
  | 102 => ⟨S8x3x3, .f32⟩
  | 103 => ⟨S8x1x3, .f32⟩
  | 104 => ⟨S8x3x3, .f32⟩
  | 105 => ⟨S8x3x3, .f32⟩
  | 106 => ⟨S_, .f32⟩
  | 107 => ⟨S8x3, .f32⟩
  | 108 => ⟨S8x1x3, .f32⟩
  | 109 => ⟨S8x3x1, .f32⟩
  | 110 => ⟨S8x3x3, .f32⟩
  | 111 => ⟨S8x3x3, .f32⟩
  | 112 => ⟨S8x3x3, .f32⟩
  | _ => ⟨S8x64x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | _ => ⟨S8x64x2048, .f32⟩

abbrev bufTy : (tb : Table) → Fin (tcTables nBuf tb) → BufTy
  | .hbm, ⟨i, _⟩ => hbmTy i
  | .local _ .vmem, ⟨0, _⟩ => ⟨S1x64x512, .bf16⟩
  | .local _ .vmem, ⟨1, _⟩ => ⟨S1x64x512, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x512x1, .i32⟩
  | .local _ .vmem, ⟨7, _⟩ => ⟨S1x512x1, .i32⟩
  | .local _ .vmem, ⟨8, _⟩ => ⟨S1x512x1, .f32⟩
  | .local _ .vmem, ⟨9, _⟩ => ⟨S1x512x1, .f32⟩
  | .local _ .vmem, ⟨10, _⟩ => ⟨S1x8x512, .f32⟩
  | .local _ .vmem, ⟨11, _⟩ => ⟨S1x8x512, .f32⟩
  | .local _ .vmem, ⟨12, _⟩ => ⟨S1x8x2048, .f32⟩
  | .local _ .vmem, ⟨13, _⟩ => ⟨S1x8x2048, .f32⟩
  | .local _ .vmem, ⟨14, _⟩ => ⟨S1x8x2048, .f32⟩
  | .local _ .vmem, ⟨15, _⟩ => ⟨S1x8x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x8x8, .f32⟩
  | .local _ .vmem, ⟨19, _⟩ => ⟨S1x8x8, .f32⟩
  | .local _ .vmem, ⟨20, _⟩ => ⟨S1x8x8, .f32⟩
  | .local _ .vmem, ⟨21, _⟩ => ⟨S1x8x8, .f32⟩
  | .local _ .smem, ⟨0, _⟩ => ⟨S8x1, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_1 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_8 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_9 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_10 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_11 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_cst_13 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_cst_14 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_cst_15 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_cst_16 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_cst_17 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_cst_18 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_cst_19 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_cst_20 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_cst_21 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_cst_22 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_cst_23 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_cst_24 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_cst_25 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_cst_26 : Ref sig .tc := ⟨.hbm, 364, rfl⟩
abbrev main_v328 : Ref sig .tc := ⟨.hbm, 365, rfl⟩
abbrev main_v329 : Ref sig .tc := ⟨.hbm, 366, rfl⟩
abbrev main_v330 : Ref sig .tc := ⟨.hbm, 367, rfl⟩
abbrev main_cst_27 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_v358 : Ref sig .tc := ⟨.hbm, 396, rfl⟩
abbrev main_v359 : Ref sig .tc := ⟨.hbm, 397, rfl⟩
abbrev main_v360 : Ref sig .tc := ⟨.hbm, 398, rfl⟩
abbrev main_v361 : Ref sig .tc := ⟨.hbm, 399, rfl⟩
abbrev main_v362 : Ref sig .tc := ⟨.hbm, 400, rfl⟩
abbrev main_v363 : Ref sig .tc := ⟨.hbm, 401, rfl⟩
abbrev main_v364 : Ref sig .tc := ⟨.hbm, 402, rfl⟩
abbrev main_v365 : Ref sig .tc := ⟨.hbm, 403, rfl⟩
abbrev main_v366 : Ref sig .tc := ⟨.hbm, 404, rfl⟩
abbrev main_v367 : Ref sig .tc := ⟨.hbm, 405, rfl⟩
abbrev main_v368 : Ref sig .tc := ⟨.hbm, 406, rfl⟩
abbrev main_v369 : Ref sig .tc := ⟨.hbm, 407, rfl⟩
abbrev main_v370 : Ref sig .tc := ⟨.hbm, 408, rfl⟩
abbrev main_v371 : Ref sig .tc := ⟨.hbm, 409, rfl⟩
abbrev main_v372 : Ref sig .tc := ⟨.hbm, 410, rfl⟩
abbrev main_v373 : Ref sig .tc := ⟨.hbm, 411, rfl⟩
abbrev main_v374 : Ref sig .tc := ⟨.hbm, 412, rfl⟩
abbrev main_cst_28 : Ref sig .tc := ⟨.hbm, 413, rfl⟩
abbrev main_v375 : Ref sig .tc := ⟨.hbm, 414, rfl⟩
abbrev main_v376 : Ref sig .tc := ⟨.hbm, 415, rfl⟩
abbrev main_v377 : Ref sig .tc := ⟨.hbm, 416, rfl⟩
abbrev main_v378 : Ref sig .tc := ⟨.hbm, 417, rfl⟩
abbrev main_cst_29 : Ref sig .tc := ⟨.hbm, 418, rfl⟩
abbrev main_v379 : Ref sig .tc := ⟨.hbm, 419, rfl⟩
abbrev main_v380 : Ref sig .tc := ⟨.hbm, 420, rfl⟩
abbrev main_v381 : Ref sig .tc := ⟨.hbm, 421, rfl⟩
abbrev main_v382 : Ref sig .tc := ⟨.hbm, 422, rfl⟩
abbrev main_v383 : Ref sig .tc := ⟨.hbm, 423, rfl⟩
abbrev main_v384 : Ref sig .tc := ⟨.hbm, 424, rfl⟩
abbrev main_cst_30 : Ref sig .tc := ⟨.hbm, 425, rfl⟩
abbrev main_v385 : Ref sig .tc := ⟨.hbm, 426, rfl⟩
abbrev main_v386 : Ref sig .tc := ⟨.hbm, 427, rfl⟩
abbrev main_v387 : Ref sig .tc := ⟨.hbm, 428, rfl⟩
abbrev main_v388 : Ref sig .tc := ⟨.hbm, 429, rfl⟩
abbrev main_v389 : Ref sig .tc := ⟨.hbm, 430, rfl⟩
abbrev main_v390 : Ref sig .tc := ⟨.hbm, 431, rfl⟩
abbrev main_v391 : Ref sig .tc := ⟨.hbm, 432, rfl⟩
abbrev main_cst_31 : Ref sig .tc := ⟨.hbm, 433, rfl⟩
abbrev main_v392 : Ref sig .tc := ⟨.hbm, 434, rfl⟩
abbrev main_v393 : Ref sig .tc := ⟨.hbm, 435, rfl⟩
abbrev main_v394 : Ref sig .tc := ⟨.hbm, 436, rfl⟩
abbrev main_cst_32 : Ref sig .tc := ⟨.hbm, 437, rfl⟩
abbrev main_v395 : Ref sig .tc := ⟨.hbm, 438, rfl⟩
abbrev main_v396 : Ref sig .tc := ⟨.hbm, 439, rfl⟩
abbrev main_v397 : Ref sig .tc := ⟨.hbm, 440, rfl⟩
abbrev main_v398 : Ref sig .tc := ⟨.hbm, 441, rfl⟩
abbrev main_v399 : Ref sig .tc := ⟨.hbm, 442, rfl⟩
abbrev main_v400 : Ref sig .tc := ⟨.hbm, 443, rfl⟩
abbrev main_v401 : Ref sig .tc := ⟨.hbm, 444, rfl⟩
abbrev main_v402 : Ref sig .tc := ⟨.hbm, 445, rfl⟩
abbrev main_v403 : Ref sig .tc := ⟨.hbm, 446, rfl⟩
abbrev main_v404 : Ref sig .tc := ⟨.hbm, 447, rfl⟩
abbrev main_v405 : Ref sig .tc := ⟨.hbm, 448, rfl⟩
abbrev main_v406 : Ref sig .tc := ⟨.hbm, 449, rfl⟩
abbrev main_v407 : Ref sig .tc := ⟨.hbm, 450, rfl⟩
abbrev main_v408 : Ref sig .tc := ⟨.hbm, 451, rfl⟩
abbrev main_v409 : Ref sig .tc := ⟨.hbm, 452, rfl⟩
abbrev main_v410 : Ref sig .tc := ⟨.hbm, 453, rfl⟩
abbrev main_v411 : Ref sig .tc := ⟨.hbm, 454, rfl⟩
abbrev main_v412 : Ref sig .tc := ⟨.hbm, 455, rfl⟩
abbrev main_v413 : Ref sig .tc := ⟨.hbm, 456, rfl⟩
abbrev main_v414 : Ref sig .tc := ⟨.hbm, 457, rfl⟩
abbrev main_v415 : Ref sig .tc := ⟨.hbm, 458, rfl⟩
abbrev main_v416 : Ref sig .tc := ⟨.hbm, 459, rfl⟩
abbrev main_v417 : Ref sig .tc := ⟨.hbm, 460, rfl⟩
abbrev main_v418 : Ref sig .tc := ⟨.hbm, 461, rfl⟩
abbrev main_v419 : Ref sig .tc := ⟨.hbm, 462, rfl⟩
abbrev main_v420 : Ref sig .tc := ⟨.hbm, 463, rfl⟩
abbrev main_v421 : Ref sig .tc := ⟨.hbm, 464, rfl⟩
abbrev main_v422 : Ref sig .tc := ⟨.hbm, 465, rfl⟩
abbrev main_v423 : Ref sig .tc := ⟨.hbm, 466, rfl⟩
abbrev main_v424 : Ref sig .tc := ⟨.hbm, 467, rfl⟩
abbrev main_v425 : Ref sig .tc := ⟨.hbm, 468, rfl⟩
abbrev main_v426 : Ref sig .tc := ⟨.hbm, 469, rfl⟩
abbrev main_v427 : Ref sig .tc := ⟨.hbm, 470, rfl⟩
abbrev main_v428 : Ref sig .tc := ⟨.hbm, 471, rfl⟩
abbrev main_v429 : Ref sig .tc := ⟨.hbm, 472, rfl⟩
abbrev main_v430 : Ref sig .tc := ⟨.hbm, 473, rfl⟩
abbrev main_v431 : Ref sig .tc := ⟨.hbm, 474, rfl⟩
abbrev main_v432 : Ref sig .tc := ⟨.hbm, 475, rfl⟩
abbrev main_v433 : Ref sig .tc := ⟨.hbm, 476, rfl⟩
abbrev main_v434 : Ref sig .tc := ⟨.hbm, 477, rfl⟩
abbrev main_v435 : Ref sig .tc := ⟨.hbm, 478, rfl⟩
abbrev main_v436 : Ref sig .tc := ⟨.hbm, 479, rfl⟩
abbrev main_v437 : Ref sig .tc := ⟨.hbm, 480, rfl⟩
abbrev main_v438 : Ref sig .tc := ⟨.hbm, 481, rfl⟩
abbrev main_cst_33 : Ref sig .tc := ⟨.hbm, 482, rfl⟩
abbrev main_v439 : Ref sig .tc := ⟨.hbm, 483, rfl⟩
abbrev main_v440 : Ref sig .tc := ⟨.hbm, 484, rfl⟩
abbrev main_v441 : Ref sig .tc := ⟨.hbm, 485, rfl⟩
abbrev main_v442 : Ref sig .tc := ⟨.hbm, 486, rfl⟩
abbrev main_cst_34 : Ref sig .tc := ⟨.hbm, 487, rfl⟩
abbrev main_v443 : Ref sig .tc := ⟨.hbm, 488, rfl⟩
abbrev main_v444 : Ref sig .tc := ⟨.hbm, 489, rfl⟩
abbrev main_v445 : Ref sig .tc := ⟨.hbm, 490, rfl⟩
abbrev main_v446 : Ref sig .tc := ⟨.hbm, 491, rfl⟩
abbrev main_v447 : Ref sig .tc := ⟨.hbm, 492, rfl⟩
abbrev main_v448 : Ref sig .tc := ⟨.hbm, 493, rfl⟩
abbrev main_cst_35 : Ref sig .tc := ⟨.hbm, 494, rfl⟩
abbrev main_v449 : Ref sig .tc := ⟨.hbm, 495, rfl⟩
abbrev main_v450 : Ref sig .tc := ⟨.hbm, 496, rfl⟩
abbrev main_v451 : Ref sig .tc := ⟨.hbm, 497, rfl⟩
abbrev main_v452 : Ref sig .tc := ⟨.hbm, 498, rfl⟩
abbrev main_v453 : Ref sig .tc := ⟨.hbm, 499, rfl⟩
abbrev main_v454 : Ref sig .tc := ⟨.hbm, 500, rfl⟩
abbrev main_v455 : Ref sig .tc := ⟨.hbm, 501, rfl⟩
abbrev main_cst_36 : Ref sig .tc := ⟨.hbm, 502, rfl⟩
abbrev main_v456 : Ref sig .tc := ⟨.hbm, 503, rfl⟩
abbrev main_v457 : Ref sig .tc := ⟨.hbm, 504, rfl⟩
abbrev main_v458 : Ref sig .tc := ⟨.hbm, 505, rfl⟩
abbrev main_cst_37 : Ref sig .tc := ⟨.hbm, 506, rfl⟩
abbrev main_v459 : Ref sig .tc := ⟨.hbm, 507, rfl⟩
abbrev main_v460 : Ref sig .tc := ⟨.hbm, 508, rfl⟩
abbrev main_v461 : Ref sig .tc := ⟨.hbm, 509, rfl⟩
abbrev main_v462 : Ref sig .tc := ⟨.hbm, 510, rfl⟩
abbrev main_v463 : Ref sig .tc := ⟨.hbm, 511, rfl⟩
abbrev main_v464 : Ref sig .tc := ⟨.hbm, 512, rfl⟩
abbrev main_v465 : Ref sig .tc := ⟨.hbm, 513, rfl⟩
abbrev main_v466 : Ref sig .tc := ⟨.hbm, 514, rfl⟩
abbrev main_v467 : Ref sig .tc := ⟨.hbm, 515, rfl⟩
abbrev main_v468 : Ref sig .tc := ⟨.hbm, 516, rfl⟩
abbrev main_v469 : Ref sig .tc := ⟨.hbm, 517, rfl⟩
abbrev main_v470 : Ref sig .tc := ⟨.hbm, 518, rfl⟩
abbrev main_v471 : Ref sig .tc := ⟨.hbm, 519, rfl⟩
abbrev main_v472 : Ref sig .tc := ⟨.hbm, 520, rfl⟩
abbrev main_v473 : Ref sig .tc := ⟨.hbm, 521, rfl⟩
abbrev main_v474 : Ref sig .tc := ⟨.hbm, 522, rfl⟩
abbrev main_v475 : Ref sig .tc := ⟨.hbm, 523, rfl⟩
abbrev main_v476 : Ref sig .tc := ⟨.hbm, 524, rfl⟩
abbrev main_v477 : Ref sig .tc := ⟨.hbm, 525, rfl⟩
abbrev main_v478 : Ref sig .tc := ⟨.hbm, 526, rfl⟩
abbrev main_v479 : Ref sig .tc := ⟨.hbm, 527, rfl⟩
abbrev main_v480 : Ref sig .tc := ⟨.hbm, 528, rfl⟩
abbrev main_v481 : Ref sig .tc := ⟨.hbm, 529, rfl⟩
abbrev main_v482 : Ref sig .tc := ⟨.hbm, 530, rfl⟩
abbrev main_v483 : Ref sig .tc := ⟨.hbm, 531, rfl⟩
abbrev main_v484 : Ref sig .tc := ⟨.hbm, 532, rfl⟩
abbrev main_v485 : Ref sig .tc := ⟨.hbm, 533, rfl⟩
abbrev main_v486 : Ref sig .tc := ⟨.hbm, 534, rfl⟩
abbrev main_v487 : Ref sig .tc := ⟨.hbm, 535, rfl⟩
abbrev main_v488 : Ref sig .tc := ⟨.hbm, 536, rfl⟩
abbrev main_v489 : Ref sig .tc := ⟨.hbm, 537, rfl⟩
abbrev main_v490 : Ref sig .tc := ⟨.hbm, 538, rfl⟩
abbrev main_v491 : Ref sig .tc := ⟨.hbm, 539, rfl⟩
abbrev main_v492 : Ref sig .tc := ⟨.hbm, 540, rfl⟩
abbrev main_v493 : Ref sig .tc := ⟨.hbm, 541, rfl⟩
abbrev main_v494 : Ref sig .tc := ⟨.hbm, 542, rfl⟩
abbrev main_v495 : Ref sig .tc := ⟨.hbm, 543, rfl⟩
abbrev main_v496 : Ref sig .tc := ⟨.hbm, 544, rfl⟩
abbrev main_v497 : Ref sig .tc := ⟨.hbm, 545, rfl⟩
abbrev main_v498 : Ref sig .tc := ⟨.hbm, 546, rfl⟩
abbrev main_v499 : Ref sig .tc := ⟨.hbm, 547, rfl⟩
abbrev main_v500 : Ref sig .tc := ⟨.hbm, 548, rfl⟩
abbrev main_v501 : Ref sig .tc := ⟨.hbm, 549, rfl⟩
abbrev main_v502 : Ref sig .tc := ⟨.hbm, 550, rfl⟩
abbrev main_cst_38 : Ref sig .tc := ⟨.hbm, 551, rfl⟩
abbrev main_v503 : Ref sig .tc := ⟨.hbm, 552, rfl⟩
abbrev main_v504 : Ref sig .tc := ⟨.hbm, 553, rfl⟩
abbrev main_v505 : Ref sig .tc := ⟨.hbm, 554, rfl⟩
abbrev main_v506 : Ref sig .tc := ⟨.hbm, 555, rfl⟩
abbrev main_cst_39 : Ref sig .tc := ⟨.hbm, 556, rfl⟩
abbrev main_v507 : Ref sig .tc := ⟨.hbm, 557, rfl⟩
abbrev main_v508 : Ref sig .tc := ⟨.hbm, 558, rfl⟩
abbrev main_v509 : Ref sig .tc := ⟨.hbm, 559, rfl⟩
abbrev main_v510 : Ref sig .tc := ⟨.hbm, 560, rfl⟩
abbrev main_v511 : Ref sig .tc := ⟨.hbm, 561, rfl⟩
abbrev main_v512 : Ref sig .tc := ⟨.hbm, 562, rfl⟩
abbrev main_cst_40 : Ref sig .tc := ⟨.hbm, 563, rfl⟩
abbrev main_v513 : Ref sig .tc := ⟨.hbm, 564, rfl⟩
abbrev main_v514 : Ref sig .tc := ⟨.hbm, 565, rfl⟩
abbrev main_v515 : Ref sig .tc := ⟨.hbm, 566, rfl⟩
abbrev main_v516 : Ref sig .tc := ⟨.hbm, 567, rfl⟩
abbrev main_v517 : Ref sig .tc := ⟨.hbm, 568, rfl⟩
abbrev main_v518 : Ref sig .tc := ⟨.hbm, 569, rfl⟩
abbrev main_v519 : Ref sig .tc := ⟨.hbm, 570, rfl⟩
abbrev main_cst_41 : Ref sig .tc := ⟨.hbm, 571, rfl⟩
abbrev main_v520 : Ref sig .tc := ⟨.hbm, 572, rfl⟩
abbrev main_v521 : Ref sig .tc := ⟨.hbm, 573, rfl⟩
abbrev main_v522 : Ref sig .tc := ⟨.hbm, 574, rfl⟩
abbrev main_cst_42 : Ref sig .tc := ⟨.hbm, 575, rfl⟩
abbrev main_v523 : Ref sig .tc := ⟨.hbm, 576, rfl⟩
abbrev main_v524 : Ref sig .tc := ⟨.hbm, 577, rfl⟩
abbrev main_v525 : Ref sig .tc := ⟨.hbm, 578, rfl⟩
abbrev main_v526 : Ref sig .tc := ⟨.hbm, 579, rfl⟩
abbrev main_v527 : Ref sig .tc := ⟨.hbm, 580, rfl⟩
abbrev main_v528 : Ref sig .tc := ⟨.hbm, 581, rfl⟩
abbrev main_v529 : Ref sig .tc := ⟨.hbm, 582, rfl⟩
abbrev main_v530 : Ref sig .tc := ⟨.hbm, 583, rfl⟩
abbrev main_v531 : Ref sig .tc := ⟨.hbm, 584, rfl⟩
abbrev main_v532 : Ref sig .tc := ⟨.hbm, 585, rfl⟩
abbrev main_v533 : Ref sig .tc := ⟨.hbm, 586, rfl⟩
abbrev main_v534 : Ref sig .tc := ⟨.hbm, 587, rfl⟩
abbrev main_v535 : Ref sig .tc := ⟨.hbm, 588, rfl⟩
abbrev main_v536 : Ref sig .tc := ⟨.hbm, 589, rfl⟩
abbrev main_v537 : Ref sig .tc := ⟨.hbm, 590, rfl⟩
abbrev main_v538 : Ref sig .tc := ⟨.hbm, 591, rfl⟩
abbrev main_v539 : Ref sig .tc := ⟨.hbm, 592, rfl⟩
abbrev main_v540 : Ref sig .tc := ⟨.hbm, 593, rfl⟩
abbrev main_v541 : Ref sig .tc := ⟨.hbm, 594, rfl⟩
abbrev main_v542 : Ref sig .tc := ⟨.hbm, 595, rfl⟩
abbrev main_v543 : Ref sig .tc := ⟨.hbm, 596, rfl⟩
abbrev main_v544 : Ref sig .tc := ⟨.hbm, 597, rfl⟩
abbrev main_v545 : Ref sig .tc := ⟨.hbm, 598, rfl⟩
abbrev main_v546 : Ref sig .tc := ⟨.hbm, 599, rfl⟩
abbrev main_v547 : Ref sig .tc := ⟨.hbm, 600, rfl⟩
abbrev main_v548 : Ref sig .tc := ⟨.hbm, 601, rfl⟩
abbrev main_v549 : Ref sig .tc := ⟨.hbm, 602, rfl⟩
abbrev main_v550 : Ref sig .tc := ⟨.hbm, 603, rfl⟩
abbrev main_v551 : Ref sig .tc := ⟨.hbm, 604, rfl⟩
abbrev main_v552 : Ref sig .tc := ⟨.hbm, 605, rfl⟩
abbrev main_v553 : Ref sig .tc := ⟨.hbm, 606, rfl⟩
abbrev main_v554 : Ref sig .tc := ⟨.hbm, 607, rfl⟩
abbrev main_v555 : Ref sig .tc := ⟨.hbm, 608, rfl⟩
abbrev main_v556 : Ref sig .tc := ⟨.hbm, 609, rfl⟩
abbrev main_v557 : Ref sig .tc := ⟨.hbm, 610, rfl⟩
abbrev main_v558 : Ref sig .tc := ⟨.hbm, 611, rfl⟩
abbrev main_v559 : Ref sig .tc := ⟨.hbm, 612, rfl⟩
abbrev main_v560 : Ref sig .tc := ⟨.hbm, 613, rfl⟩
abbrev main_v561 : Ref sig .tc := ⟨.hbm, 614, rfl⟩
abbrev main_v562 : Ref sig .tc := ⟨.hbm, 615, rfl⟩
abbrev main_v563 : Ref sig .tc := ⟨.hbm, 616, rfl⟩
abbrev main_v564 : Ref sig .tc := ⟨.hbm, 617, rfl⟩
abbrev main_v565 : Ref sig .tc := ⟨.hbm, 618, rfl⟩
abbrev main_v566 : Ref sig .tc := ⟨.hbm, 619, rfl⟩
abbrev main_cst_43 : Ref sig .tc := ⟨.hbm, 620, rfl⟩
abbrev main_v567 : Ref sig .tc := ⟨.hbm, 621, rfl⟩
abbrev main_v568 : Ref sig .tc := ⟨.hbm, 622, rfl⟩
abbrev main_v569 : Ref sig .tc := ⟨.hbm, 623, rfl⟩
abbrev main_v570 : Ref sig .tc := ⟨.hbm, 624, rfl⟩
abbrev main_cst_44 : Ref sig .tc := ⟨.hbm, 625, rfl⟩
abbrev main_v571 : Ref sig .tc := ⟨.hbm, 626, rfl⟩
abbrev main_v572 : Ref sig .tc := ⟨.hbm, 627, rfl⟩
abbrev main_v573 : Ref sig .tc := ⟨.hbm, 628, rfl⟩
abbrev main_v574 : Ref sig .tc := ⟨.hbm, 629, rfl⟩
abbrev main_v575 : Ref sig .tc := ⟨.hbm, 630, rfl⟩
abbrev main_v576 : Ref sig .tc := ⟨.hbm, 631, rfl⟩
abbrev main_cst_45 : Ref sig .tc := ⟨.hbm, 632, rfl⟩
abbrev main_v577 : Ref sig .tc := ⟨.hbm, 633, rfl⟩
abbrev main_v578 : Ref sig .tc := ⟨.hbm, 634, rfl⟩
abbrev main_v579 : Ref sig .tc := ⟨.hbm, 635, rfl⟩
abbrev main_v580 : Ref sig .tc := ⟨.hbm, 636, rfl⟩
abbrev main_v581 : Ref sig .tc := ⟨.hbm, 637, rfl⟩
abbrev main_v582 : Ref sig .tc := ⟨.hbm, 638, rfl⟩
abbrev main_v583 : Ref sig .tc := ⟨.hbm, 639, rfl⟩
abbrev main_cst_46 : Ref sig .tc := ⟨.hbm, 640, rfl⟩
abbrev main_v584 : Ref sig .tc := ⟨.hbm, 641, rfl⟩
abbrev main_v585 : Ref sig .tc := ⟨.hbm, 642, rfl⟩
abbrev main_v586 : Ref sig .tc := ⟨.hbm, 643, rfl⟩
abbrev main_cst_47 : Ref sig .tc := ⟨.hbm, 644, rfl⟩
abbrev main_v587 : Ref sig .tc := ⟨.hbm, 645, rfl⟩
abbrev main_v588 : Ref sig .tc := ⟨.hbm, 646, rfl⟩
abbrev main_v589 : Ref sig .tc := ⟨.hbm, 647, rfl⟩
abbrev main_v590 : Ref sig .tc := ⟨.hbm, 648, rfl⟩
abbrev main_v591 : Ref sig .tc := ⟨.hbm, 649, rfl⟩
abbrev main_v592 : Ref sig .tc := ⟨.hbm, 650, rfl⟩
abbrev main_v593 : Ref sig .tc := ⟨.hbm, 651, rfl⟩
abbrev main_v594 : Ref sig .tc := ⟨.hbm, 652, rfl⟩
abbrev main_v595 : Ref sig .tc := ⟨.hbm, 653, rfl⟩
abbrev main_v596 : Ref sig .tc := ⟨.hbm, 654, rfl⟩
abbrev main_v597 : Ref sig .tc := ⟨.hbm, 655, rfl⟩
abbrev main_v598 : Ref sig .tc := ⟨.hbm, 656, rfl⟩
abbrev main_v599 : Ref sig .tc := ⟨.hbm, 657, rfl⟩
abbrev main_v600 : Ref sig .tc := ⟨.hbm, 658, rfl⟩
abbrev main_v601 : Ref sig .tc := ⟨.hbm, 659, rfl⟩
abbrev main_v602 : Ref sig .tc := ⟨.hbm, 660, rfl⟩
abbrev main_v603 : Ref sig .tc := ⟨.hbm, 661, rfl⟩
abbrev main_v604 : Ref sig .tc := ⟨.hbm, 662, rfl⟩
abbrev main_v605 : Ref sig .tc := ⟨.hbm, 663, rfl⟩
abbrev main_v606 : Ref sig .tc := ⟨.hbm, 664, rfl⟩
abbrev main_v607 : Ref sig .tc := ⟨.hbm, 665, rfl⟩
abbrev main_v608 : Ref sig .tc := ⟨.hbm, 666, rfl⟩
abbrev main_v609 : Ref sig .tc := ⟨.hbm, 667, rfl⟩
abbrev main_v610 : Ref sig .tc := ⟨.hbm, 668, rfl⟩
abbrev main_v611 : Ref sig .tc := ⟨.hbm, 669, rfl⟩
abbrev main_v612 : Ref sig .tc := ⟨.hbm, 670, rfl⟩
abbrev main_v613 : Ref sig .tc := ⟨.hbm, 671, rfl⟩
abbrev main_v614 : Ref sig .tc := ⟨.hbm, 672, rfl⟩
abbrev main_v615 : Ref sig .tc := ⟨.hbm, 673, rfl⟩
abbrev main_v616 : Ref sig .tc := ⟨.hbm, 674, rfl⟩
abbrev main_v617 : Ref sig .tc := ⟨.hbm, 675, rfl⟩
abbrev main_v618 : Ref sig .tc := ⟨.hbm, 676, rfl⟩
abbrev main_v619 : Ref sig .tc := ⟨.hbm, 677, rfl⟩
abbrev main_v620 : Ref sig .tc := ⟨.hbm, 678, rfl⟩
abbrev main_v621 : Ref sig .tc := ⟨.hbm, 679, rfl⟩
abbrev main_v622 : Ref sig .tc := ⟨.hbm, 680, rfl⟩
abbrev main_v623 : Ref sig .tc := ⟨.hbm, 681, rfl⟩
abbrev main_v624 : Ref sig .tc := ⟨.hbm, 682, rfl⟩
abbrev main_v625 : Ref sig .tc := ⟨.hbm, 683, rfl⟩
abbrev main_v626 : Ref sig .tc := ⟨.hbm, 684, rfl⟩
abbrev main_v627 : Ref sig .tc := ⟨.hbm, 685, rfl⟩
abbrev main_v628 : Ref sig .tc := ⟨.hbm, 686, rfl⟩
abbrev main_v629 : Ref sig .tc := ⟨.hbm, 687, rfl⟩
abbrev main_v630 : Ref sig .tc := ⟨.hbm, 688, rfl⟩
abbrev main_cst_48 : Ref sig .tc := ⟨.hbm, 689, rfl⟩
abbrev main_v631 : Ref sig .tc := ⟨.hbm, 690, rfl⟩
abbrev main_v632 : Ref sig .tc := ⟨.hbm, 691, rfl⟩
abbrev main_v633 : Ref sig .tc := ⟨.hbm, 692, rfl⟩
abbrev main_v634 : Ref sig .tc := ⟨.hbm, 693, rfl⟩
abbrev main_cst_49 : Ref sig .tc := ⟨.hbm, 694, rfl⟩
abbrev main_v635 : Ref sig .tc := ⟨.hbm, 695, rfl⟩
abbrev main_v636 : Ref sig .tc := ⟨.hbm, 696, rfl⟩
abbrev main_v637 : Ref sig .tc := ⟨.hbm, 697, rfl⟩
abbrev main_v638 : Ref sig .tc := ⟨.hbm, 698, rfl⟩
abbrev main_v639 : Ref sig .tc := ⟨.hbm, 699, rfl⟩
abbrev main_v640 : Ref sig .tc := ⟨.hbm, 700, rfl⟩
abbrev main_cst_50 : Ref sig .tc := ⟨.hbm, 701, rfl⟩
abbrev main_v641 : Ref sig .tc := ⟨.hbm, 702, rfl⟩
abbrev main_v642 : Ref sig .tc := ⟨.hbm, 703, rfl⟩
abbrev main_v643 : Ref sig .tc := ⟨.hbm, 704, rfl⟩
abbrev main_v644 : Ref sig .tc := ⟨.hbm, 705, rfl⟩
abbrev main_v645 : Ref sig .tc := ⟨.hbm, 706, rfl⟩
abbrev main_v646 : Ref sig .tc := ⟨.hbm, 707, rfl⟩
abbrev main_v647 : Ref sig .tc := ⟨.hbm, 708, rfl⟩
abbrev main_cst_51 : Ref sig .tc := ⟨.hbm, 709, rfl⟩
abbrev main_v648 : Ref sig .tc := ⟨.hbm, 710, rfl⟩
abbrev main_v649 : Ref sig .tc := ⟨.hbm, 711, rfl⟩
abbrev main_v650 : Ref sig .tc := ⟨.hbm, 712, rfl⟩
abbrev main_cst_52 : Ref sig .tc := ⟨.hbm, 713, rfl⟩
abbrev main_v651 : Ref sig .tc := ⟨.hbm, 714, rfl⟩
abbrev main_v652 : Ref sig .tc := ⟨.hbm, 715, rfl⟩
abbrev main_v653 : Ref sig .tc := ⟨.hbm, 716, rfl⟩
abbrev main_v654 : Ref sig .tc := ⟨.hbm, 717, rfl⟩
abbrev main_v655 : Ref sig .tc := ⟨.hbm, 718, rfl⟩
abbrev main_v656 : Ref sig .tc := ⟨.hbm, 719, rfl⟩
abbrev main_v657 : Ref sig .tc := ⟨.hbm, 720, rfl⟩
abbrev main_v658 : Ref sig .tc := ⟨.hbm, 721, rfl⟩
abbrev main_v659 : Ref sig .tc := ⟨.hbm, 722, rfl⟩
abbrev main_v660 : Ref sig .tc := ⟨.hbm, 723, rfl⟩
abbrev main_v661 : Ref sig .tc := ⟨.hbm, 724, rfl⟩
abbrev main_v662 : Ref sig .tc := ⟨.hbm, 725, rfl⟩
abbrev main_v663 : Ref sig .tc := ⟨.hbm, 726, rfl⟩
abbrev main_v664 : Ref sig .tc := ⟨.hbm, 727, rfl⟩
abbrev main_v665 : Ref sig .tc := ⟨.hbm, 728, rfl⟩
abbrev main_v666 : Ref sig .tc := ⟨.hbm, 729, rfl⟩
abbrev main_v667 : Ref sig .tc := ⟨.hbm, 730, rfl⟩
abbrev main_v668 : Ref sig .tc := ⟨.hbm, 731, rfl⟩
abbrev main_v669 : Ref sig .tc := ⟨.hbm, 732, rfl⟩
abbrev main_v670 : Ref sig .tc := ⟨.hbm, 733, rfl⟩
abbrev main_v671 : Ref sig .tc := ⟨.hbm, 734, rfl⟩
abbrev main_v672 : Ref sig .tc := ⟨.hbm, 735, rfl⟩
abbrev main_v673 : Ref sig .tc := ⟨.hbm, 736, rfl⟩
abbrev main_v674 : Ref sig .tc := ⟨.hbm, 737, rfl⟩
abbrev main_v675 : Ref sig .tc := ⟨.hbm, 738, rfl⟩
abbrev main_v676 : Ref sig .tc := ⟨.hbm, 739, rfl⟩
abbrev main_v677 : Ref sig .tc := ⟨.hbm, 740, rfl⟩
abbrev main_v678 : Ref sig .tc := ⟨.hbm, 741, rfl⟩
abbrev main_v679 : Ref sig .tc := ⟨.hbm, 742, rfl⟩
abbrev main_v680 : Ref sig .tc := ⟨.hbm, 743, rfl⟩
abbrev main_v681 : Ref sig .tc := ⟨.hbm, 744, rfl⟩
abbrev main_v682 : Ref sig .tc := ⟨.hbm, 745, rfl⟩
abbrev main_v683 : Ref sig .tc := ⟨.hbm, 746, rfl⟩
abbrev main_v684 : Ref sig .tc := ⟨.hbm, 747, rfl⟩
abbrev main_v685 : Ref sig .tc := ⟨.hbm, 748, rfl⟩
abbrev main_v686 : Ref sig .tc := ⟨.hbm, 749, rfl⟩
abbrev main_v687 : Ref sig .tc := ⟨.hbm, 750, rfl⟩
abbrev main_v688 : Ref sig .tc := ⟨.hbm, 751, rfl⟩
abbrev main_v689 : Ref sig .tc := ⟨.hbm, 752, rfl⟩
abbrev main_v690 : Ref sig .tc := ⟨.hbm, 753, rfl⟩
abbrev main_v691 : Ref sig .tc := ⟨.hbm, 754, rfl⟩
abbrev main_v692 : Ref sig .tc := ⟨.hbm, 755, rfl⟩
abbrev main_v693 : Ref sig .tc := ⟨.hbm, 756, rfl⟩
abbrev main_v694 : Ref sig .tc := ⟨.hbm, 757, rfl⟩
abbrev main_cst_53 : Ref sig .tc := ⟨.hbm, 758, rfl⟩
abbrev main_v695 : Ref sig .tc := ⟨.hbm, 759, rfl⟩
abbrev main_v696 : Ref sig .tc := ⟨.hbm, 760, rfl⟩
abbrev main_v697 : Ref sig .tc := ⟨.hbm, 761, rfl⟩
abbrev main_v698 : Ref sig .tc := ⟨.hbm, 762, rfl⟩
abbrev main_cst_54 : Ref sig .tc := ⟨.hbm, 763, rfl⟩
abbrev main_v699 : Ref sig .tc := ⟨.hbm, 764, rfl⟩
abbrev main_v700 : Ref sig .tc := ⟨.hbm, 765, rfl⟩
abbrev main_v701 : Ref sig .tc := ⟨.hbm, 766, rfl⟩
abbrev main_v702 : Ref sig .tc := ⟨.hbm, 767, rfl⟩
abbrev main_v703 : Ref sig .tc := ⟨.hbm, 768, rfl⟩
abbrev main_v704 : Ref sig .tc := ⟨.hbm, 769, rfl⟩
abbrev main_cst_55 : Ref sig .tc := ⟨.hbm, 770, rfl⟩
abbrev main_v705 : Ref sig .tc := ⟨.hbm, 771, rfl⟩
abbrev main_v706 : Ref sig .tc := ⟨.hbm, 772, rfl⟩
abbrev main_v707 : Ref sig .tc := ⟨.hbm, 773, rfl⟩
abbrev main_v708 : Ref sig .tc := ⟨.hbm, 774, rfl⟩
abbrev main_v709 : Ref sig .tc := ⟨.hbm, 775, rfl⟩
abbrev main_v710 : Ref sig .tc := ⟨.hbm, 776, rfl⟩
abbrev main_v711 : Ref sig .tc := ⟨.hbm, 777, rfl⟩
abbrev main_cst_56 : Ref sig .tc := ⟨.hbm, 778, rfl⟩
abbrev main_v712 : Ref sig .tc := ⟨.hbm, 779, rfl⟩
abbrev main_v713 : Ref sig .tc := ⟨.hbm, 780, rfl⟩
abbrev main_v714 : Ref sig .tc := ⟨.hbm, 781, rfl⟩
abbrev main_cst_57 : Ref sig .tc := ⟨.hbm, 782, rfl⟩
abbrev main_v715 : Ref sig .tc := ⟨.hbm, 783, rfl⟩
abbrev main_v716 : Ref sig .tc := ⟨.hbm, 784, rfl⟩
abbrev main_v717 : Ref sig .tc := ⟨.hbm, 785, rfl⟩
abbrev main_v718 : Ref sig .tc := ⟨.hbm, 786, rfl⟩
abbrev main_v719 : Ref sig .tc := ⟨.hbm, 787, rfl⟩
abbrev main_v720 : Ref sig .tc := ⟨.hbm, 788, rfl⟩
abbrev main_v721 : Ref sig .tc := ⟨.hbm, 789, rfl⟩
abbrev main_v722 : Ref sig .tc := ⟨.hbm, 790, rfl⟩
abbrev main_v723 : Ref sig .tc := ⟨.hbm, 791, rfl⟩
abbrev main_v724 : Ref sig .tc := ⟨.hbm, 792, rfl⟩
abbrev main_v725 : Ref sig .tc := ⟨.hbm, 793, rfl⟩
abbrev main_v726 : Ref sig .tc := ⟨.hbm, 794, rfl⟩
abbrev main_v727 : Ref sig .tc := ⟨.hbm, 795, rfl⟩
abbrev main_v728 : Ref sig .tc := ⟨.hbm, 796, rfl⟩
abbrev main_v729 : Ref sig .tc := ⟨.hbm, 797, rfl⟩
abbrev main_v730 : Ref sig .tc := ⟨.hbm, 798, rfl⟩
abbrev main_v731 : Ref sig .tc := ⟨.hbm, 799, rfl⟩
abbrev main_v732 : Ref sig .tc := ⟨.hbm, 800, rfl⟩
abbrev main_v733 : Ref sig .tc := ⟨.hbm, 801, rfl⟩
abbrev main_v734 : Ref sig .tc := ⟨.hbm, 802, rfl⟩
abbrev main_v735 : Ref sig .tc := ⟨.hbm, 803, rfl⟩
abbrev main_v736 : Ref sig .tc := ⟨.hbm, 804, rfl⟩
abbrev main_v737 : Ref sig .tc := ⟨.hbm, 805, rfl⟩
abbrev main_v738 : Ref sig .tc := ⟨.hbm, 806, rfl⟩
abbrev main_v739 : Ref sig .tc := ⟨.hbm, 807, rfl⟩
abbrev main_v740 : Ref sig .tc := ⟨.hbm, 808, rfl⟩
abbrev main_v741 : Ref sig .tc := ⟨.hbm, 809, rfl⟩
abbrev main_v742 : Ref sig .tc := ⟨.hbm, 810, rfl⟩
abbrev main_v743 : Ref sig .tc := ⟨.hbm, 811, rfl⟩
abbrev main_v744 : Ref sig .tc := ⟨.hbm, 812, rfl⟩
abbrev main_v745 : Ref sig .tc := ⟨.hbm, 813, rfl⟩
abbrev main_v746 : Ref sig .tc := ⟨.hbm, 814, rfl⟩
abbrev main_v747 : Ref sig .tc := ⟨.hbm, 815, rfl⟩
abbrev main_v748 : Ref sig .tc := ⟨.hbm, 816, rfl⟩
abbrev main_v749 : Ref sig .tc := ⟨.hbm, 817, rfl⟩
abbrev main_v750 : Ref sig .tc := ⟨.hbm, 818, rfl⟩
abbrev main_v751 : Ref sig .tc := ⟨.hbm, 819, rfl⟩
abbrev main_v752 : Ref sig .tc := ⟨.hbm, 820, rfl⟩
abbrev main_v753 : Ref sig .tc := ⟨.hbm, 821, rfl⟩
abbrev main_v754 : Ref sig .tc := ⟨.hbm, 822, rfl⟩
abbrev main_v755 : Ref sig .tc := ⟨.hbm, 823, rfl⟩
abbrev main_v756 : Ref sig .tc := ⟨.hbm, 824, rfl⟩
abbrev main_v757 : Ref sig .tc := ⟨.hbm, 825, rfl⟩
abbrev main_v758 : Ref sig .tc := ⟨.hbm, 826, rfl⟩
abbrev main_cst_58 : Ref sig .tc := ⟨.hbm, 827, rfl⟩
abbrev main_v759 : Ref sig .tc := ⟨.hbm, 828, rfl⟩
abbrev main_v760 : Ref sig .tc := ⟨.hbm, 829, rfl⟩
abbrev main_v761 : Ref sig .tc := ⟨.hbm, 830, rfl⟩
abbrev main_v762 : Ref sig .tc := ⟨.hbm, 831, rfl⟩
abbrev main_cst_59 : Ref sig .tc := ⟨.hbm, 832, rfl⟩
abbrev main_v763 : Ref sig .tc := ⟨.hbm, 833, rfl⟩
abbrev main_v764 : Ref sig .tc := ⟨.hbm, 834, rfl⟩
abbrev main_v765 : Ref sig .tc := ⟨.hbm, 835, rfl⟩
abbrev main_v766 : Ref sig .tc := ⟨.hbm, 836, rfl⟩
abbrev main_v767 : Ref sig .tc := ⟨.hbm, 837, rfl⟩
abbrev main_v768 : Ref sig .tc := ⟨.hbm, 838, rfl⟩
abbrev main_cst_60 : Ref sig .tc := ⟨.hbm, 839, rfl⟩
abbrev main_v769 : Ref sig .tc := ⟨.hbm, 840, rfl⟩
abbrev main_v770 : Ref sig .tc := ⟨.hbm, 841, rfl⟩
abbrev main_v771 : Ref sig .tc := ⟨.hbm, 842, rfl⟩
abbrev main_v772 : Ref sig .tc := ⟨.hbm, 843, rfl⟩
abbrev main_v773 : Ref sig .tc := ⟨.hbm, 844, rfl⟩
abbrev main_v774 : Ref sig .tc := ⟨.hbm, 845, rfl⟩
abbrev main_v775 : Ref sig .tc := ⟨.hbm, 846, rfl⟩
abbrev main_cst_61 : Ref sig .tc := ⟨.hbm, 847, rfl⟩
abbrev main_v776 : Ref sig .tc := ⟨.hbm, 848, rfl⟩
abbrev main_v777 : Ref sig .tc := ⟨.hbm, 849, rfl⟩
abbrev main_v778 : Ref sig .tc := ⟨.hbm, 850, rfl⟩
abbrev main_cst_62 : Ref sig .tc := ⟨.hbm, 851, rfl⟩
abbrev main_v779 : Ref sig .tc := ⟨.hbm, 852, rfl⟩
abbrev main_v780 : Ref sig .tc := ⟨.hbm, 853, rfl⟩
abbrev main_v781 : Ref sig .tc := ⟨.hbm, 854, rfl⟩
abbrev main_v782 : Ref sig .tc := ⟨.hbm, 855, rfl⟩
abbrev main_v783 : Ref sig .tc := ⟨.hbm, 856, rfl⟩
abbrev main_v784 : Ref sig .tc := ⟨.hbm, 857, rfl⟩
abbrev main_v785 : Ref sig .tc := ⟨.hbm, 858, rfl⟩
abbrev main_v786 : Ref sig .tc := ⟨.hbm, 859, rfl⟩
abbrev main_v787 : Ref sig .tc := ⟨.hbm, 860, rfl⟩
abbrev main_v788 : Ref sig .tc := ⟨.hbm, 861, rfl⟩
abbrev main_v789 : Ref sig .tc := ⟨.hbm, 862, rfl⟩
abbrev main_v790 : Ref sig .tc := ⟨.hbm, 863, rfl⟩
abbrev main_v791 : Ref sig .tc := ⟨.hbm, 864, rfl⟩
abbrev main_v792 : Ref sig .tc := ⟨.hbm, 865, rfl⟩
abbrev main_v793 : Ref sig .tc := ⟨.hbm, 866, rfl⟩
abbrev main_v794 : Ref sig .tc := ⟨.hbm, 867, rfl⟩
abbrev main_v795 : Ref sig .tc := ⟨.hbm, 868, rfl⟩
abbrev main_v796 : Ref sig .tc := ⟨.hbm, 869, rfl⟩
abbrev main_v797 : Ref sig .tc := ⟨.hbm, 870, rfl⟩
abbrev main_v798 : Ref sig .tc := ⟨.hbm, 871, rfl⟩
abbrev main_v799 : Ref sig .tc := ⟨.hbm, 872, rfl⟩
abbrev main_v800 : Ref sig .tc := ⟨.hbm, 873, rfl⟩
abbrev main_v801 : Ref sig .tc := ⟨.hbm, 874, rfl⟩
abbrev main_v802 : Ref sig .tc := ⟨.hbm, 875, rfl⟩
abbrev main_v803 : Ref sig .tc := ⟨.hbm, 876, rfl⟩
abbrev main_v804 : Ref sig .tc := ⟨.hbm, 877, rfl⟩
abbrev main_v805 : Ref sig .tc := ⟨.hbm, 878, rfl⟩
abbrev main_v806 : Ref sig .tc := ⟨.hbm, 879, rfl⟩
abbrev main_v807 : Ref sig .tc := ⟨.hbm, 880, rfl⟩
abbrev main_v808 : Ref sig .tc := ⟨.hbm, 881, rfl⟩
abbrev main_v809 : Ref sig .tc := ⟨.hbm, 882, rfl⟩
abbrev main_v810 : Ref sig .tc := ⟨.hbm, 883, rfl⟩
abbrev main_v811 : Ref sig .tc := ⟨.hbm, 884, rfl⟩
abbrev main_v812 : Ref sig .tc := ⟨.hbm, 885, rfl⟩
abbrev main_v813 : Ref sig .tc := ⟨.hbm, 886, rfl⟩
abbrev main_v814 : Ref sig .tc := ⟨.hbm, 887, rfl⟩
abbrev main_v815 : Ref sig .tc := ⟨.hbm, 888, rfl⟩
abbrev main_v816 : Ref sig .tc := ⟨.hbm, 889, rfl⟩
abbrev main_v817 : Ref sig .tc := ⟨.hbm, 890, rfl⟩
abbrev main_v818 : Ref sig .tc := ⟨.hbm, 891, rfl⟩
abbrev main_v819 : Ref sig .tc := ⟨.hbm, 892, rfl⟩
abbrev main_v820 : Ref sig .tc := ⟨.hbm, 893, rfl⟩
abbrev main_v821 : Ref sig .tc := ⟨.hbm, 894, rfl⟩
abbrev main_v822 : Ref sig .tc := ⟨.hbm, 895, rfl⟩
abbrev main_cst_63 : Ref sig .tc := ⟨.hbm, 896, rfl⟩
abbrev main_v823 : Ref sig .tc := ⟨.hbm, 897, rfl⟩
abbrev main_v824 : Ref sig .tc := ⟨.hbm, 898, rfl⟩
abbrev main_v825 : Ref sig .tc := ⟨.hbm, 899, rfl⟩
abbrev main_v826 : Ref sig .tc := ⟨.hbm, 900, rfl⟩
abbrev main_cst_64 : Ref sig .tc := ⟨.hbm, 901, rfl⟩
abbrev main_v827 : Ref sig .tc := ⟨.hbm, 902, rfl⟩
abbrev main_v828 : Ref sig .tc := ⟨.hbm, 903, rfl⟩
abbrev main_v829 : Ref sig .tc := ⟨.hbm, 904, rfl⟩
abbrev main_v830 : Ref sig .tc := ⟨.hbm, 905, rfl⟩
abbrev main_v831 : Ref sig .tc := ⟨.hbm, 906, rfl⟩
abbrev main_v832 : Ref sig .tc := ⟨.hbm, 907, rfl⟩
abbrev main_cst_65 : Ref sig .tc := ⟨.hbm, 908, rfl⟩
abbrev main_v833 : Ref sig .tc := ⟨.hbm, 909, rfl⟩
abbrev main_v834 : Ref sig .tc := ⟨.hbm, 910, rfl⟩
abbrev main_v835 : Ref sig .tc := ⟨.hbm, 911, rfl⟩
abbrev main_v836 : Ref sig .tc := ⟨.hbm, 912, rfl⟩
abbrev main_v837 : Ref sig .tc := ⟨.hbm, 913, rfl⟩
abbrev main_v838 : Ref sig .tc := ⟨.hbm, 914, rfl⟩
abbrev main_v839 : Ref sig .tc := ⟨.hbm, 915, rfl⟩
abbrev main_cst_66 : Ref sig .tc := ⟨.hbm, 916, rfl⟩
abbrev main_v840 : Ref sig .tc := ⟨.hbm, 917, rfl⟩
abbrev main_v841 : Ref sig .tc := ⟨.hbm, 918, rfl⟩
abbrev main_v842 : Ref sig .tc := ⟨.hbm, 919, rfl⟩
abbrev main_cst_67 : Ref sig .tc := ⟨.hbm, 920, rfl⟩
abbrev main_v843 : Ref sig .tc := ⟨.hbm, 921, rfl⟩
abbrev main_v844 : Ref sig .tc := ⟨.hbm, 922, rfl⟩
abbrev main_v845 : Ref sig .tc := ⟨.hbm, 923, rfl⟩
abbrev main_v846 : Ref sig .tc := ⟨.hbm, 924, rfl⟩
abbrev main_v847 : Ref sig .tc := ⟨.hbm, 925, rfl⟩
abbrev main_v848 : Ref sig .tc := ⟨.hbm, 926, rfl⟩
abbrev main_v849 : Ref sig .tc := ⟨.hbm, 927, rfl⟩
abbrev main_v850 : Ref sig .tc := ⟨.hbm, 928, rfl⟩
abbrev main_v851 : Ref sig .tc := ⟨.hbm, 929, rfl⟩
abbrev main_v852 : Ref sig .tc := ⟨.hbm, 930, rfl⟩
abbrev main_v853 : Ref sig .tc := ⟨.hbm, 931, rfl⟩
abbrev main_v854 : Ref sig .tc := ⟨.hbm, 932, rfl⟩
abbrev main_v855 : Ref sig .tc := ⟨.hbm, 933, rfl⟩
abbrev main_v856 : Ref sig .tc := ⟨.hbm, 934, rfl⟩
abbrev main_v857 : Ref sig .tc := ⟨.hbm, 935, rfl⟩
abbrev main_v858 : Ref sig .tc := ⟨.hbm, 936, rfl⟩
abbrev main_v859 : Ref sig .tc := ⟨.hbm, 937, rfl⟩
abbrev main_v860 : Ref sig .tc := ⟨.hbm, 938, rfl⟩
abbrev main_v861 : Ref sig .tc := ⟨.hbm, 939, rfl⟩
abbrev main_v862 : Ref sig .tc := ⟨.hbm, 940, rfl⟩
abbrev main_v863 : Ref sig .tc := ⟨.hbm, 941, rfl⟩
abbrev main_v864 : Ref sig .tc := ⟨.hbm, 942, rfl⟩
abbrev main_v865 : Ref sig .tc := ⟨.hbm, 943, rfl⟩
abbrev main_v866 : Ref sig .tc := ⟨.hbm, 944, rfl⟩
abbrev main_v867 : Ref sig .tc := ⟨.hbm, 945, rfl⟩
abbrev main_v868 : Ref sig .tc := ⟨.hbm, 946, rfl⟩
abbrev main_v869 : Ref sig .tc := ⟨.hbm, 947, rfl⟩
abbrev main_v870 : Ref sig .tc := ⟨.hbm, 948, rfl⟩
abbrev main_v871 : Ref sig .tc := ⟨.hbm, 949, rfl⟩
abbrev main_v872 : Ref sig .tc := ⟨.hbm, 950, rfl⟩
abbrev main_v873 : Ref sig .tc := ⟨.hbm, 951, rfl⟩
abbrev main_v874 : Ref sig .tc := ⟨.hbm, 952, rfl⟩
abbrev main_v875 : Ref sig .tc := ⟨.hbm, 953, rfl⟩
abbrev main_v876 : Ref sig .tc := ⟨.hbm, 954, rfl⟩
abbrev main_v877 : Ref sig .tc := ⟨.hbm, 955, rfl⟩
abbrev main_v878 : Ref sig .tc := ⟨.hbm, 956, rfl⟩
abbrev main_v879 : Ref sig .tc := ⟨.hbm, 957, rfl⟩
abbrev main_v880 : Ref sig .tc := ⟨.hbm, 958, rfl⟩
abbrev main_v881 : Ref sig .tc := ⟨.hbm, 959, rfl⟩
abbrev main_v882 : Ref sig .tc := ⟨.hbm, 960, rfl⟩
abbrev main_v883 : Ref sig .tc := ⟨.hbm, 961, rfl⟩
abbrev main_v884 : Ref sig .tc := ⟨.hbm, 962, rfl⟩
abbrev main_v885 : Ref sig .tc := ⟨.hbm, 963, rfl⟩
abbrev main_v886 : Ref sig .tc := ⟨.hbm, 964, rfl⟩
abbrev main_cst_68 : Ref sig .tc := ⟨.hbm, 965, rfl⟩
abbrev main_v887 : Ref sig .tc := ⟨.hbm, 966, rfl⟩
abbrev main_v888 : Ref sig .tc := ⟨.hbm, 967, rfl⟩
abbrev main_v889 : Ref sig .tc := ⟨.hbm, 968, rfl⟩
abbrev main_v890 : Ref sig .tc := ⟨.hbm, 969, rfl⟩
abbrev main_cst_69 : Ref sig .tc := ⟨.hbm, 970, rfl⟩
abbrev main_v891 : Ref sig .tc := ⟨.hbm, 971, rfl⟩
abbrev main_v892 : Ref sig .tc := ⟨.hbm, 972, rfl⟩
abbrev main_v893 : Ref sig .tc := ⟨.hbm, 973, rfl⟩
abbrev main_v894 : Ref sig .tc := ⟨.hbm, 974, rfl⟩
abbrev main_v895 : Ref sig .tc := ⟨.hbm, 975, rfl⟩
abbrev main_v896 : Ref sig .tc := ⟨.hbm, 976, rfl⟩
abbrev main_cst_70 : Ref sig .tc := ⟨.hbm, 977, rfl⟩
abbrev main_v897 : Ref sig .tc := ⟨.hbm, 978, rfl⟩
abbrev main_v898 : Ref sig .tc := ⟨.hbm, 979, rfl⟩
abbrev main_v899 : Ref sig .tc := ⟨.hbm, 980, rfl⟩
abbrev main_v900 : Ref sig .tc := ⟨.hbm, 981, rfl⟩
abbrev main_v901 : Ref sig .tc := ⟨.hbm, 982, rfl⟩
abbrev main_v902 : Ref sig .tc := ⟨.hbm, 983, rfl⟩
abbrev main_v903 : Ref sig .tc := ⟨.hbm, 984, rfl⟩
abbrev main_cst_71 : Ref sig .tc := ⟨.hbm, 985, rfl⟩
abbrev main_v904 : Ref sig .tc := ⟨.hbm, 986, rfl⟩
abbrev main_v905 : Ref sig .tc := ⟨.hbm, 987, rfl⟩
abbrev main_v906 : Ref sig .tc := ⟨.hbm, 988, rfl⟩
abbrev main_cst_72 : Ref sig .tc := ⟨.hbm, 989, rfl⟩
abbrev main_v907 : Ref sig .tc := ⟨.hbm, 990, rfl⟩
abbrev main_v908 : Ref sig .tc := ⟨.hbm, 991, rfl⟩
abbrev main_v909 : Ref sig .tc := ⟨.hbm, 992, rfl⟩
abbrev main_v910 : Ref sig .tc := ⟨.hbm, 993, rfl⟩
abbrev main_v911 : Ref sig .tc := ⟨.hbm, 994, rfl⟩
abbrev main_v912 : Ref sig .tc := ⟨.hbm, 995, rfl⟩
abbrev main_v913 : Ref sig .tc := ⟨.hbm, 996, rfl⟩
abbrev main_v914 : Ref sig .tc := ⟨.hbm, 997, rfl⟩
abbrev main_v915 : Ref sig .tc := ⟨.hbm, 998, rfl⟩
abbrev main_v916 : Ref sig .tc := ⟨.hbm, 999, rfl⟩
abbrev main_v917 : Ref sig .tc := ⟨.hbm, 1000, rfl⟩
abbrev main_v918 : Ref sig .tc := ⟨.hbm, 1001, rfl⟩
abbrev main_v919 : Ref sig .tc := ⟨.hbm, 1002, rfl⟩
abbrev main_v920 : Ref sig .tc := ⟨.hbm, 1003, rfl⟩
abbrev main_v921 : Ref sig .tc := ⟨.hbm, 1004, rfl⟩
abbrev main_v922 : Ref sig .tc := ⟨.hbm, 1005, rfl⟩
abbrev main_v923 : Ref sig .tc := ⟨.hbm, 1006, rfl⟩
abbrev main_v924 : Ref sig .tc := ⟨.hbm, 1007, rfl⟩
abbrev main_v925 : Ref sig .tc := ⟨.hbm, 1008, rfl⟩
abbrev main_v926 : Ref sig .tc := ⟨.hbm, 1009, rfl⟩
abbrev main_v927 : Ref sig .tc := ⟨.hbm, 1010, rfl⟩
abbrev main_v928 : Ref sig .tc := ⟨.hbm, 1011, rfl⟩
abbrev main_v929 : Ref sig .tc := ⟨.hbm, 1012, rfl⟩
abbrev main_v930 : Ref sig .tc := ⟨.hbm, 1013, rfl⟩
abbrev main_v931 : Ref sig .tc := ⟨.hbm, 1014, rfl⟩
abbrev main_v932 : Ref sig .tc := ⟨.hbm, 1015, rfl⟩
abbrev main_v933 : Ref sig .tc := ⟨.hbm, 1016, rfl⟩
abbrev main_v934 : Ref sig .tc := ⟨.hbm, 1017, rfl⟩
abbrev main_v935 : Ref sig .tc := ⟨.hbm, 1018, rfl⟩
abbrev main_v936 : Ref sig .tc := ⟨.hbm, 1019, rfl⟩
abbrev main_v937 : Ref sig .tc := ⟨.hbm, 1020, rfl⟩
abbrev main_v938 : Ref sig .tc := ⟨.hbm, 1021, rfl⟩
abbrev main_v939 : Ref sig .tc := ⟨.hbm, 1022, rfl⟩
abbrev main_v940 : Ref sig .tc := ⟨.hbm, 1023, rfl⟩
abbrev main_v941 : Ref sig .tc := ⟨.hbm, 1024, rfl⟩
abbrev main_v942 : Ref sig .tc := ⟨.hbm, 1025, rfl⟩
abbrev main_v943 : Ref sig .tc := ⟨.hbm, 1026, rfl⟩
abbrev main_v944 : Ref sig .tc := ⟨.hbm, 1027, rfl⟩
abbrev main_v945 : Ref sig .tc := ⟨.hbm, 1028, rfl⟩
abbrev main_v946 : Ref sig .tc := ⟨.hbm, 1029, rfl⟩
abbrev main_v947 : Ref sig .tc := ⟨.hbm, 1030, rfl⟩
abbrev main_v948 : Ref sig .tc := ⟨.hbm, 1031, rfl⟩
abbrev main_v949 : Ref sig .tc := ⟨.hbm, 1032, rfl⟩
abbrev main_v950 : Ref sig .tc := ⟨.hbm, 1033, rfl⟩
abbrev main_cst_73 : Ref sig .tc := ⟨.hbm, 1034, rfl⟩
abbrev main_v951 : Ref sig .tc := ⟨.hbm, 1035, rfl⟩
abbrev main_v952 : Ref sig .tc := ⟨.hbm, 1036, rfl⟩
abbrev main_v953 : Ref sig .tc := ⟨.hbm, 1037, rfl⟩
abbrev main_v954 : Ref sig .tc := ⟨.hbm, 1038, rfl⟩
abbrev main_cst_74 : Ref sig .tc := ⟨.hbm, 1039, rfl⟩
abbrev main_v955 : Ref sig .tc := ⟨.hbm, 1040, rfl⟩
abbrev main_v956 : Ref sig .tc := ⟨.hbm, 1041, rfl⟩
abbrev main_v957 : Ref sig .tc := ⟨.hbm, 1042, rfl⟩
abbrev main_v958 : Ref sig .tc := ⟨.hbm, 1043, rfl⟩
abbrev main_v959 : Ref sig .tc := ⟨.hbm, 1044, rfl⟩
abbrev main_v960 : Ref sig .tc := ⟨.hbm, 1045, rfl⟩
abbrev main_cst_75 : Ref sig .tc := ⟨.hbm, 1046, rfl⟩
abbrev main_v961 : Ref sig .tc := ⟨.hbm, 1047, rfl⟩
abbrev main_v962 : Ref sig .tc := ⟨.hbm, 1048, rfl⟩
abbrev main_v963 : Ref sig .tc := ⟨.hbm, 1049, rfl⟩
abbrev main_v964 : Ref sig .tc := ⟨.hbm, 1050, rfl⟩
abbrev main_v965 : Ref sig .tc := ⟨.hbm, 1051, rfl⟩
abbrev main_v966 : Ref sig .tc := ⟨.hbm, 1052, rfl⟩
abbrev main_v967 : Ref sig .tc := ⟨.hbm, 1053, rfl⟩
abbrev main_cst_76 : Ref sig .tc := ⟨.hbm, 1054, rfl⟩
abbrev main_v968 : Ref sig .tc := ⟨.hbm, 1055, rfl⟩
abbrev main_v969 : Ref sig .tc := ⟨.hbm, 1056, rfl⟩
abbrev main_v970 : Ref sig .tc := ⟨.hbm, 1057, rfl⟩
abbrev main_cst_77 : Ref sig .tc := ⟨.hbm, 1058, rfl⟩
abbrev main_v971 : Ref sig .tc := ⟨.hbm, 1059, rfl⟩
abbrev main_v972 : Ref sig .tc := ⟨.hbm, 1060, rfl⟩
abbrev main_v973 : Ref sig .tc := ⟨.hbm, 1061, rfl⟩
abbrev main_v974 : Ref sig .tc := ⟨.hbm, 1062, rfl⟩
abbrev main_v975 : Ref sig .tc := ⟨.hbm, 1063, rfl⟩
abbrev main_v976 : Ref sig .tc := ⟨.hbm, 1064, rfl⟩
abbrev main_v977 : Ref sig .tc := ⟨.hbm, 1065, rfl⟩
abbrev main_v978 : Ref sig .tc := ⟨.hbm, 1066, rfl⟩
abbrev main_v979 : Ref sig .tc := ⟨.hbm, 1067, rfl⟩
abbrev main_v980 : Ref sig .tc := ⟨.hbm, 1068, rfl⟩
abbrev main_v981 : Ref sig .tc := ⟨.hbm, 1069, rfl⟩
abbrev main_v982 : Ref sig .tc := ⟨.hbm, 1070, rfl⟩
abbrev main_v983 : Ref sig .tc := ⟨.hbm, 1071, rfl⟩
abbrev main_v984 : Ref sig .tc := ⟨.hbm, 1072, rfl⟩
abbrev main_v985 : Ref sig .tc := ⟨.hbm, 1073, rfl⟩
abbrev main_v986 : Ref sig .tc := ⟨.hbm, 1074, rfl⟩
abbrev main_v987 : Ref sig .tc := ⟨.hbm, 1075, rfl⟩
abbrev main_v988 : Ref sig .tc := ⟨.hbm, 1076, rfl⟩
abbrev main_v989 : Ref sig .tc := ⟨.hbm, 1077, rfl⟩
abbrev main_v990 : Ref sig .tc := ⟨.hbm, 1078, rfl⟩
abbrev main_v991 : Ref sig .tc := ⟨.hbm, 1079, rfl⟩
abbrev main_v992 : Ref sig .tc := ⟨.hbm, 1080, rfl⟩
abbrev main_v993 : Ref sig .tc := ⟨.hbm, 1081, rfl⟩
abbrev main_v994 : Ref sig .tc := ⟨.hbm, 1082, rfl⟩
abbrev main_v995 : Ref sig .tc := ⟨.hbm, 1083, rfl⟩
abbrev main_v996 : Ref sig .tc := ⟨.hbm, 1084, rfl⟩
abbrev main_v997 : Ref sig .tc := ⟨.hbm, 1085, rfl⟩
abbrev main_v998 : Ref sig .tc := ⟨.hbm, 1086, rfl⟩
abbrev main_v999 : Ref sig .tc := ⟨.hbm, 1087, rfl⟩
abbrev main_v1000 : Ref sig .tc := ⟨.hbm, 1088, rfl⟩
abbrev main_v1001 : Ref sig .tc := ⟨.hbm, 1089, rfl⟩
abbrev main_v1002 : Ref sig .tc := ⟨.hbm, 1090, rfl⟩
abbrev main_v1003 : Ref sig .tc := ⟨.hbm, 1091, rfl⟩
abbrev main_v1004 : Ref sig .tc := ⟨.hbm, 1092, rfl⟩
abbrev main_v1005 : Ref sig .tc := ⟨.hbm, 1093, rfl⟩
abbrev main_v1006 : Ref sig .tc := ⟨.hbm, 1094, rfl⟩
abbrev main_v1007 : Ref sig .tc := ⟨.hbm, 1095, rfl⟩
abbrev main_v1008 : Ref sig .tc := ⟨.hbm, 1096, rfl⟩
abbrev main_v1009 : Ref sig .tc := ⟨.hbm, 1097, rfl⟩
abbrev main_v1010 : Ref sig .tc := ⟨.hbm, 1098, rfl⟩
abbrev main_v1011 : Ref sig .tc := ⟨.hbm, 1099, rfl⟩
abbrev main_v1012 : Ref sig .tc := ⟨.hbm, 1100, rfl⟩
abbrev main_v1013 : Ref sig .tc := ⟨.hbm, 1101, rfl⟩
abbrev main_v1014 : Ref sig .tc := ⟨.hbm, 1102, rfl⟩
abbrev main_cst_78 : Ref sig .tc := ⟨.hbm, 1103, rfl⟩
abbrev main_v1015 : Ref sig .tc := ⟨.hbm, 1104, rfl⟩
abbrev main_v1016 : Ref sig .tc := ⟨.hbm, 1105, rfl⟩
abbrev main_v1017 : Ref sig .tc := ⟨.hbm, 1106, rfl⟩
abbrev main_v1018 : Ref sig .tc := ⟨.hbm, 1107, rfl⟩
abbrev main_cst_79 : Ref sig .tc := ⟨.hbm, 1108, rfl⟩
abbrev main_v1019 : Ref sig .tc := ⟨.hbm, 1109, rfl⟩
abbrev main_v1020 : Ref sig .tc := ⟨.hbm, 1110, rfl⟩
abbrev main_v1021 : Ref sig .tc := ⟨.hbm, 1111, rfl⟩
abbrev main_v1022 : Ref sig .tc := ⟨.hbm, 1112, rfl⟩
abbrev main_v1023 : Ref sig .tc := ⟨.hbm, 1113, rfl⟩
abbrev main_v1024 : Ref sig .tc := ⟨.hbm, 1114, rfl⟩
abbrev main_cst_80 : Ref sig .tc := ⟨.hbm, 1115, rfl⟩
abbrev main_v1025 : Ref sig .tc := ⟨.hbm, 1116, rfl⟩
abbrev main_v1026 : Ref sig .tc := ⟨.hbm, 1117, rfl⟩
abbrev main_v1027 : Ref sig .tc := ⟨.hbm, 1118, rfl⟩
abbrev main_v1028 : Ref sig .tc := ⟨.hbm, 1119, rfl⟩
abbrev main_v1029 : Ref sig .tc := ⟨.hbm, 1120, rfl⟩
abbrev main_v1030 : Ref sig .tc := ⟨.hbm, 1121, rfl⟩
abbrev main_v1031 : Ref sig .tc := ⟨.hbm, 1122, rfl⟩
abbrev main_cst_81 : Ref sig .tc := ⟨.hbm, 1123, rfl⟩
abbrev main_v1032 : Ref sig .tc := ⟨.hbm, 1124, rfl⟩
abbrev main_v1033 : Ref sig .tc := ⟨.hbm, 1125, rfl⟩
abbrev main_v1034 : Ref sig .tc := ⟨.hbm, 1126, rfl⟩
abbrev main_cst_82 : Ref sig .tc := ⟨.hbm, 1127, rfl⟩
abbrev main_v1035 : Ref sig .tc := ⟨.hbm, 1128, rfl⟩
abbrev main_v1036 : Ref sig .tc := ⟨.hbm, 1129, rfl⟩
abbrev main_v1037 : Ref sig .tc := ⟨.hbm, 1130, rfl⟩
abbrev main_v1038 : Ref sig .tc := ⟨.hbm, 1131, rfl⟩
abbrev main_v1039 : Ref sig .tc := ⟨.hbm, 1132, rfl⟩
abbrev main_v1040 : Ref sig .tc := ⟨.hbm, 1133, rfl⟩
abbrev main_v1041 : Ref sig .tc := ⟨.hbm, 1134, rfl⟩
abbrev main_v1042 : Ref sig .tc := ⟨.hbm, 1135, rfl⟩
abbrev main_v1043 : Ref sig .tc := ⟨.hbm, 1136, rfl⟩
abbrev main_v1044 : Ref sig .tc := ⟨.hbm, 1137, rfl⟩
abbrev main_v1045 : Ref sig .tc := ⟨.hbm, 1138, rfl⟩
abbrev main_v1046 : Ref sig .tc := ⟨.hbm, 1139, rfl⟩
abbrev main_v1047 : Ref sig .tc := ⟨.hbm, 1140, rfl⟩
abbrev main_v1048 : Ref sig .tc := ⟨.hbm, 1141, rfl⟩
abbrev main_v1049 : Ref sig .tc := ⟨.hbm, 1142, rfl⟩
abbrev main_v1050 : Ref sig .tc := ⟨.hbm, 1143, rfl⟩
abbrev main_v1051 : Ref sig .tc := ⟨.hbm, 1144, rfl⟩
abbrev main_v1052 : Ref sig .tc := ⟨.hbm, 1145, rfl⟩
abbrev main_v1053 : Ref sig .tc := ⟨.hbm, 1146, rfl⟩
abbrev main_v1054 : Ref sig .tc := ⟨.hbm, 1147, rfl⟩
abbrev main_v1055 : Ref sig .tc := ⟨.hbm, 1148, rfl⟩
abbrev main_v1056 : Ref sig .tc := ⟨.hbm, 1149, rfl⟩
abbrev main_v1057 : Ref sig .tc := ⟨.hbm, 1150, rfl⟩
abbrev main_v1058 : Ref sig .tc := ⟨.hbm, 1151, rfl⟩
abbrev main_v1059 : Ref sig .tc := ⟨.hbm, 1152, rfl⟩
abbrev main_v1060 : Ref sig .tc := ⟨.hbm, 1153, rfl⟩
abbrev main_v1061 : Ref sig .tc := ⟨.hbm, 1154, rfl⟩
abbrev main_v1062 : Ref sig .tc := ⟨.hbm, 1155, rfl⟩
abbrev main_v1063 : Ref sig .tc := ⟨.hbm, 1156, rfl⟩
abbrev main_v1064 : Ref sig .tc := ⟨.hbm, 1157, rfl⟩
abbrev main_v1065 : Ref sig .tc := ⟨.hbm, 1158, rfl⟩
abbrev main_v1066 : Ref sig .tc := ⟨.hbm, 1159, rfl⟩
abbrev main_v1067 : Ref sig .tc := ⟨.hbm, 1160, rfl⟩
abbrev main_v1068 : Ref sig .tc := ⟨.hbm, 1161, rfl⟩
abbrev main_v1069 : Ref sig .tc := ⟨.hbm, 1162, rfl⟩
abbrev main_v1070 : Ref sig .tc := ⟨.hbm, 1163, rfl⟩
abbrev main_v1071 : Ref sig .tc := ⟨.hbm, 1164, rfl⟩
abbrev main_v1072 : Ref sig .tc := ⟨.hbm, 1165, rfl⟩
abbrev main_v1073 : Ref sig .tc := ⟨.hbm, 1166, rfl⟩
abbrev main_v1074 : Ref sig .tc := ⟨.hbm, 1167, rfl⟩
abbrev main_v1075 : Ref sig .tc := ⟨.hbm, 1168, rfl⟩
abbrev main_v1076 : Ref sig .tc := ⟨.hbm, 1169, rfl⟩
abbrev main_v1077 : Ref sig .tc := ⟨.hbm, 1170, rfl⟩
abbrev main_v1078 : Ref sig .tc := ⟨.hbm, 1171, rfl⟩
abbrev main_cst_83 : Ref sig .tc := ⟨.hbm, 1172, rfl⟩
abbrev main_v1079 : Ref sig .tc := ⟨.hbm, 1173, rfl⟩
abbrev main_v1080 : Ref sig .tc := ⟨.hbm, 1174, rfl⟩
abbrev main_v1081 : Ref sig .tc := ⟨.hbm, 1175, rfl⟩
abbrev main_v1082 : Ref sig .tc := ⟨.hbm, 1176, rfl⟩
abbrev main_cst_84 : Ref sig .tc := ⟨.hbm, 1177, rfl⟩
abbrev main_v1083 : Ref sig .tc := ⟨.hbm, 1178, rfl⟩
abbrev main_v1084 : Ref sig .tc := ⟨.hbm, 1179, rfl⟩
abbrev main_v1085 : Ref sig .tc := ⟨.hbm, 1180, rfl⟩
abbrev main_v1086 : Ref sig .tc := ⟨.hbm, 1181, rfl⟩
abbrev main_v1087 : Ref sig .tc := ⟨.hbm, 1182, rfl⟩
abbrev main_v1088 : Ref sig .tc := ⟨.hbm, 1183, rfl⟩
abbrev main_cst_85 : Ref sig .tc := ⟨.hbm, 1184, rfl⟩
abbrev main_v1089 : Ref sig .tc := ⟨.hbm, 1185, rfl⟩
abbrev main_v1090 : Ref sig .tc := ⟨.hbm, 1186, rfl⟩
abbrev main_v1091 : Ref sig .tc := ⟨.hbm, 1187, rfl⟩
abbrev main_v1092 : Ref sig .tc := ⟨.hbm, 1188, rfl⟩
abbrev main_v1093 : Ref sig .tc := ⟨.hbm, 1189, rfl⟩
abbrev main_v1094 : Ref sig .tc := ⟨.hbm, 1190, rfl⟩
abbrev main_v1095 : Ref sig .tc := ⟨.hbm, 1191, rfl⟩
abbrev main_cst_86 : Ref sig .tc := ⟨.hbm, 1192, rfl⟩
abbrev main_v1096 : Ref sig .tc := ⟨.hbm, 1193, rfl⟩
abbrev main_v1097 : Ref sig .tc := ⟨.hbm, 1194, rfl⟩
abbrev main_v1098 : Ref sig .tc := ⟨.hbm, 1195, rfl⟩
abbrev main_cst_87 : Ref sig .tc := ⟨.hbm, 1196, rfl⟩
abbrev main_v1099 : Ref sig .tc := ⟨.hbm, 1197, rfl⟩
abbrev main_v1100 : Ref sig .tc := ⟨.hbm, 1198, rfl⟩
abbrev main_v1101 : Ref sig .tc := ⟨.hbm, 1199, rfl⟩
abbrev main_v1102 : Ref sig .tc := ⟨.hbm, 1200, rfl⟩
abbrev main_v1103 : Ref sig .tc := ⟨.hbm, 1201, rfl⟩
abbrev main_v1104 : Ref sig .tc := ⟨.hbm, 1202, rfl⟩
abbrev main_v1105 : Ref sig .tc := ⟨.hbm, 1203, rfl⟩
abbrev main_v1106 : Ref sig .tc := ⟨.hbm, 1204, rfl⟩
abbrev main_v1107 : Ref sig .tc := ⟨.hbm, 1205, rfl⟩
abbrev main_v1108 : Ref sig .tc := ⟨.hbm, 1206, rfl⟩
abbrev main_v1109 : Ref sig .tc := ⟨.hbm, 1207, rfl⟩
abbrev main_v1110 : Ref sig .tc := ⟨.hbm, 1208, rfl⟩
abbrev main_v1111 : Ref sig .tc := ⟨.hbm, 1209, rfl⟩
abbrev main_v1112 : Ref sig .tc := ⟨.hbm, 1210, rfl⟩
abbrev main_v1113 : Ref sig .tc := ⟨.hbm, 1211, rfl⟩
abbrev main_v1114 : Ref sig .tc := ⟨.hbm, 1212, rfl⟩
abbrev main_v1115 : Ref sig .tc := ⟨.hbm, 1213, rfl⟩
abbrev main_v1116 : Ref sig .tc := ⟨.hbm, 1214, rfl⟩
abbrev main_v1117 : Ref sig .tc := ⟨.hbm, 1215, rfl⟩
abbrev main_v1118 : Ref sig .tc := ⟨.hbm, 1216, rfl⟩
abbrev main_v1119 : Ref sig .tc := ⟨.hbm, 1217, rfl⟩
abbrev main_v1120 : Ref sig .tc := ⟨.hbm, 1218, rfl⟩
abbrev main_v1121 : Ref sig .tc := ⟨.hbm, 1219, rfl⟩
abbrev main_v1122 : Ref sig .tc := ⟨.hbm, 1220, rfl⟩
abbrev main_v1123 : Ref sig .tc := ⟨.hbm, 1221, rfl⟩
abbrev main_v1124 : Ref sig .tc := ⟨.hbm, 1222, rfl⟩
abbrev main_v1125 : Ref sig .tc := ⟨.hbm, 1223, rfl⟩
abbrev main_v1126 : Ref sig .tc := ⟨.hbm, 1224, rfl⟩
abbrev main_v1127 : Ref sig .tc := ⟨.hbm, 1225, rfl⟩
abbrev main_v1128 : Ref sig .tc := ⟨.hbm, 1226, rfl⟩
abbrev main_v1129 : Ref sig .tc := ⟨.hbm, 1227, rfl⟩
abbrev main_v1130 : Ref sig .tc := ⟨.hbm, 1228, rfl⟩
abbrev main_v1131 : Ref sig .tc := ⟨.hbm, 1229, rfl⟩
abbrev main_v1132 : Ref sig .tc := ⟨.hbm, 1230, rfl⟩
abbrev main_v1133 : Ref sig .tc := ⟨.hbm, 1231, rfl⟩
abbrev main_v1134 : Ref sig .tc := ⟨.hbm, 1232, rfl⟩
abbrev main_v1135 : Ref sig .tc := ⟨.hbm, 1233, rfl⟩
abbrev main_v1136 : Ref sig .tc := ⟨.hbm, 1234, rfl⟩
abbrev main_v1137 : Ref sig .tc := ⟨.hbm, 1235, rfl⟩
abbrev main_v1138 : Ref sig .tc := ⟨.hbm, 1236, rfl⟩
abbrev main_v1139 : Ref sig .tc := ⟨.hbm, 1237, rfl⟩
abbrev main_v1140 : Ref sig .tc := ⟨.hbm, 1238, rfl⟩
abbrev main_v1141 : Ref sig .tc := ⟨.hbm, 1239, rfl⟩
abbrev main_v1142 : Ref sig .tc := ⟨.hbm, 1240, rfl⟩
abbrev main_cst_88 : Ref sig .tc := ⟨.hbm, 1241, rfl⟩
abbrev main_v1143 : Ref sig .tc := ⟨.hbm, 1242, rfl⟩
abbrev main_v1144 : Ref sig .tc := ⟨.hbm, 1243, rfl⟩
abbrev main_v1145 : Ref sig .tc := ⟨.hbm, 1244, rfl⟩
abbrev main_v1146 : Ref sig .tc := ⟨.hbm, 1245, rfl⟩
abbrev main_cst_89 : Ref sig .tc := ⟨.hbm, 1246, rfl⟩
abbrev main_v1147 : Ref sig .tc := ⟨.hbm, 1247, rfl⟩
abbrev main_v1148 : Ref sig .tc := ⟨.hbm, 1248, rfl⟩
abbrev main_v1149 : Ref sig .tc := ⟨.hbm, 1249, rfl⟩
abbrev main_v1150 : Ref sig .tc := ⟨.hbm, 1250, rfl⟩
abbrev main_v1151 : Ref sig .tc := ⟨.hbm, 1251, rfl⟩
abbrev main_v1152 : Ref sig .tc := ⟨.hbm, 1252, rfl⟩
abbrev main_cst_90 : Ref sig .tc := ⟨.hbm, 1253, rfl⟩
abbrev main_v1153 : Ref sig .tc := ⟨.hbm, 1254, rfl⟩
abbrev main_v1154 : Ref sig .tc := ⟨.hbm, 1255, rfl⟩
abbrev main_v1155 : Ref sig .tc := ⟨.hbm, 1256, rfl⟩
abbrev main_v1156 : Ref sig .tc := ⟨.hbm, 1257, rfl⟩
abbrev main_v1157 : Ref sig .tc := ⟨.hbm, 1258, rfl⟩
abbrev main_v1158 : Ref sig .tc := ⟨.hbm, 1259, rfl⟩
abbrev main_v1159 : Ref sig .tc := ⟨.hbm, 1260, rfl⟩
abbrev main_cst_91 : Ref sig .tc := ⟨.hbm, 1261, rfl⟩
abbrev main_v1160 : Ref sig .tc := ⟨.hbm, 1262, rfl⟩
abbrev main_v1161 : Ref sig .tc := ⟨.hbm, 1263, rfl⟩
abbrev main_v1162 : Ref sig .tc := ⟨.hbm, 1264, rfl⟩
abbrev main_cst_92 : Ref sig .tc := ⟨.hbm, 1265, rfl⟩
abbrev main_v1163 : Ref sig .tc := ⟨.hbm, 1266, rfl⟩
abbrev main_v1164 : Ref sig .tc := ⟨.hbm, 1267, rfl⟩
abbrev main_v1165 : Ref sig .tc := ⟨.hbm, 1268, rfl⟩
abbrev main_v1166 : Ref sig .tc := ⟨.hbm, 1269, rfl⟩
abbrev main_v1167 : Ref sig .tc := ⟨.hbm, 1270, rfl⟩
abbrev main_v1168 : Ref sig .tc := ⟨.hbm, 1271, rfl⟩
abbrev main_v1169 : Ref sig .tc := ⟨.hbm, 1272, rfl⟩
abbrev main_v1170 : Ref sig .tc := ⟨.hbm, 1273, rfl⟩
abbrev main_v1171 : Ref sig .tc := ⟨.hbm, 1274, rfl⟩
abbrev main_v1172 : Ref sig .tc := ⟨.hbm, 1275, rfl⟩
abbrev main_v1173 : Ref sig .tc := ⟨.hbm, 1276, rfl⟩
abbrev main_v1174 : Ref sig .tc := ⟨.hbm, 1277, rfl⟩
abbrev main_v1175 : Ref sig .tc := ⟨.hbm, 1278, rfl⟩
abbrev main_v1176 : Ref sig .tc := ⟨.hbm, 1279, rfl⟩
abbrev main_v1177 : Ref sig .tc := ⟨.hbm, 1280, rfl⟩
abbrev main_v1178 : Ref sig .tc := ⟨.hbm, 1281, rfl⟩
abbrev main_v1179 : Ref sig .tc := ⟨.hbm, 1282, rfl⟩
abbrev main_v1180 : Ref sig .tc := ⟨.hbm, 1283, rfl⟩
abbrev main_v1181 : Ref sig .tc := ⟨.hbm, 1284, rfl⟩
abbrev main_v1182 : Ref sig .tc := ⟨.hbm, 1285, rfl⟩
abbrev main_v1183 : Ref sig .tc := ⟨.hbm, 1286, rfl⟩
abbrev main_v1184 : Ref sig .tc := ⟨.hbm, 1287, rfl⟩
abbrev main_v1185 : Ref sig .tc := ⟨.hbm, 1288, rfl⟩
abbrev main_v1186 : Ref sig .tc := ⟨.hbm, 1289, rfl⟩
abbrev main_v1187 : Ref sig .tc := ⟨.hbm, 1290, rfl⟩
abbrev main_v1188 : Ref sig .tc := ⟨.hbm, 1291, rfl⟩
abbrev main_v1189 : Ref sig .tc := ⟨.hbm, 1292, rfl⟩
abbrev main_v1190 : Ref sig .tc := ⟨.hbm, 1293, rfl⟩
abbrev main_v1191 : Ref sig .tc := ⟨.hbm, 1294, rfl⟩
abbrev main_v1192 : Ref sig .tc := ⟨.hbm, 1295, rfl⟩
abbrev main_v1193 : Ref sig .tc := ⟨.hbm, 1296, rfl⟩
abbrev main_v1194 : Ref sig .tc := ⟨.hbm, 1297, rfl⟩
abbrev main_v1195 : Ref sig .tc := ⟨.hbm, 1298, rfl⟩
abbrev main_v1196 : Ref sig .tc := ⟨.hbm, 1299, rfl⟩
abbrev main_v1197 : Ref sig .tc := ⟨.hbm, 1300, rfl⟩
abbrev main_v1198 : Ref sig .tc := ⟨.hbm, 1301, rfl⟩
abbrev main_v1199 : Ref sig .tc := ⟨.hbm, 1302, rfl⟩
abbrev main_v1200 : Ref sig .tc := ⟨.hbm, 1303, rfl⟩
abbrev main_v1201 : Ref sig .tc := ⟨.hbm, 1304, rfl⟩
abbrev main_v1202 : Ref sig .tc := ⟨.hbm, 1305, rfl⟩
abbrev main_v1203 : Ref sig .tc := ⟨.hbm, 1306, rfl⟩
abbrev main_v1204 : Ref sig .tc := ⟨.hbm, 1307, rfl⟩
abbrev main_v1205 : Ref sig .tc := ⟨.hbm, 1308, rfl⟩
abbrev main_v1206 : Ref sig .tc := ⟨.hbm, 1309, rfl⟩
abbrev main_cst_93 : Ref sig .tc := ⟨.hbm, 1310, rfl⟩
abbrev main_v1207 : Ref sig .tc := ⟨.hbm, 1311, rfl⟩
abbrev main_v1208 : Ref sig .tc := ⟨.hbm, 1312, rfl⟩
abbrev main_v1209 : Ref sig .tc := ⟨.hbm, 1313, rfl⟩
abbrev main_v1210 : Ref sig .tc := ⟨.hbm, 1314, rfl⟩
abbrev main_cst_94 : Ref sig .tc := ⟨.hbm, 1315, rfl⟩
abbrev main_v1211 : Ref sig .tc := ⟨.hbm, 1316, rfl⟩
abbrev main_v1212 : Ref sig .tc := ⟨.hbm, 1317, rfl⟩
abbrev main_v1213 : Ref sig .tc := ⟨.hbm, 1318, rfl⟩
abbrev main_v1214 : Ref sig .tc := ⟨.hbm, 1319, rfl⟩
abbrev main_v1215 : Ref sig .tc := ⟨.hbm, 1320, rfl⟩
abbrev main_v1216 : Ref sig .tc := ⟨.hbm, 1321, rfl⟩
abbrev main_cst_95 : Ref sig .tc := ⟨.hbm, 1322, rfl⟩
abbrev main_v1217 : Ref sig .tc := ⟨.hbm, 1323, rfl⟩
abbrev main_v1218 : Ref sig .tc := ⟨.hbm, 1324, rfl⟩
abbrev main_v1219 : Ref sig .tc := ⟨.hbm, 1325, rfl⟩
abbrev main_v1220 : Ref sig .tc := ⟨.hbm, 1326, rfl⟩
abbrev main_v1221 : Ref sig .tc := ⟨.hbm, 1327, rfl⟩
abbrev main_v1222 : Ref sig .tc := ⟨.hbm, 1328, rfl⟩
abbrev main_v1223 : Ref sig .tc := ⟨.hbm, 1329, rfl⟩
abbrev main_cst_96 : Ref sig .tc := ⟨.hbm, 1330, rfl⟩
abbrev main_v1224 : Ref sig .tc := ⟨.hbm, 1331, rfl⟩
abbrev main_v1225 : Ref sig .tc := ⟨.hbm, 1332, rfl⟩
abbrev main_v1226 : Ref sig .tc := ⟨.hbm, 1333, rfl⟩
abbrev main_cst_97 : Ref sig .tc := ⟨.hbm, 1334, rfl⟩
abbrev main_v1227 : Ref sig .tc := ⟨.hbm, 1335, rfl⟩
abbrev main_v1228 : Ref sig .tc := ⟨.hbm, 1336, rfl⟩
abbrev main_v1229 : Ref sig .tc := ⟨.hbm, 1337, rfl⟩
abbrev main_v1230 : Ref sig .tc := ⟨.hbm, 1338, rfl⟩
abbrev main_v1231 : Ref sig .tc := ⟨.hbm, 1339, rfl⟩
abbrev main_v1232 : Ref sig .tc := ⟨.hbm, 1340, rfl⟩
abbrev main_v1233 : Ref sig .tc := ⟨.hbm, 1341, rfl⟩
abbrev main_v1234 : Ref sig .tc := ⟨.hbm, 1342, rfl⟩
abbrev main_v1235 : Ref sig .tc := ⟨.hbm, 1343, rfl⟩
abbrev main_v1236 : Ref sig .tc := ⟨.hbm, 1344, rfl⟩
abbrev main_v1237 : Ref sig .tc := ⟨.hbm, 1345, rfl⟩
abbrev main_v1238 : Ref sig .tc := ⟨.hbm, 1346, rfl⟩
abbrev main_v1239 : Ref sig .tc := ⟨.hbm, 1347, rfl⟩
abbrev main_v1240 : Ref sig .tc := ⟨.hbm, 1348, rfl⟩
abbrev main_v1241 : Ref sig .tc := ⟨.hbm, 1349, rfl⟩
abbrev main_v1242 : Ref sig .tc := ⟨.hbm, 1350, rfl⟩
abbrev main_v1243 : Ref sig .tc := ⟨.hbm, 1351, rfl⟩
abbrev main_v1244 : Ref sig .tc := ⟨.hbm, 1352, rfl⟩
abbrev main_v1245 : Ref sig .tc := ⟨.hbm, 1353, rfl⟩
abbrev main_v1246 : Ref sig .tc := ⟨.hbm, 1354, rfl⟩
abbrev main_v1247 : Ref sig .tc := ⟨.hbm, 1355, rfl⟩
abbrev main_v1248 : Ref sig .tc := ⟨.hbm, 1356, rfl⟩
abbrev main_v1249 : Ref sig .tc := ⟨.hbm, 1357, rfl⟩
abbrev main_v1250 : Ref sig .tc := ⟨.hbm, 1358, rfl⟩
abbrev main_v1251 : Ref sig .tc := ⟨.hbm, 1359, rfl⟩
abbrev main_v1252 : Ref sig .tc := ⟨.hbm, 1360, rfl⟩
abbrev main_v1253 : Ref sig .tc := ⟨.hbm, 1361, rfl⟩
abbrev main_v1254 : Ref sig .tc := ⟨.hbm, 1362, rfl⟩
abbrev main_v1255 : Ref sig .tc := ⟨.hbm, 1363, rfl⟩
abbrev main_v1256 : Ref sig .tc := ⟨.hbm, 1364, rfl⟩
abbrev main_v1257 : Ref sig .tc := ⟨.hbm, 1365, rfl⟩
abbrev main_v1258 : Ref sig .tc := ⟨.hbm, 1366, rfl⟩
abbrev main_v1259 : Ref sig .tc := ⟨.hbm, 1367, rfl⟩
abbrev main_v1260 : Ref sig .tc := ⟨.hbm, 1368, rfl⟩
abbrev main_v1261 : Ref sig .tc := ⟨.hbm, 1369, rfl⟩
abbrev main_v1262 : Ref sig .tc := ⟨.hbm, 1370, rfl⟩
abbrev main_v1263 : Ref sig .tc := ⟨.hbm, 1371, rfl⟩
abbrev main_v1264 : Ref sig .tc := ⟨.hbm, 1372, rfl⟩
abbrev main_v1265 : Ref sig .tc := ⟨.hbm, 1373, rfl⟩
abbrev main_v1266 : Ref sig .tc := ⟨.hbm, 1374, rfl⟩
abbrev main_v1267 : Ref sig .tc := ⟨.hbm, 1375, rfl⟩
abbrev main_v1268 : Ref sig .tc := ⟨.hbm, 1376, rfl⟩
abbrev main_v1269 : Ref sig .tc := ⟨.hbm, 1377, rfl⟩
abbrev main_v1270 : Ref sig .tc := ⟨.hbm, 1378, rfl⟩
abbrev main_cst_98 : Ref sig .tc := ⟨.hbm, 1379, rfl⟩
abbrev main_v1271 : Ref sig .tc := ⟨.hbm, 1380, rfl⟩
abbrev main_v1272 : Ref sig .tc := ⟨.hbm, 1381, rfl⟩
abbrev main_v1273 : Ref sig .tc := ⟨.hbm, 1382, rfl⟩
abbrev main_v1274 : Ref sig .tc := ⟨.hbm, 1383, rfl⟩
abbrev main_cst_99 : Ref sig .tc := ⟨.hbm, 1384, rfl⟩
abbrev main_v1275 : Ref sig .tc := ⟨.hbm, 1385, rfl⟩
abbrev main_v1276 : Ref sig .tc := ⟨.hbm, 1386, rfl⟩
abbrev main_v1277 : Ref sig .tc := ⟨.hbm, 1387, rfl⟩
abbrev main_v1278 : Ref sig .tc := ⟨.hbm, 1388, rfl⟩
abbrev main_v1279 : Ref sig .tc := ⟨.hbm, 1389, rfl⟩
abbrev main_v1280 : Ref sig .tc := ⟨.hbm, 1390, rfl⟩
abbrev main_cst_100 : Ref sig .tc := ⟨.hbm, 1391, rfl⟩
abbrev main_v1281 : Ref sig .tc := ⟨.hbm, 1392, rfl⟩
abbrev main_v1282 : Ref sig .tc := ⟨.hbm, 1393, rfl⟩
abbrev main_v1283 : Ref sig .tc := ⟨.hbm, 1394, rfl⟩
abbrev main_v1284 : Ref sig .tc := ⟨.hbm, 1395, rfl⟩
abbrev main_v1285 : Ref sig .tc := ⟨.hbm, 1396, rfl⟩
abbrev main_v1286 : Ref sig .tc := ⟨.hbm, 1397, rfl⟩
abbrev main_v1287 : Ref sig .tc := ⟨.hbm, 1398, rfl⟩
abbrev main_cst_101 : Ref sig .tc := ⟨.hbm, 1399, rfl⟩
abbrev main_v1288 : Ref sig .tc := ⟨.hbm, 1400, rfl⟩
abbrev main_v1289 : Ref sig .tc := ⟨.hbm, 1401, rfl⟩
abbrev main_v1290 : Ref sig .tc := ⟨.hbm, 1402, rfl⟩
abbrev main_cst_102 : Ref sig .tc := ⟨.hbm, 1403, rfl⟩
abbrev main_v1291 : Ref sig .tc := ⟨.hbm, 1404, rfl⟩
abbrev main_v1292 : Ref sig .tc := ⟨.hbm, 1405, rfl⟩
abbrev main_v1293 : Ref sig .tc := ⟨.hbm, 1406, rfl⟩
abbrev main_v1294 : Ref sig .tc := ⟨.hbm, 1407, rfl⟩
abbrev main_v1295 : Ref sig .tc := ⟨.hbm, 1408, rfl⟩
abbrev main_v1296 : Ref sig .tc := ⟨.hbm, 1409, rfl⟩
abbrev main_v1297 : Ref sig .tc := ⟨.hbm, 1410, rfl⟩
abbrev main_v1298 : Ref sig .tc := ⟨.hbm, 1411, rfl⟩
abbrev main_v1299 : Ref sig .tc := ⟨.hbm, 1412, rfl⟩
abbrev main_v1300 : Ref sig .tc := ⟨.hbm, 1413, rfl⟩
abbrev main_v1301 : Ref sig .tc := ⟨.hbm, 1414, rfl⟩
abbrev main_v1302 : Ref sig .tc := ⟨.hbm, 1415, rfl⟩
abbrev main_v1303 : Ref sig .tc := ⟨.hbm, 1416, rfl⟩
abbrev main_v1304 : Ref sig .tc := ⟨.hbm, 1417, rfl⟩
abbrev main_v1305 : Ref sig .tc := ⟨.hbm, 1418, rfl⟩
abbrev main_v1306 : Ref sig .tc := ⟨.hbm, 1419, rfl⟩
abbrev main_v1307 : Ref sig .tc := ⟨.hbm, 1420, rfl⟩
abbrev main_v1308 : Ref sig .tc := ⟨.hbm, 1421, rfl⟩
abbrev main_v1309 : Ref sig .tc := ⟨.hbm, 1422, rfl⟩
abbrev main_v1310 : Ref sig .tc := ⟨.hbm, 1423, rfl⟩
abbrev main_v1311 : Ref sig .tc := ⟨.hbm, 1424, rfl⟩
abbrev main_v1312 : Ref sig .tc := ⟨.hbm, 1425, rfl⟩
abbrev main_v1313 : Ref sig .tc := ⟨.hbm, 1426, rfl⟩
abbrev main_v1314 : Ref sig .tc := ⟨.hbm, 1427, rfl⟩
abbrev main_v1315 : Ref sig .tc := ⟨.hbm, 1428, rfl⟩
abbrev main_v1316 : Ref sig .tc := ⟨.hbm, 1429, rfl⟩
abbrev main_v1317 : Ref sig .tc := ⟨.hbm, 1430, rfl⟩
abbrev main_v1318 : Ref sig .tc := ⟨.hbm, 1431, rfl⟩
abbrev main_v1319 : Ref sig .tc := ⟨.hbm, 1432, rfl⟩
abbrev main_v1320 : Ref sig .tc := ⟨.hbm, 1433, rfl⟩
abbrev main_v1321 : Ref sig .tc := ⟨.hbm, 1434, rfl⟩
abbrev main_v1322 : Ref sig .tc := ⟨.hbm, 1435, rfl⟩
abbrev main_v1323 : Ref sig .tc := ⟨.hbm, 1436, rfl⟩
abbrev main_v1324 : Ref sig .tc := ⟨.hbm, 1437, rfl⟩
abbrev main_v1325 : Ref sig .tc := ⟨.hbm, 1438, rfl⟩
abbrev main_v1326 : Ref sig .tc := ⟨.hbm, 1439, rfl⟩
abbrev main_v1327 : Ref sig .tc := ⟨.hbm, 1440, rfl⟩
abbrev main_v1328 : Ref sig .tc := ⟨.hbm, 1441, rfl⟩
abbrev main_v1329 : Ref sig .tc := ⟨.hbm, 1442, rfl⟩
abbrev main_v1330 : Ref sig .tc := ⟨.hbm, 1443, rfl⟩
abbrev main_v1331 : Ref sig .tc := ⟨.hbm, 1444, rfl⟩
abbrev main_v1332 : Ref sig .tc := ⟨.hbm, 1445, rfl⟩
abbrev main_v1333 : Ref sig .tc := ⟨.hbm, 1446, rfl⟩
abbrev main_v1334 : Ref sig .tc := ⟨.hbm, 1447, rfl⟩
abbrev main_cst_103 : Ref sig .tc := ⟨.hbm, 1448, rfl⟩
abbrev main_v1335 : Ref sig .tc := ⟨.hbm, 1449, rfl⟩
abbrev main_v1336 : Ref sig .tc := ⟨.hbm, 1450, rfl⟩
abbrev main_v1337 : Ref sig .tc := ⟨.hbm, 1451, rfl⟩
abbrev main_v1338 : Ref sig .tc := ⟨.hbm, 1452, rfl⟩
abbrev main_cst_104 : Ref sig .tc := ⟨.hbm, 1453, rfl⟩
abbrev main_v1339 : Ref sig .tc := ⟨.hbm, 1454, rfl⟩
abbrev main_v1340 : Ref sig .tc := ⟨.hbm, 1455, rfl⟩
abbrev main_v1341 : Ref sig .tc := ⟨.hbm, 1456, rfl⟩
abbrev main_v1342 : Ref sig .tc := ⟨.hbm, 1457, rfl⟩
abbrev main_v1343 : Ref sig .tc := ⟨.hbm, 1458, rfl⟩
abbrev main_v1344 : Ref sig .tc := ⟨.hbm, 1459, rfl⟩
abbrev main_cst_105 : Ref sig .tc := ⟨.hbm, 1460, rfl⟩
abbrev main_v1345 : Ref sig .tc := ⟨.hbm, 1461, rfl⟩
abbrev main_v1346 : Ref sig .tc := ⟨.hbm, 1462, rfl⟩
abbrev main_v1347 : Ref sig .tc := ⟨.hbm, 1463, rfl⟩
abbrev main_v1348 : Ref sig .tc := ⟨.hbm, 1464, rfl⟩
abbrev main_v1349 : Ref sig .tc := ⟨.hbm, 1465, rfl⟩
abbrev main_v1350 : Ref sig .tc := ⟨.hbm, 1466, rfl⟩
abbrev main_v1351 : Ref sig .tc := ⟨.hbm, 1467, rfl⟩
abbrev main_cst_106 : Ref sig .tc := ⟨.hbm, 1468, rfl⟩
abbrev main_v1352 : Ref sig .tc := ⟨.hbm, 1469, rfl⟩
abbrev main_v1353 : Ref sig .tc := ⟨.hbm, 1470, rfl⟩
abbrev main_v1354 : Ref sig .tc := ⟨.hbm, 1471, rfl⟩
abbrev main_cst_107 : Ref sig .tc := ⟨.hbm, 1472, rfl⟩
abbrev main_v1355 : Ref sig .tc := ⟨.hbm, 1473, rfl⟩
abbrev main_v1356 : Ref sig .tc := ⟨.hbm, 1474, rfl⟩
abbrev main_v1357 : Ref sig .tc := ⟨.hbm, 1475, rfl⟩
abbrev main_v1358 : Ref sig .tc := ⟨.hbm, 1476, rfl⟩
abbrev main_v1359 : Ref sig .tc := ⟨.hbm, 1477, rfl⟩
abbrev main_v1360 : Ref sig .tc := ⟨.hbm, 1478, rfl⟩
abbrev main_v1361 : Ref sig .tc := ⟨.hbm, 1479, rfl⟩
abbrev main_v1362 : Ref sig .tc := ⟨.hbm, 1480, rfl⟩
abbrev main_v1363 : Ref sig .tc := ⟨.hbm, 1481, rfl⟩
abbrev main_v1364 : Ref sig .tc := ⟨.hbm, 1482, rfl⟩
abbrev main_v1365 : Ref sig .tc := ⟨.hbm, 1483, rfl⟩
abbrev main_v1366 : Ref sig .tc := ⟨.hbm, 1484, rfl⟩
abbrev main_v1367 : Ref sig .tc := ⟨.hbm, 1485, rfl⟩
abbrev main_v1368 : Ref sig .tc := ⟨.hbm, 1486, rfl⟩
abbrev main_v1369 : Ref sig .tc := ⟨.hbm, 1487, rfl⟩
abbrev main_v1370 : Ref sig .tc := ⟨.hbm, 1488, rfl⟩
abbrev main_v1371 : Ref sig .tc := ⟨.hbm, 1489, rfl⟩
abbrev main_v1372 : Ref sig .tc := ⟨.hbm, 1490, rfl⟩
abbrev main_v1373 : Ref sig .tc := ⟨.hbm, 1491, rfl⟩
abbrev main_v1374 : Ref sig .tc := ⟨.hbm, 1492, rfl⟩
abbrev main_v1375 : Ref sig .tc := ⟨.hbm, 1493, rfl⟩
abbrev main_v1376 : Ref sig .tc := ⟨.hbm, 1494, rfl⟩
abbrev main_v1377 : Ref sig .tc := ⟨.hbm, 1495, rfl⟩
abbrev main_v1378 : Ref sig .tc := ⟨.hbm, 1496, rfl⟩
abbrev main_v1379 : Ref sig .tc := ⟨.hbm, 1497, rfl⟩
abbrev main_v1380 : Ref sig .tc := ⟨.hbm, 1498, rfl⟩
abbrev main_v1381 : Ref sig .tc := ⟨.hbm, 1499, rfl⟩
abbrev main_v1382 : Ref sig .tc := ⟨.hbm, 1500, rfl⟩
abbrev main_v1383 : Ref sig .tc := ⟨.hbm, 1501, rfl⟩
abbrev main_v1384 : Ref sig .tc := ⟨.hbm, 1502, rfl⟩
abbrev main_v1385 : Ref sig .tc := ⟨.hbm, 1503, rfl⟩
abbrev main_v1386 : Ref sig .tc := ⟨.hbm, 1504, rfl⟩
abbrev main_v1387 : Ref sig .tc := ⟨.hbm, 1505, rfl⟩
abbrev main_v1388 : Ref sig .tc := ⟨.hbm, 1506, rfl⟩
abbrev main_v1389 : Ref sig .tc := ⟨.hbm, 1507, rfl⟩
abbrev main_v1390 : Ref sig .tc := ⟨.hbm, 1508, rfl⟩
abbrev main_v1391 : Ref sig .tc := ⟨.hbm, 1509, rfl⟩
abbrev main_v1392 : Ref sig .tc := ⟨.hbm, 1510, rfl⟩
abbrev main_v1393 : Ref sig .tc := ⟨.hbm, 1511, rfl⟩
abbrev main_v1394 : Ref sig .tc := ⟨.hbm, 1512, rfl⟩
abbrev main_v1395 : Ref sig .tc := ⟨.hbm, 1513, rfl⟩
abbrev main_v1396 : Ref sig .tc := ⟨.hbm, 1514, rfl⟩
abbrev main_v1397 : Ref sig .tc := ⟨.hbm, 1515, rfl⟩
abbrev main_v1398 : Ref sig .tc := ⟨.hbm, 1516, rfl⟩
abbrev main_cst_108 : Ref sig .tc := ⟨.hbm, 1517, rfl⟩
abbrev main_v1399 : Ref sig .tc := ⟨.hbm, 1518, rfl⟩
abbrev main_v1400 : Ref sig .tc := ⟨.hbm, 1519, rfl⟩
abbrev main_v1401 : Ref sig .tc := ⟨.hbm, 1520, rfl⟩
abbrev main_v1402 : Ref sig .tc := ⟨.hbm, 1521, rfl⟩
abbrev main_cst_109 : Ref sig .tc := ⟨.hbm, 1522, rfl⟩
abbrev main_v1403 : Ref sig .tc := ⟨.hbm, 1523, rfl⟩
abbrev main_v1404 : Ref sig .tc := ⟨.hbm, 1524, rfl⟩
abbrev main_v1405 : Ref sig .tc := ⟨.hbm, 1525, rfl⟩
abbrev main_v1406 : Ref sig .tc := ⟨.hbm, 1526, rfl⟩
abbrev main_v1407 : Ref sig .tc := ⟨.hbm, 1527, rfl⟩
abbrev main_v1408 : Ref sig .tc := ⟨.hbm, 1528, rfl⟩
abbrev main_cst_110 : Ref sig .tc := ⟨.hbm, 1529, rfl⟩
abbrev main_v1409 : Ref sig .tc := ⟨.hbm, 1530, rfl⟩
abbrev main_v1410 : Ref sig .tc := ⟨.hbm, 1531, rfl⟩
abbrev main_v1411 : Ref sig .tc := ⟨.hbm, 1532, rfl⟩
abbrev main_v1412 : Ref sig .tc := ⟨.hbm, 1533, rfl⟩
abbrev main_v1413 : Ref sig .tc := ⟨.hbm, 1534, rfl⟩
abbrev main_v1414 : Ref sig .tc := ⟨.hbm, 1535, rfl⟩
abbrev main_v1415 : Ref sig .tc := ⟨.hbm, 1536, rfl⟩
abbrev main_cst_111 : Ref sig .tc := ⟨.hbm, 1537, rfl⟩
abbrev main_v1416 : Ref sig .tc := ⟨.hbm, 1538, rfl⟩
abbrev main_v1417 : Ref sig .tc := ⟨.hbm, 1539, rfl⟩
abbrev main_v1418 : Ref sig .tc := ⟨.hbm, 1540, rfl⟩
abbrev main_cst_112 : Ref sig .tc := ⟨.hbm, 1541, rfl⟩
abbrev main_v1419 : Ref sig .tc := ⟨.hbm, 1542, rfl⟩
abbrev main_v1420 : Ref sig .tc := ⟨.hbm, 1543, rfl⟩
abbrev main_v1421 : Ref sig .tc := ⟨.hbm, 1544, rfl⟩
abbrev main_v1422 : Ref sig .tc := ⟨.hbm, 1545, rfl⟩
abbrev main_v1423 : Ref sig .tc := ⟨.hbm, 1546, rfl⟩
abbrev main_v1424 : Ref sig .tc := ⟨.hbm, 1547, rfl⟩
abbrev main_v1425 : Ref sig .tc := ⟨.hbm, 1548, rfl⟩
abbrev main_v1426 : Ref sig .tc := ⟨.hbm, 1549, rfl⟩
abbrev main_v1427 : Ref sig .tc := ⟨.hbm, 1550, rfl⟩
abbrev main_v1428 : Ref sig .tc := ⟨.hbm, 1551, rfl⟩
abbrev main_v1429 : Ref sig .tc := ⟨.hbm, 1552, rfl⟩
abbrev main_v1430 : Ref sig .tc := ⟨.hbm, 1553, rfl⟩
abbrev main_v1431 : Ref sig .tc := ⟨.hbm, 1554, rfl⟩
abbrev main_v1432 : Ref sig .tc := ⟨.hbm, 1555, rfl⟩
abbrev main_v1433 : Ref sig .tc := ⟨.hbm, 1556, rfl⟩
abbrev main_v1434 : Ref sig .tc := ⟨.hbm, 1557, rfl⟩
abbrev main_v1435 : Ref sig .tc := ⟨.hbm, 1558, rfl⟩
abbrev main_v1436 : Ref sig .tc := ⟨.hbm, 1559, rfl⟩
abbrev main_v1437 : Ref sig .tc := ⟨.hbm, 1560, rfl⟩
abbrev main_v1438 : Ref sig .tc := ⟨.hbm, 1561, rfl⟩
abbrev main_v1439 : Ref sig .tc := ⟨.hbm, 1562, rfl⟩
abbrev main_v1440 : Ref sig .tc := ⟨.hbm, 1563, rfl⟩
abbrev main_v1441 : Ref sig .tc := ⟨.hbm, 1564, rfl⟩
abbrev main_v1442 : Ref sig .tc := ⟨.hbm, 1565, rfl⟩
abbrev main_v1443 : Ref sig .tc := ⟨.hbm, 1566, rfl⟩
abbrev main_v1444 : Ref sig .tc := ⟨.hbm, 1567, rfl⟩
abbrev main_v1445 : Ref sig .tc := ⟨.hbm, 1568, rfl⟩
abbrev main_v1446 : Ref sig .tc := ⟨.hbm, 1569, rfl⟩
abbrev main_v1447 : Ref sig .tc := ⟨.hbm, 1570, rfl⟩
abbrev main_v1448 : Ref sig .tc := ⟨.hbm, 1571, rfl⟩
abbrev main_v1449 : Ref sig .tc := ⟨.hbm, 1572, rfl⟩
abbrev main_v1450 : Ref sig .tc := ⟨.hbm, 1573, rfl⟩
abbrev main_v1451 : Ref sig .tc := ⟨.hbm, 1574, rfl⟩
abbrev main_v1452 : Ref sig .tc := ⟨.hbm, 1575, rfl⟩
abbrev main_v1453 : Ref sig .tc := ⟨.hbm, 1576, rfl⟩
abbrev main_v1454 : Ref sig .tc := ⟨.hbm, 1577, rfl⟩
abbrev main_v1455 : Ref sig .tc := ⟨.hbm, 1578, rfl⟩
abbrev main_v1456 : Ref sig .tc := ⟨.hbm, 1579, rfl⟩
abbrev main_v1457 : Ref sig .tc := ⟨.hbm, 1580, rfl⟩
abbrev main_v1458 : Ref sig .tc := ⟨.hbm, 1581, rfl⟩
abbrev main_v1459 : Ref sig .tc := ⟨.hbm, 1582, rfl⟩
abbrev main_v1460 : Ref sig .tc := ⟨.hbm, 1583, rfl⟩
abbrev main_v1461 : Ref sig .tc := ⟨.hbm, 1584, rfl⟩
abbrev main_v1462 : Ref sig .tc := ⟨.hbm, 1585, rfl⟩
abbrev main_cst_113 : Ref sig .tc := ⟨.hbm, 1586, rfl⟩
abbrev main_v1463 : Ref sig .tc := ⟨.hbm, 1587, rfl⟩
abbrev main_v1464 : Ref sig .tc := ⟨.hbm, 1588, rfl⟩
abbrev main_v1465 : Ref sig .tc := ⟨.hbm, 1589, rfl⟩
abbrev main_v1466 : Ref sig .tc := ⟨.hbm, 1590, rfl⟩
abbrev main_cst_114 : Ref sig .tc := ⟨.hbm, 1591, rfl⟩
abbrev main_v1467 : Ref sig .tc := ⟨.hbm, 1592, rfl⟩
abbrev main_v1468 : Ref sig .tc := ⟨.hbm, 1593, rfl⟩
abbrev main_v1469 : Ref sig .tc := ⟨.hbm, 1594, rfl⟩
abbrev main_v1470 : Ref sig .tc := ⟨.hbm, 1595, rfl⟩
abbrev main_v1471 : Ref sig .tc := ⟨.hbm, 1596, rfl⟩
abbrev main_v1472 : Ref sig .tc := ⟨.hbm, 1597, rfl⟩
abbrev main_cst_115 : Ref sig .tc := ⟨.hbm, 1598, rfl⟩
abbrev main_v1473 : Ref sig .tc := ⟨.hbm, 1599, rfl⟩
abbrev main_v1474 : Ref sig .tc := ⟨.hbm, 1600, rfl⟩
abbrev main_v1475 : Ref sig .tc := ⟨.hbm, 1601, rfl⟩
abbrev main_v1476 : Ref sig .tc := ⟨.hbm, 1602, rfl⟩
abbrev main_v1477 : Ref sig .tc := ⟨.hbm, 1603, rfl⟩
abbrev main_v1478 : Ref sig .tc := ⟨.hbm, 1604, rfl⟩
abbrev main_v1479 : Ref sig .tc := ⟨.hbm, 1605, rfl⟩
abbrev main_cst_116 : Ref sig .tc := ⟨.hbm, 1606, rfl⟩
abbrev main_v1480 : Ref sig .tc := ⟨.hbm, 1607, rfl⟩
abbrev main_v1481 : Ref sig .tc := ⟨.hbm, 1608, rfl⟩
abbrev main_v1482 : Ref sig .tc := ⟨.hbm, 1609, rfl⟩
abbrev main_cst_117 : Ref sig .tc := ⟨.hbm, 1610, rfl⟩
abbrev main_v1483 : Ref sig .tc := ⟨.hbm, 1611, rfl⟩
abbrev main_v1484 : Ref sig .tc := ⟨.hbm, 1612, rfl⟩
abbrev main_v1485 : Ref sig .tc := ⟨.hbm, 1613, rfl⟩
abbrev main_v1486 : Ref sig .tc := ⟨.hbm, 1614, rfl⟩
abbrev main_v1487 : Ref sig .tc := ⟨.hbm, 1615, rfl⟩
abbrev main_v1488 : Ref sig .tc := ⟨.hbm, 1616, rfl⟩
abbrev main_v1489 : Ref sig .tc := ⟨.hbm, 1617, rfl⟩
abbrev main_v1490 : Ref sig .tc := ⟨.hbm, 1618, rfl⟩
abbrev main_v1491 : Ref sig .tc := ⟨.hbm, 1619, rfl⟩
abbrev main_v1492 : Ref sig .tc := ⟨.hbm, 1620, rfl⟩
abbrev main_v1493 : Ref sig .tc := ⟨.hbm, 1621, rfl⟩
abbrev main_v1494 : Ref sig .tc := ⟨.hbm, 1622, rfl⟩
abbrev main_v1495 : Ref sig .tc := ⟨.hbm, 1623, rfl⟩
abbrev main_v1496 : Ref sig .tc := ⟨.hbm, 1624, rfl⟩
abbrev main_v1497 : Ref sig .tc := ⟨.hbm, 1625, rfl⟩
abbrev main_v1498 : Ref sig .tc := ⟨.hbm, 1626, rfl⟩
abbrev main_v1499 : Ref sig .tc := ⟨.hbm, 1627, rfl⟩
abbrev main_v1500 : Ref sig .tc := ⟨.hbm, 1628, rfl⟩
abbrev main_v1501 : Ref sig .tc := ⟨.hbm, 1629, rfl⟩
abbrev main_v1502 : Ref sig .tc := ⟨.hbm, 1630, rfl⟩
abbrev main_v1503 : Ref sig .tc := ⟨.hbm, 1631, rfl⟩
abbrev main_v1504 : Ref sig .tc := ⟨.hbm, 1632, rfl⟩
abbrev main_v1505 : Ref sig .tc := ⟨.hbm, 1633, rfl⟩
abbrev main_v1506 : Ref sig .tc := ⟨.hbm, 1634, rfl⟩
abbrev main_v1507 : Ref sig .tc := ⟨.hbm, 1635, rfl⟩
abbrev main_v1508 : Ref sig .tc := ⟨.hbm, 1636, rfl⟩
abbrev main_v1509 : Ref sig .tc := ⟨.hbm, 1637, rfl⟩
abbrev main_v1510 : Ref sig .tc := ⟨.hbm, 1638, rfl⟩
abbrev main_v1511 : Ref sig .tc := ⟨.hbm, 1639, rfl⟩
abbrev main_v1512 : Ref sig .tc := ⟨.hbm, 1640, rfl⟩
abbrev main_v1513 : Ref sig .tc := ⟨.hbm, 1641, rfl⟩
abbrev main_v1514 : Ref sig .tc := ⟨.hbm, 1642, rfl⟩
abbrev main_v1515 : Ref sig .tc := ⟨.hbm, 1643, rfl⟩
abbrev main_v1516 : Ref sig .tc := ⟨.hbm, 1644, rfl⟩
abbrev main_v1517 : Ref sig .tc := ⟨.hbm, 1645, rfl⟩
abbrev main_v1518 : Ref sig .tc := ⟨.hbm, 1646, rfl⟩
abbrev main_v1519 : Ref sig .tc := ⟨.hbm, 1647, rfl⟩
abbrev main_v1520 : Ref sig .tc := ⟨.hbm, 1648, rfl⟩
abbrev main_v1521 : Ref sig .tc := ⟨.hbm, 1649, rfl⟩
abbrev main_v1522 : Ref sig .tc := ⟨.hbm, 1650, rfl⟩
abbrev main_v1523 : Ref sig .tc := ⟨.hbm, 1651, rfl⟩
abbrev main_v1524 : Ref sig .tc := ⟨.hbm, 1652, rfl⟩
abbrev main_v1525 : Ref sig .tc := ⟨.hbm, 1653, rfl⟩
abbrev main_v1526 : Ref sig .tc := ⟨.hbm, 1654, rfl⟩
abbrev main_cst_118 : Ref sig .tc := ⟨.hbm, 1655, rfl⟩
abbrev main_v1527 : Ref sig .tc := ⟨.hbm, 1656, rfl⟩
abbrev main_v1528 : Ref sig .tc := ⟨.hbm, 1657, rfl⟩
abbrev main_v1529 : Ref sig .tc := ⟨.hbm, 1658, rfl⟩
abbrev main_v1530 : Ref sig .tc := ⟨.hbm, 1659, rfl⟩
abbrev main_cst_119 : Ref sig .tc := ⟨.hbm, 1660, rfl⟩
abbrev main_v1531 : Ref sig .tc := ⟨.hbm, 1661, rfl⟩
abbrev main_v1532 : Ref sig .tc := ⟨.hbm, 1662, rfl⟩
abbrev main_v1533 : Ref sig .tc := ⟨.hbm, 1663, rfl⟩
abbrev main_v1534 : Ref sig .tc := ⟨.hbm, 1664, rfl⟩
abbrev main_v1535 : Ref sig .tc := ⟨.hbm, 1665, rfl⟩
abbrev main_v1536 : Ref sig .tc := ⟨.hbm, 1666, rfl⟩
abbrev main_cst_120 : Ref sig .tc := ⟨.hbm, 1667, rfl⟩
abbrev main_v1537 : Ref sig .tc := ⟨.hbm, 1668, rfl⟩
abbrev main_v1538 : Ref sig .tc := ⟨.hbm, 1669, rfl⟩
abbrev main_v1539 : Ref sig .tc := ⟨.hbm, 1670, rfl⟩
abbrev main_v1540 : Ref sig .tc := ⟨.hbm, 1671, rfl⟩
abbrev main_v1541 : Ref sig .tc := ⟨.hbm, 1672, rfl⟩
abbrev main_v1542 : Ref sig .tc := ⟨.hbm, 1673, rfl⟩
abbrev main_v1543 : Ref sig .tc := ⟨.hbm, 1674, rfl⟩
abbrev main_cst_121 : Ref sig .tc := ⟨.hbm, 1675, rfl⟩
abbrev main_v1544 : Ref sig .tc := ⟨.hbm, 1676, rfl⟩
abbrev main_v1545 : Ref sig .tc := ⟨.hbm, 1677, rfl⟩
abbrev main_v1546 : Ref sig .tc := ⟨.hbm, 1678, rfl⟩
abbrev main_cst_122 : Ref sig .tc := ⟨.hbm, 1679, rfl⟩
abbrev main_v1547 : Ref sig .tc := ⟨.hbm, 1680, rfl⟩
abbrev main_v1548 : Ref sig .tc := ⟨.hbm, 1681, rfl⟩
abbrev main_v1549 : Ref sig .tc := ⟨.hbm, 1682, rfl⟩
abbrev main_v1550 : Ref sig .tc := ⟨.hbm, 1683, rfl⟩
abbrev main_v1551 : Ref sig .tc := ⟨.hbm, 1684, rfl⟩
abbrev main_v1552 : Ref sig .tc := ⟨.hbm, 1685, rfl⟩
abbrev main_v1553 : Ref sig .tc := ⟨.hbm, 1686, rfl⟩
abbrev main_v1554 : Ref sig .tc := ⟨.hbm, 1687, rfl⟩
abbrev main_v1555 : Ref sig .tc := ⟨.hbm, 1688, rfl⟩
abbrev main_v1556 : Ref sig .tc := ⟨.hbm, 1689, rfl⟩
abbrev main_v1557 : Ref sig .tc := ⟨.hbm, 1690, rfl⟩
abbrev main_v1558 : Ref sig .tc := ⟨.hbm, 1691, rfl⟩
abbrev main_v1559 : Ref sig .tc := ⟨.hbm, 1692, rfl⟩
abbrev main_v1560 : Ref sig .tc := ⟨.hbm, 1693, rfl⟩
abbrev main_v1561 : Ref sig .tc := ⟨.hbm, 1694, rfl⟩
abbrev main_v1562 : Ref sig .tc := ⟨.hbm, 1695, rfl⟩
abbrev main_v1563 : Ref sig .tc := ⟨.hbm, 1696, rfl⟩
abbrev main_v1564 : Ref sig .tc := ⟨.hbm, 1697, rfl⟩
abbrev main_v1565 : Ref sig .tc := ⟨.hbm, 1698, rfl⟩
abbrev main_v1566 : Ref sig .tc := ⟨.hbm, 1699, rfl⟩
abbrev main_v1567 : Ref sig .tc := ⟨.hbm, 1700, rfl⟩
abbrev main_v1568 : Ref sig .tc := ⟨.hbm, 1701, rfl⟩
abbrev main_v1569 : Ref sig .tc := ⟨.hbm, 1702, rfl⟩
abbrev main_v1570 : Ref sig .tc := ⟨.hbm, 1703, rfl⟩
abbrev main_v1571 : Ref sig .tc := ⟨.hbm, 1704, rfl⟩
abbrev main_v1572 : Ref sig .tc := ⟨.hbm, 1705, rfl⟩
abbrev main_v1573 : Ref sig .tc := ⟨.hbm, 1706, rfl⟩
abbrev main_v1574 : Ref sig .tc := ⟨.hbm, 1707, rfl⟩
abbrev main_v1575 : Ref sig .tc := ⟨.hbm, 1708, rfl⟩
abbrev main_v1576 : Ref sig .tc := ⟨.hbm, 1709, rfl⟩
abbrev main_v1577 : Ref sig .tc := ⟨.hbm, 1710, rfl⟩
abbrev main_v1578 : Ref sig .tc := ⟨.hbm, 1711, rfl⟩
abbrev main_v1579 : Ref sig .tc := ⟨.hbm, 1712, rfl⟩
abbrev main_v1580 : Ref sig .tc := ⟨.hbm, 1713, rfl⟩
abbrev main_v1581 : Ref sig .tc := ⟨.hbm, 1714, rfl⟩
abbrev main_v1582 : Ref sig .tc := ⟨.hbm, 1715, rfl⟩
abbrev main_v1583 : Ref sig .tc := ⟨.hbm, 1716, rfl⟩
abbrev main_v1584 : Ref sig .tc := ⟨.hbm, 1717, rfl⟩
abbrev main_v1585 : Ref sig .tc := ⟨.hbm, 1718, rfl⟩
abbrev main_v1586 : Ref sig .tc := ⟨.hbm, 1719, rfl⟩
abbrev main_v1587 : Ref sig .tc := ⟨.hbm, 1720, rfl⟩
abbrev main_v1588 : Ref sig .tc := ⟨.hbm, 1721, rfl⟩
abbrev main_v1589 : Ref sig .tc := ⟨.hbm, 1722, rfl⟩
abbrev main_v1590 : Ref sig .tc := ⟨.hbm, 1723, rfl⟩
abbrev main_cst_123 : Ref sig .tc := ⟨.hbm, 1724, rfl⟩
abbrev main_v1591 : Ref sig .tc := ⟨.hbm, 1725, rfl⟩
abbrev main_v1592 : Ref sig .tc := ⟨.hbm, 1726, rfl⟩
abbrev main_v1593 : Ref sig .tc := ⟨.hbm, 1727, rfl⟩
abbrev main_v1594 : Ref sig .tc := ⟨.hbm, 1728, rfl⟩
abbrev main_cst_124 : Ref sig .tc := ⟨.hbm, 1729, rfl⟩
abbrev main_v1595 : Ref sig .tc := ⟨.hbm, 1730, rfl⟩
abbrev main_v1596 : Ref sig .tc := ⟨.hbm, 1731, rfl⟩
abbrev main_v1597 : Ref sig .tc := ⟨.hbm, 1732, rfl⟩
abbrev main_v1598 : Ref sig .tc := ⟨.hbm, 1733, rfl⟩
abbrev main_v1599 : Ref sig .tc := ⟨.hbm, 1734, rfl⟩
abbrev main_v1600 : Ref sig .tc := ⟨.hbm, 1735, rfl⟩
abbrev main_cst_125 : Ref sig .tc := ⟨.hbm, 1736, rfl⟩
abbrev main_v1601 : Ref sig .tc := ⟨.hbm, 1737, rfl⟩
abbrev main_v1602 : Ref sig .tc := ⟨.hbm, 1738, rfl⟩
abbrev main_v1603 : Ref sig .tc := ⟨.hbm, 1739, rfl⟩
abbrev main_v1604 : Ref sig .tc := ⟨.hbm, 1740, rfl⟩
abbrev main_v1605 : Ref sig .tc := ⟨.hbm, 1741, rfl⟩
abbrev main_v1606 : Ref sig .tc := ⟨.hbm, 1742, rfl⟩
abbrev main_v1607 : Ref sig .tc := ⟨.hbm, 1743, rfl⟩
abbrev main_cst_126 : Ref sig .tc := ⟨.hbm, 1744, rfl⟩
abbrev main_v1608 : Ref sig .tc := ⟨.hbm, 1745, rfl⟩
abbrev main_v1609 : Ref sig .tc := ⟨.hbm, 1746, rfl⟩
abbrev main_v1610 : Ref sig .tc := ⟨.hbm, 1747, rfl⟩
abbrev main_cst_127 : Ref sig .tc := ⟨.hbm, 1748, rfl⟩
abbrev main_v1611 : Ref sig .tc := ⟨.hbm, 1749, rfl⟩
abbrev main_v1612 : Ref sig .tc := ⟨.hbm, 1750, rfl⟩
abbrev main_v1613 : Ref sig .tc := ⟨.hbm, 1751, rfl⟩
abbrev main_v1614 : Ref sig .tc := ⟨.hbm, 1752, rfl⟩
abbrev main_v1615 : Ref sig .tc := ⟨.hbm, 1753, rfl⟩
abbrev main_v1616 : Ref sig .tc := ⟨.hbm, 1754, rfl⟩
abbrev main_v1617 : Ref sig .tc := ⟨.hbm, 1755, rfl⟩
abbrev main_v1618 : Ref sig .tc := ⟨.hbm, 1756, rfl⟩
abbrev main_v1619 : Ref sig .tc := ⟨.hbm, 1757, rfl⟩
abbrev main_v1620 : Ref sig .tc := ⟨.hbm, 1758, rfl⟩
abbrev main_v1621 : Ref sig .tc := ⟨.hbm, 1759, rfl⟩
abbrev main_v1622 : Ref sig .tc := ⟨.hbm, 1760, rfl⟩
abbrev main_v1623 : Ref sig .tc := ⟨.hbm, 1761, rfl⟩
abbrev main_v1624 : Ref sig .tc := ⟨.hbm, 1762, rfl⟩
abbrev main_v1625 : Ref sig .tc := ⟨.hbm, 1763, rfl⟩
abbrev main_v1626 : Ref sig .tc := ⟨.hbm, 1764, rfl⟩
abbrev main_v1627 : Ref sig .tc := ⟨.hbm, 1765, rfl⟩
abbrev main_v1628 : Ref sig .tc := ⟨.hbm, 1766, rfl⟩
abbrev main_v1629 : Ref sig .tc := ⟨.hbm, 1767, rfl⟩
abbrev main_v1630 : Ref sig .tc := ⟨.hbm, 1768, rfl⟩
abbrev main_v1631 : Ref sig .tc := ⟨.hbm, 1769, rfl⟩
abbrev main_v1632 : Ref sig .tc := ⟨.hbm, 1770, rfl⟩
abbrev main_v1633 : Ref sig .tc := ⟨.hbm, 1771, rfl⟩
abbrev main_v1634 : Ref sig .tc := ⟨.hbm, 1772, rfl⟩
abbrev main_v1635 : Ref sig .tc := ⟨.hbm, 1773, rfl⟩
abbrev main_v1636 : Ref sig .tc := ⟨.hbm, 1774, rfl⟩
abbrev main_v1637 : Ref sig .tc := ⟨.hbm, 1775, rfl⟩
abbrev main_v1638 : Ref sig .tc := ⟨.hbm, 1776, rfl⟩
abbrev main_v1639 : Ref sig .tc := ⟨.hbm, 1777, rfl⟩
abbrev main_v1640 : Ref sig .tc := ⟨.hbm, 1778, rfl⟩
abbrev main_v1641 : Ref sig .tc := ⟨.hbm, 1779, rfl⟩
abbrev main_v1642 : Ref sig .tc := ⟨.hbm, 1780, rfl⟩
abbrev main_v1643 : Ref sig .tc := ⟨.hbm, 1781, rfl⟩
abbrev main_v1644 : Ref sig .tc := ⟨.hbm, 1782, rfl⟩
abbrev main_v1645 : Ref sig .tc := ⟨.hbm, 1783, rfl⟩
abbrev main_v1646 : Ref sig .tc := ⟨.hbm, 1784, rfl⟩
abbrev main_v1647 : Ref sig .tc := ⟨.hbm, 1785, rfl⟩
abbrev main_v1648 : Ref sig .tc := ⟨.hbm, 1786, rfl⟩
abbrev main_v1649 : Ref sig .tc := ⟨.hbm, 1787, rfl⟩
abbrev main_v1650 : Ref sig .tc := ⟨.hbm, 1788, rfl⟩
abbrev main_v1651 : Ref sig .tc := ⟨.hbm, 1789, rfl⟩
abbrev main_v1652 : Ref sig .tc := ⟨.hbm, 1790, rfl⟩
abbrev main_v1653 : Ref sig .tc := ⟨.hbm, 1791, rfl⟩
abbrev main_v1654 : Ref sig .tc := ⟨.hbm, 1792, rfl⟩
abbrev main_cst_128 : Ref sig .tc := ⟨.hbm, 1793, rfl⟩
abbrev main_v1655 : Ref sig .tc := ⟨.hbm, 1794, rfl⟩
abbrev main_v1656 : Ref sig .tc := ⟨.hbm, 1795, rfl⟩
abbrev main_v1657 : Ref sig .tc := ⟨.hbm, 1796, rfl⟩
abbrev main_v1658 : Ref sig .tc := ⟨.hbm, 1797, rfl⟩
abbrev main_cst_129 : Ref sig .tc := ⟨.hbm, 1798, rfl⟩
abbrev main_v1659 : Ref sig .tc := ⟨.hbm, 1799, rfl⟩
abbrev main_v1660 : Ref sig .tc := ⟨.hbm, 1800, rfl⟩
abbrev main_v1661 : Ref sig .tc := ⟨.hbm, 1801, rfl⟩
abbrev main_v1662 : Ref sig .tc := ⟨.hbm, 1802, rfl⟩
abbrev main_v1663 : Ref sig .tc := ⟨.hbm, 1803, rfl⟩
abbrev main_v1664 : Ref sig .tc := ⟨.hbm, 1804, rfl⟩
abbrev main_cst_130 : Ref sig .tc := ⟨.hbm, 1805, rfl⟩
abbrev main_v1665 : Ref sig .tc := ⟨.hbm, 1806, rfl⟩
abbrev main_v1666 : Ref sig .tc := ⟨.hbm, 1807, rfl⟩
abbrev main_v1667 : Ref sig .tc := ⟨.hbm, 1808, rfl⟩
abbrev main_v1668 : Ref sig .tc := ⟨.hbm, 1809, rfl⟩
abbrev main_v1669 : Ref sig .tc := ⟨.hbm, 1810, rfl⟩
abbrev main_v1670 : Ref sig .tc := ⟨.hbm, 1811, rfl⟩
abbrev main_v1671 : Ref sig .tc := ⟨.hbm, 1812, rfl⟩
abbrev main_cst_131 : Ref sig .tc := ⟨.hbm, 1813, rfl⟩
abbrev main_v1672 : Ref sig .tc := ⟨.hbm, 1814, rfl⟩
abbrev main_v1673 : Ref sig .tc := ⟨.hbm, 1815, rfl⟩
abbrev main_v1674 : Ref sig .tc := ⟨.hbm, 1816, rfl⟩
abbrev main_cst_132 : Ref sig .tc := ⟨.hbm, 1817, rfl⟩
abbrev main_v1675 : Ref sig .tc := ⟨.hbm, 1818, rfl⟩
abbrev main_v1676 : Ref sig .tc := ⟨.hbm, 1819, rfl⟩
abbrev main_v1677 : Ref sig .tc := ⟨.hbm, 1820, rfl⟩
abbrev main_v1678 : Ref sig .tc := ⟨.hbm, 1821, rfl⟩
abbrev main_v1679 : Ref sig .tc := ⟨.hbm, 1822, rfl⟩
abbrev main_v1680 : Ref sig .tc := ⟨.hbm, 1823, rfl⟩
abbrev main_v1681 : Ref sig .tc := ⟨.hbm, 1824, rfl⟩
abbrev main_v1682 : Ref sig .tc := ⟨.hbm, 1825, rfl⟩
abbrev main_v1683 : Ref sig .tc := ⟨.hbm, 1826, rfl⟩
abbrev main_v1684 : Ref sig .tc := ⟨.hbm, 1827, rfl⟩
abbrev main_v1685 : Ref sig .tc := ⟨.hbm, 1828, rfl⟩
abbrev main_v1686 : Ref sig .tc := ⟨.hbm, 1829, rfl⟩
abbrev main_v1687 : Ref sig .tc := ⟨.hbm, 1830, rfl⟩
abbrev main_v1688 : Ref sig .tc := ⟨.hbm, 1831, rfl⟩
abbrev main_v1689 : Ref sig .tc := ⟨.hbm, 1832, rfl⟩
abbrev main_v1690 : Ref sig .tc := ⟨.hbm, 1833, rfl⟩
abbrev main_v1691 : Ref sig .tc := ⟨.hbm, 1834, rfl⟩
abbrev main_v1692 : Ref sig .tc := ⟨.hbm, 1835, rfl⟩
abbrev main_v1693 : Ref sig .tc := ⟨.hbm, 1836, rfl⟩
abbrev main_v1694 : Ref sig .tc := ⟨.hbm, 1837, rfl⟩
abbrev main_v1695 : Ref sig .tc := ⟨.hbm, 1838, rfl⟩
abbrev main_v1696 : Ref sig .tc := ⟨.hbm, 1839, rfl⟩
abbrev main_v1697 : Ref sig .tc := ⟨.hbm, 1840, rfl⟩
abbrev main_v1698 : Ref sig .tc := ⟨.hbm, 1841, rfl⟩
abbrev main_v1699 : Ref sig .tc := ⟨.hbm, 1842, rfl⟩
abbrev main_v1700 : Ref sig .tc := ⟨.hbm, 1843, rfl⟩
abbrev main_v1701 : Ref sig .tc := ⟨.hbm, 1844, rfl⟩
abbrev main_v1702 : Ref sig .tc := ⟨.hbm, 1845, rfl⟩
abbrev main_v1703 : Ref sig .tc := ⟨.hbm, 1846, rfl⟩
abbrev main_v1704 : Ref sig .tc := ⟨.hbm, 1847, rfl⟩
abbrev main_v1705 : Ref sig .tc := ⟨.hbm, 1848, rfl⟩
abbrev main_v1706 : Ref sig .tc := ⟨.hbm, 1849, rfl⟩
abbrev main_v1707 : Ref sig .tc := ⟨.hbm, 1850, rfl⟩
abbrev main_v1708 : Ref sig .tc := ⟨.hbm, 1851, rfl⟩
abbrev main_v1709 : Ref sig .tc := ⟨.hbm, 1852, rfl⟩
abbrev main_v1710 : Ref sig .tc := ⟨.hbm, 1853, rfl⟩
abbrev main_v1711 : Ref sig .tc := ⟨.hbm, 1854, rfl⟩
abbrev main_v1712 : Ref sig .tc := ⟨.hbm, 1855, rfl⟩
abbrev main_v1713 : Ref sig .tc := ⟨.hbm, 1856, rfl⟩
abbrev main_v1714 : Ref sig .tc := ⟨.hbm, 1857, rfl⟩
abbrev main_v1715 : Ref sig .tc := ⟨.hbm, 1858, rfl⟩
abbrev main_v1716 : Ref sig .tc := ⟨.hbm, 1859, rfl⟩
abbrev main_v1717 : Ref sig .tc := ⟨.hbm, 1860, rfl⟩
abbrev main_v1718 : Ref sig .tc := ⟨.hbm, 1861, rfl⟩
abbrev main_cst_133 : Ref sig .tc := ⟨.hbm, 1862, rfl⟩
abbrev main_v1719 : Ref sig .tc := ⟨.hbm, 1863, rfl⟩
abbrev main_v1720 : Ref sig .tc := ⟨.hbm, 1864, rfl⟩
abbrev main_v1721 : Ref sig .tc := ⟨.hbm, 1865, rfl⟩
abbrev main_v1722 : Ref sig .tc := ⟨.hbm, 1866, rfl⟩
abbrev main_cst_134 : Ref sig .tc := ⟨.hbm, 1867, rfl⟩
abbrev main_v1723 : Ref sig .tc := ⟨.hbm, 1868, rfl⟩
abbrev main_v1724 : Ref sig .tc := ⟨.hbm, 1869, rfl⟩
abbrev main_v1725 : Ref sig .tc := ⟨.hbm, 1870, rfl⟩
abbrev main_v1726 : Ref sig .tc := ⟨.hbm, 1871, rfl⟩
abbrev main_v1727 : Ref sig .tc := ⟨.hbm, 1872, rfl⟩
abbrev main_v1728 : Ref sig .tc := ⟨.hbm, 1873, rfl⟩
abbrev main_cst_135 : Ref sig .tc := ⟨.hbm, 1874, rfl⟩
abbrev main_v1729 : Ref sig .tc := ⟨.hbm, 1875, rfl⟩
abbrev main_v1730 : Ref sig .tc := ⟨.hbm, 1876, rfl⟩
abbrev main_v1731 : Ref sig .tc := ⟨.hbm, 1877, rfl⟩
abbrev main_v1732 : Ref sig .tc := ⟨.hbm, 1878, rfl⟩
abbrev main_v1733 : Ref sig .tc := ⟨.hbm, 1879, rfl⟩
abbrev main_v1734 : Ref sig .tc := ⟨.hbm, 1880, rfl⟩
abbrev main_v1735 : Ref sig .tc := ⟨.hbm, 1881, rfl⟩
abbrev main_cst_136 : Ref sig .tc := ⟨.hbm, 1882, rfl⟩
abbrev main_v1736 : Ref sig .tc := ⟨.hbm, 1883, rfl⟩
abbrev main_v1737 : Ref sig .tc := ⟨.hbm, 1884, rfl⟩
abbrev main_v1738 : Ref sig .tc := ⟨.hbm, 1885, rfl⟩
abbrev main_cst_137 : Ref sig .tc := ⟨.hbm, 1886, rfl⟩
abbrev main_v1739 : Ref sig .tc := ⟨.hbm, 1887, rfl⟩
abbrev main_v1740 : Ref sig .tc := ⟨.hbm, 1888, rfl⟩
abbrev main_v1741 : Ref sig .tc := ⟨.hbm, 1889, rfl⟩
abbrev main_v1742 : Ref sig .tc := ⟨.hbm, 1890, rfl⟩
abbrev main_v1743 : Ref sig .tc := ⟨.hbm, 1891, rfl⟩
abbrev main_v1744 : Ref sig .tc := ⟨.hbm, 1892, rfl⟩
abbrev main_v1745 : Ref sig .tc := ⟨.hbm, 1893, rfl⟩
abbrev main_v1746 : Ref sig .tc := ⟨.hbm, 1894, rfl⟩
abbrev main_v1747 : Ref sig .tc := ⟨.hbm, 1895, rfl⟩
abbrev main_v1748 : Ref sig .tc := ⟨.hbm, 1896, rfl⟩
abbrev main_v1749 : Ref sig .tc := ⟨.hbm, 1897, rfl⟩
abbrev main_v1750 : Ref sig .tc := ⟨.hbm, 1898, rfl⟩
abbrev main_v1751 : Ref sig .tc := ⟨.hbm, 1899, rfl⟩
abbrev main_v1752 : Ref sig .tc := ⟨.hbm, 1900, rfl⟩
abbrev main_v1753 : Ref sig .tc := ⟨.hbm, 1901, rfl⟩
abbrev main_v1754 : Ref sig .tc := ⟨.hbm, 1902, rfl⟩
abbrev main_v1755 : Ref sig .tc := ⟨.hbm, 1903, rfl⟩
abbrev main_v1756 : Ref sig .tc := ⟨.hbm, 1904, rfl⟩
abbrev main_v1757 : Ref sig .tc := ⟨.hbm, 1905, rfl⟩
abbrev main_v1758 : Ref sig .tc := ⟨.hbm, 1906, rfl⟩
abbrev main_v1759 : Ref sig .tc := ⟨.hbm, 1907, rfl⟩
abbrev main_v1760 : Ref sig .tc := ⟨.hbm, 1908, rfl⟩
abbrev main_v1761 : Ref sig .tc := ⟨.hbm, 1909, rfl⟩
abbrev main_v1762 : Ref sig .tc := ⟨.hbm, 1910, rfl⟩
abbrev main_v1763 : Ref sig .tc := ⟨.hbm, 1911, rfl⟩
abbrev main_v1764 : Ref sig .tc := ⟨.hbm, 1912, rfl⟩
abbrev main_v1765 : Ref sig .tc := ⟨.hbm, 1913, rfl⟩
abbrev main_v1766 : Ref sig .tc := ⟨.hbm, 1914, rfl⟩
abbrev main_v1767 : Ref sig .tc := ⟨.hbm, 1915, rfl⟩
abbrev main_v1768 : Ref sig .tc := ⟨.hbm, 1916, rfl⟩
abbrev main_v1769 : Ref sig .tc := ⟨.hbm, 1917, rfl⟩
abbrev main_v1770 : Ref sig .tc := ⟨.hbm, 1918, rfl⟩
abbrev main_v1771 : Ref sig .tc := ⟨.hbm, 1919, rfl⟩
abbrev main_v1772 : Ref sig .tc := ⟨.hbm, 1920, rfl⟩
abbrev main_v1773 : Ref sig .tc := ⟨.hbm, 1921, rfl⟩
abbrev main_v1774 : Ref sig .tc := ⟨.hbm, 1922, rfl⟩
abbrev main_v1775 : Ref sig .tc := ⟨.hbm, 1923, rfl⟩
abbrev main_v1776 : Ref sig .tc := ⟨.hbm, 1924, rfl⟩
abbrev main_v1777 : Ref sig .tc := ⟨.hbm, 1925, rfl⟩
abbrev main_v1778 : Ref sig .tc := ⟨.hbm, 1926, rfl⟩
abbrev main_v1779 : Ref sig .tc := ⟨.hbm, 1927, rfl⟩
abbrev main_v1780 : Ref sig .tc := ⟨.hbm, 1928, rfl⟩
abbrev main_v1781 : Ref sig .tc := ⟨.hbm, 1929, rfl⟩
abbrev main_v1782 : Ref sig .tc := ⟨.hbm, 1930, rfl⟩
abbrev main_cst_138 : Ref sig .tc := ⟨.hbm, 1931, rfl⟩
abbrev main_v1783 : Ref sig .tc := ⟨.hbm, 1932, rfl⟩
abbrev main_v1784 : Ref sig .tc := ⟨.hbm, 1933, rfl⟩
abbrev main_v1785 : Ref sig .tc := ⟨.hbm, 1934, rfl⟩
abbrev main_v1786 : Ref sig .tc := ⟨.hbm, 1935, rfl⟩
abbrev main_cst_139 : Ref sig .tc := ⟨.hbm, 1936, rfl⟩
abbrev main_v1787 : Ref sig .tc := ⟨.hbm, 1937, rfl⟩
abbrev main_v1788 : Ref sig .tc := ⟨.hbm, 1938, rfl⟩
abbrev main_v1789 : Ref sig .tc := ⟨.hbm, 1939, rfl⟩
abbrev main_v1790 : Ref sig .tc := ⟨.hbm, 1940, rfl⟩
abbrev main_v1791 : Ref sig .tc := ⟨.hbm, 1941, rfl⟩
abbrev main_v1792 : Ref sig .tc := ⟨.hbm, 1942, rfl⟩
abbrev main_cst_140 : Ref sig .tc := ⟨.hbm, 1943, rfl⟩
abbrev main_v1793 : Ref sig .tc := ⟨.hbm, 1944, rfl⟩
abbrev main_v1794 : Ref sig .tc := ⟨.hbm, 1945, rfl⟩
abbrev main_v1795 : Ref sig .tc := ⟨.hbm, 1946, rfl⟩
abbrev main_v1796 : Ref sig .tc := ⟨.hbm, 1947, rfl⟩
abbrev main_v1797 : Ref sig .tc := ⟨.hbm, 1948, rfl⟩
abbrev main_v1798 : Ref sig .tc := ⟨.hbm, 1949, rfl⟩
abbrev main_v1799 : Ref sig .tc := ⟨.hbm, 1950, rfl⟩
abbrev main_cst_141 : Ref sig .tc := ⟨.hbm, 1951, rfl⟩
abbrev main_v1800 : Ref sig .tc := ⟨.hbm, 1952, rfl⟩
abbrev main_v1801 : Ref sig .tc := ⟨.hbm, 1953, rfl⟩
abbrev main_v1802 : Ref sig .tc := ⟨.hbm, 1954, rfl⟩
abbrev main_cst_142 : Ref sig .tc := ⟨.hbm, 1955, rfl⟩
abbrev main_v1803 : Ref sig .tc := ⟨.hbm, 1956, rfl⟩
abbrev main_v1804 : Ref sig .tc := ⟨.hbm, 1957, rfl⟩
abbrev main_v1805 : Ref sig .tc := ⟨.hbm, 1958, rfl⟩
abbrev main_v1806 : Ref sig .tc := ⟨.hbm, 1959, rfl⟩
abbrev main_v1807 : Ref sig .tc := ⟨.hbm, 1960, rfl⟩
abbrev main_v1808 : Ref sig .tc := ⟨.hbm, 1961, rfl⟩
abbrev main_v1809 : Ref sig .tc := ⟨.hbm, 1962, rfl⟩
abbrev main_v1810 : Ref sig .tc := ⟨.hbm, 1963, rfl⟩
abbrev main_v1811 : Ref sig .tc := ⟨.hbm, 1964, rfl⟩
abbrev main_v1812 : Ref sig .tc := ⟨.hbm, 1965, rfl⟩
abbrev main_v1813 : Ref sig .tc := ⟨.hbm, 1966, rfl⟩
abbrev main_v1814 : Ref sig .tc := ⟨.hbm, 1967, rfl⟩
abbrev main_v1815 : Ref sig .tc := ⟨.hbm, 1968, rfl⟩
abbrev main_v1816 : Ref sig .tc := ⟨.hbm, 1969, rfl⟩
abbrev main_v1817 : Ref sig .tc := ⟨.hbm, 1970, rfl⟩
abbrev main_v1818 : Ref sig .tc := ⟨.hbm, 1971, rfl⟩
abbrev main_v1819 : Ref sig .tc := ⟨.hbm, 1972, rfl⟩
abbrev main_v1820 : Ref sig .tc := ⟨.hbm, 1973, rfl⟩
abbrev main_v1821 : Ref sig .tc := ⟨.hbm, 1974, rfl⟩
abbrev main_v1822 : Ref sig .tc := ⟨.hbm, 1975, rfl⟩
abbrev main_v1823 : Ref sig .tc := ⟨.hbm, 1976, rfl⟩
abbrev main_v1824 : Ref sig .tc := ⟨.hbm, 1977, rfl⟩
abbrev main_v1825 : Ref sig .tc := ⟨.hbm, 1978, rfl⟩
abbrev main_v1826 : Ref sig .tc := ⟨.hbm, 1979, rfl⟩
abbrev main_v1827 : Ref sig .tc := ⟨.hbm, 1980, rfl⟩
abbrev main_v1828 : Ref sig .tc := ⟨.hbm, 1981, rfl⟩
abbrev main_v1829 : Ref sig .tc := ⟨.hbm, 1982, rfl⟩
abbrev main_v1830 : Ref sig .tc := ⟨.hbm, 1983, rfl⟩
abbrev main_v1831 : Ref sig .tc := ⟨.hbm, 1984, rfl⟩
abbrev main_v1832 : Ref sig .tc := ⟨.hbm, 1985, rfl⟩
abbrev main_v1833 : Ref sig .tc := ⟨.hbm, 1986, rfl⟩
abbrev main_v1834 : Ref sig .tc := ⟨.hbm, 1987, rfl⟩
abbrev main_v1835 : Ref sig .tc := ⟨.hbm, 1988, rfl⟩
abbrev main_v1836 : Ref sig .tc := ⟨.hbm, 1989, rfl⟩
abbrev main_v1837 : Ref sig .tc := ⟨.hbm, 1990, rfl⟩
abbrev main_v1838 : Ref sig .tc := ⟨.hbm, 1991, rfl⟩
abbrev main_v1839 : Ref sig .tc := ⟨.hbm, 1992, rfl⟩
abbrev main_v1840 : Ref sig .tc := ⟨.hbm, 1993, rfl⟩
abbrev main_v1841 : Ref sig .tc := ⟨.hbm, 1994, rfl⟩
abbrev main_v1842 : Ref sig .tc := ⟨.hbm, 1995, rfl⟩
abbrev main_v1843 : Ref sig .tc := ⟨.hbm, 1996, rfl⟩
abbrev main_v1844 : Ref sig .tc := ⟨.hbm, 1997, rfl⟩
abbrev main_v1845 : Ref sig .tc := ⟨.hbm, 1998, rfl⟩
abbrev main_v1846 : Ref sig .tc := ⟨.hbm, 1999, rfl⟩
abbrev main_cst_143 : Ref sig .tc := ⟨.hbm, 2000, rfl⟩
abbrev main_v1847 : Ref sig .tc := ⟨.hbm, 2001, rfl⟩
abbrev main_v1848 : Ref sig .tc := ⟨.hbm, 2002, rfl⟩
abbrev main_v1849 : Ref sig .tc := ⟨.hbm, 2003, rfl⟩
abbrev main_v1850 : Ref sig .tc := ⟨.hbm, 2004, rfl⟩
abbrev main_cst_144 : Ref sig .tc := ⟨.hbm, 2005, rfl⟩
abbrev main_v1851 : Ref sig .tc := ⟨.hbm, 2006, rfl⟩
abbrev main_v1852 : Ref sig .tc := ⟨.hbm, 2007, rfl⟩
abbrev main_v1853 : Ref sig .tc := ⟨.hbm, 2008, rfl⟩
abbrev main_v1854 : Ref sig .tc := ⟨.hbm, 2009, rfl⟩
abbrev main_v1855 : Ref sig .tc := ⟨.hbm, 2010, rfl⟩
abbrev main_v1856 : Ref sig .tc := ⟨.hbm, 2011, rfl⟩
abbrev main_cst_145 : Ref sig .tc := ⟨.hbm, 2012, rfl⟩
abbrev main_v1857 : Ref sig .tc := ⟨.hbm, 2013, rfl⟩
abbrev main_v1858 : Ref sig .tc := ⟨.hbm, 2014, rfl⟩
abbrev main_v1859 : Ref sig .tc := ⟨.hbm, 2015, rfl⟩
abbrev main_v1860 : Ref sig .tc := ⟨.hbm, 2016, rfl⟩
abbrev main_v1861 : Ref sig .tc := ⟨.hbm, 2017, rfl⟩
abbrev main_v1862 : Ref sig .tc := ⟨.hbm, 2018, rfl⟩
abbrev main_v1863 : Ref sig .tc := ⟨.hbm, 2019, rfl⟩
abbrev main_cst_146 : Ref sig .tc := ⟨.hbm, 2020, rfl⟩
abbrev main_v1864 : Ref sig .tc := ⟨.hbm, 2021, rfl⟩
abbrev main_v1865 : Ref sig .tc := ⟨.hbm, 2022, rfl⟩
abbrev main_v1866 : Ref sig .tc := ⟨.hbm, 2023, rfl⟩
abbrev main_cst_147 : Ref sig .tc := ⟨.hbm, 2024, rfl⟩
abbrev main_v1867 : Ref sig .tc := ⟨.hbm, 2025, rfl⟩
abbrev main_v1868 : Ref sig .tc := ⟨.hbm, 2026, rfl⟩
abbrev main_v1869 : Ref sig .tc := ⟨.hbm, 2027, rfl⟩
abbrev main_v1870 : Ref sig .tc := ⟨.hbm, 2028, rfl⟩
abbrev main_v1871 : Ref sig .tc := ⟨.hbm, 2029, rfl⟩
abbrev main_v1872 : Ref sig .tc := ⟨.hbm, 2030, rfl⟩
abbrev main_v1873 : Ref sig .tc := ⟨.hbm, 2031, rfl⟩
abbrev main_v1874 : Ref sig .tc := ⟨.hbm, 2032, rfl⟩
abbrev main_v1875 : Ref sig .tc := ⟨.hbm, 2033, rfl⟩
abbrev main_v1876 : Ref sig .tc := ⟨.hbm, 2034, rfl⟩
abbrev main_v1877 : Ref sig .tc := ⟨.hbm, 2035, rfl⟩
abbrev main_v1878 : Ref sig .tc := ⟨.hbm, 2036, rfl⟩
abbrev main_v1879 : Ref sig .tc := ⟨.hbm, 2037, rfl⟩
abbrev main_v1880 : Ref sig .tc := ⟨.hbm, 2038, rfl⟩
abbrev main_v1881 : Ref sig .tc := ⟨.hbm, 2039, rfl⟩
abbrev main_v1882 : Ref sig .tc := ⟨.hbm, 2040, rfl⟩
abbrev main_v1883 : Ref sig .tc := ⟨.hbm, 2041, rfl⟩
abbrev main_v1884 : Ref sig .tc := ⟨.hbm, 2042, rfl⟩
abbrev main_v1885 : Ref sig .tc := ⟨.hbm, 2043, rfl⟩
abbrev main_v1886 : Ref sig .tc := ⟨.hbm, 2044, rfl⟩
abbrev main_v1887 : Ref sig .tc := ⟨.hbm, 2045, rfl⟩
abbrev main_v1888 : Ref sig .tc := ⟨.hbm, 2046, rfl⟩
abbrev main_v1889 : Ref sig .tc := ⟨.hbm, 2047, rfl⟩
abbrev main_v1890 : Ref sig .tc := ⟨.hbm, 2048, rfl⟩
abbrev main_v1891 : Ref sig .tc := ⟨.hbm, 2049, rfl⟩
abbrev main_v1892 : Ref sig .tc := ⟨.hbm, 2050, rfl⟩
abbrev main_v1893 : Ref sig .tc := ⟨.hbm, 2051, rfl⟩
abbrev main_v1894 : Ref sig .tc := ⟨.hbm, 2052, rfl⟩
abbrev main_v1895 : Ref sig .tc := ⟨.hbm, 2053, rfl⟩
abbrev main_v1896 : Ref sig .tc := ⟨.hbm, 2054, rfl⟩
abbrev main_v1897 : Ref sig .tc := ⟨.hbm, 2055, rfl⟩
abbrev main_v1898 : Ref sig .tc := ⟨.hbm, 2056, rfl⟩
abbrev main_v1899 : Ref sig .tc := ⟨.hbm, 2057, rfl⟩
abbrev main_v1900 : Ref sig .tc := ⟨.hbm, 2058, rfl⟩
abbrev main_v1901 : Ref sig .tc := ⟨.hbm, 2059, rfl⟩
abbrev main_v1902 : Ref sig .tc := ⟨.hbm, 2060, rfl⟩
abbrev main_v1903 : Ref sig .tc := ⟨.hbm, 2061, rfl⟩
abbrev main_v1904 : Ref sig .tc := ⟨.hbm, 2062, rfl⟩
abbrev main_v1905 : Ref sig .tc := ⟨.hbm, 2063, rfl⟩
abbrev main_v1906 : Ref sig .tc := ⟨.hbm, 2064, rfl⟩
abbrev main_v1907 : Ref sig .tc := ⟨.hbm, 2065, rfl⟩
abbrev main_v1908 : Ref sig .tc := ⟨.hbm, 2066, rfl⟩
abbrev main_v1909 : Ref sig .tc := ⟨.hbm, 2067, rfl⟩
abbrev main_v1910 : Ref sig .tc := ⟨.hbm, 2068, rfl⟩
abbrev main_cst_148 : Ref sig .tc := ⟨.hbm, 2069, rfl⟩
abbrev main_v1911 : Ref sig .tc := ⟨.hbm, 2070, rfl⟩
abbrev main_v1912 : Ref sig .tc := ⟨.hbm, 2071, rfl⟩
abbrev main_v1913 : Ref sig .tc := ⟨.hbm, 2072, rfl⟩
abbrev main_v1914 : Ref sig .tc := ⟨.hbm, 2073, rfl⟩
abbrev main_cst_149 : Ref sig .tc := ⟨.hbm, 2074, rfl⟩
abbrev main_v1915 : Ref sig .tc := ⟨.hbm, 2075, rfl⟩
abbrev main_v1916 : Ref sig .tc := ⟨.hbm, 2076, rfl⟩
abbrev main_v1917 : Ref sig .tc := ⟨.hbm, 2077, rfl⟩
abbrev main_v1918 : Ref sig .tc := ⟨.hbm, 2078, rfl⟩
abbrev main_v1919 : Ref sig .tc := ⟨.hbm, 2079, rfl⟩
abbrev main_v1920 : Ref sig .tc := ⟨.hbm, 2080, rfl⟩
abbrev main_cst_150 : Ref sig .tc := ⟨.hbm, 2081, rfl⟩
abbrev main_v1921 : Ref sig .tc := ⟨.hbm, 2082, rfl⟩
abbrev main_v1922 : Ref sig .tc := ⟨.hbm, 2083, rfl⟩
abbrev main_v1923 : Ref sig .tc := ⟨.hbm, 2084, rfl⟩
abbrev main_v1924 : Ref sig .tc := ⟨.hbm, 2085, rfl⟩
abbrev main_v1925 : Ref sig .tc := ⟨.hbm, 2086, rfl⟩
abbrev main_v1926 : Ref sig .tc := ⟨.hbm, 2087, rfl⟩
abbrev main_v1927 : Ref sig .tc := ⟨.hbm, 2088, rfl⟩
abbrev main_cst_151 : Ref sig .tc := ⟨.hbm, 2089, rfl⟩
abbrev main_v1928 : Ref sig .tc := ⟨.hbm, 2090, rfl⟩
abbrev main_v1929 : Ref sig .tc := ⟨.hbm, 2091, rfl⟩
abbrev main_v1930 : Ref sig .tc := ⟨.hbm, 2092, rfl⟩
abbrev main_cst_152 : Ref sig .tc := ⟨.hbm, 2093, rfl⟩
abbrev main_v1931 : Ref sig .tc := ⟨.hbm, 2094, rfl⟩
abbrev main_v1932 : Ref sig .tc := ⟨.hbm, 2095, rfl⟩
abbrev main_v1933 : Ref sig .tc := ⟨.hbm, 2096, rfl⟩
abbrev main_v1934 : Ref sig .tc := ⟨.hbm, 2097, rfl⟩
abbrev main_v1935 : Ref sig .tc := ⟨.hbm, 2098, rfl⟩
abbrev main_v1936 : Ref sig .tc := ⟨.hbm, 2099, rfl⟩
abbrev main_v1937 : Ref sig .tc := ⟨.hbm, 2100, rfl⟩
abbrev main_v1938 : Ref sig .tc := ⟨.hbm, 2101, rfl⟩
abbrev main_v1939 : Ref sig .tc := ⟨.hbm, 2102, rfl⟩
abbrev main_v1940 : Ref sig .tc := ⟨.hbm, 2103, rfl⟩
abbrev main_v1941 : Ref sig .tc := ⟨.hbm, 2104, rfl⟩
abbrev main_v1942 : Ref sig .tc := ⟨.hbm, 2105, rfl⟩
abbrev main_v1943 : Ref sig .tc := ⟨.hbm, 2106, rfl⟩
abbrev main_v1944 : Ref sig .tc := ⟨.hbm, 2107, rfl⟩
abbrev main_v1945 : Ref sig .tc := ⟨.hbm, 2108, rfl⟩
abbrev main_v1946 : Ref sig .tc := ⟨.hbm, 2109, rfl⟩
abbrev main_v1947 : Ref sig .tc := ⟨.hbm, 2110, rfl⟩
abbrev main_v1948 : Ref sig .tc := ⟨.hbm, 2111, rfl⟩
abbrev main_v1949 : Ref sig .tc := ⟨.hbm, 2112, rfl⟩
abbrev main_v1950 : Ref sig .tc := ⟨.hbm, 2113, rfl⟩
abbrev main_v1951 : Ref sig .tc := ⟨.hbm, 2114, rfl⟩
abbrev main_v1952 : Ref sig .tc := ⟨.hbm, 2115, rfl⟩
abbrev main_v1953 : Ref sig .tc := ⟨.hbm, 2116, rfl⟩
abbrev main_v1954 : Ref sig .tc := ⟨.hbm, 2117, rfl⟩
abbrev main_v1955 : Ref sig .tc := ⟨.hbm, 2118, rfl⟩
abbrev main_v1956 : Ref sig .tc := ⟨.hbm, 2119, rfl⟩
abbrev main_v1957 : Ref sig .tc := ⟨.hbm, 2120, rfl⟩
abbrev main_v1958 : Ref sig .tc := ⟨.hbm, 2121, rfl⟩
abbrev main_v1959 : Ref sig .tc := ⟨.hbm, 2122, rfl⟩
abbrev main_v1960 : Ref sig .tc := ⟨.hbm, 2123, rfl⟩
abbrev main_v1961 : Ref sig .tc := ⟨.hbm, 2124, rfl⟩
abbrev main_v1962 : Ref sig .tc := ⟨.hbm, 2125, rfl⟩
abbrev main_v1963 : Ref sig .tc := ⟨.hbm, 2126, rfl⟩
abbrev main_v1964 : Ref sig .tc := ⟨.hbm, 2127, rfl⟩
abbrev main_v1965 : Ref sig .tc := ⟨.hbm, 2128, rfl⟩
abbrev main_v1966 : Ref sig .tc := ⟨.hbm, 2129, rfl⟩
abbrev main_v1967 : Ref sig .tc := ⟨.hbm, 2130, rfl⟩
abbrev main_v1968 : Ref sig .tc := ⟨.hbm, 2131, rfl⟩
abbrev main_v1969 : Ref sig .tc := ⟨.hbm, 2132, rfl⟩
abbrev main_v1970 : Ref sig .tc := ⟨.hbm, 2133, rfl⟩
abbrev main_v1971 : Ref sig .tc := ⟨.hbm, 2134, rfl⟩
abbrev main_v1972 : Ref sig .tc := ⟨.hbm, 2135, rfl⟩
abbrev main_v1973 : Ref sig .tc := ⟨.hbm, 2136, rfl⟩
abbrev main_v1974 : Ref sig .tc := ⟨.hbm, 2137, rfl⟩
abbrev main_cst_153 : Ref sig .tc := ⟨.hbm, 2138, rfl⟩
abbrev main_v1975 : Ref sig .tc := ⟨.hbm, 2139, rfl⟩
abbrev main_v1976 : Ref sig .tc := ⟨.hbm, 2140, rfl⟩
abbrev main_v1977 : Ref sig .tc := ⟨.hbm, 2141, rfl⟩
abbrev main_v1978 : Ref sig .tc := ⟨.hbm, 2142, rfl⟩
abbrev main_cst_154 : Ref sig .tc := ⟨.hbm, 2143, rfl⟩
abbrev main_v1979 : Ref sig .tc := ⟨.hbm, 2144, rfl⟩
abbrev main_v1980 : Ref sig .tc := ⟨.hbm, 2145, rfl⟩
abbrev main_v1981 : Ref sig .tc := ⟨.hbm, 2146, rfl⟩
abbrev main_v1982 : Ref sig .tc := ⟨.hbm, 2147, rfl⟩
abbrev main_v1983 : Ref sig .tc := ⟨.hbm, 2148, rfl⟩
abbrev main_v1984 : Ref sig .tc := ⟨.hbm, 2149, rfl⟩
abbrev main_cst_155 : Ref sig .tc := ⟨.hbm, 2150, rfl⟩
abbrev main_v1985 : Ref sig .tc := ⟨.hbm, 2151, rfl⟩
abbrev main_v1986 : Ref sig .tc := ⟨.hbm, 2152, rfl⟩
abbrev main_v1987 : Ref sig .tc := ⟨.hbm, 2153, rfl⟩
abbrev main_v1988 : Ref sig .tc := ⟨.hbm, 2154, rfl⟩
abbrev main_v1989 : Ref sig .tc := ⟨.hbm, 2155, rfl⟩
abbrev main_v1990 : Ref sig .tc := ⟨.hbm, 2156, rfl⟩
abbrev main_v1991 : Ref sig .tc := ⟨.hbm, 2157, rfl⟩
abbrev main_cst_156 : Ref sig .tc := ⟨.hbm, 2158, rfl⟩
abbrev main_v1992 : Ref sig .tc := ⟨.hbm, 2159, rfl⟩
abbrev main_v1993 : Ref sig .tc := ⟨.hbm, 2160, rfl⟩
abbrev main_v1994 : Ref sig .tc := ⟨.hbm, 2161, rfl⟩
abbrev main_cst_157 : Ref sig .tc := ⟨.hbm, 2162, rfl⟩
abbrev main_v1995 : Ref sig .tc := ⟨.hbm, 2163, rfl⟩
abbrev main_v1996 : Ref sig .tc := ⟨.hbm, 2164, rfl⟩
abbrev main_v1997 : Ref sig .tc := ⟨.hbm, 2165, rfl⟩
abbrev main_v1998 : Ref sig .tc := ⟨.hbm, 2166, rfl⟩
abbrev main_v1999 : Ref sig .tc := ⟨.hbm, 2167, rfl⟩
abbrev main_v2000 : Ref sig .tc := ⟨.hbm, 2168, rfl⟩
abbrev main_v2001 : Ref sig .tc := ⟨.hbm, 2169, rfl⟩
abbrev main_v2002 : Ref sig .tc := ⟨.hbm, 2170, rfl⟩
abbrev main_v2003 : Ref sig .tc := ⟨.hbm, 2171, rfl⟩
abbrev main_v2004 : Ref sig .tc := ⟨.hbm, 2172, rfl⟩
abbrev main_v2005 : Ref sig .tc := ⟨.hbm, 2173, rfl⟩
abbrev main_v2006 : Ref sig .tc := ⟨.hbm, 2174, rfl⟩
abbrev main_v2007 : Ref sig .tc := ⟨.hbm, 2175, rfl⟩
abbrev main_v2008 : Ref sig .tc := ⟨.hbm, 2176, rfl⟩
abbrev main_v2009 : Ref sig .tc := ⟨.hbm, 2177, rfl⟩
abbrev main_v2010 : Ref sig .tc := ⟨.hbm, 2178, rfl⟩
abbrev main_v2011 : Ref sig .tc := ⟨.hbm, 2179, rfl⟩
abbrev main_v2012 : Ref sig .tc := ⟨.hbm, 2180, rfl⟩
abbrev main_v2013 : Ref sig .tc := ⟨.hbm, 2181, rfl⟩
abbrev main_v2014 : Ref sig .tc := ⟨.hbm, 2182, rfl⟩
abbrev main_v2015 : Ref sig .tc := ⟨.hbm, 2183, rfl⟩
abbrev main_v2016 : Ref sig .tc := ⟨.hbm, 2184, rfl⟩
abbrev main_v2017 : Ref sig .tc := ⟨.hbm, 2185, rfl⟩
abbrev main_v2018 : Ref sig .tc := ⟨.hbm, 2186, rfl⟩
abbrev main_v2019 : Ref sig .tc := ⟨.hbm, 2187, rfl⟩
abbrev main_v2020 : Ref sig .tc := ⟨.hbm, 2188, rfl⟩
abbrev main_v2021 : Ref sig .tc := ⟨.hbm, 2189, rfl⟩
abbrev main_v2022 : Ref sig .tc := ⟨.hbm, 2190, rfl⟩
abbrev main_v2023 : Ref sig .tc := ⟨.hbm, 2191, rfl⟩
abbrev main_v2024 : Ref sig .tc := ⟨.hbm, 2192, rfl⟩
abbrev main_v2025 : Ref sig .tc := ⟨.hbm, 2193, rfl⟩
abbrev main_v2026 : Ref sig .tc := ⟨.hbm, 2194, rfl⟩
abbrev main_v2027 : Ref sig .tc := ⟨.hbm, 2195, rfl⟩
abbrev main_v2028 : Ref sig .tc := ⟨.hbm, 2196, rfl⟩
abbrev main_v2029 : Ref sig .tc := ⟨.hbm, 2197, rfl⟩
abbrev main_v2030 : Ref sig .tc := ⟨.hbm, 2198, rfl⟩
abbrev main_v2031 : Ref sig .tc := ⟨.hbm, 2199, rfl⟩
abbrev main_v2032 : Ref sig .tc := ⟨.hbm, 2200, rfl⟩
abbrev main_v2033 : Ref sig .tc := ⟨.hbm, 2201, rfl⟩
abbrev main_v2034 : Ref sig .tc := ⟨.hbm, 2202, rfl⟩
abbrev main_v2035 : Ref sig .tc := ⟨.hbm, 2203, rfl⟩
abbrev main_v2036 : Ref sig .tc := ⟨.hbm, 2204, rfl⟩
abbrev main_v2037 : Ref sig .tc := ⟨.hbm, 2205, rfl⟩
abbrev main_v2038 : Ref sig .tc := ⟨.hbm, 2206, rfl⟩
abbrev main_cst_158 : Ref sig .tc := ⟨.hbm, 2207, rfl⟩
abbrev main_v2039 : Ref sig .tc := ⟨.hbm, 2208, rfl⟩
abbrev main_v2040 : Ref sig .tc := ⟨.hbm, 2209, rfl⟩
abbrev main_v2041 : Ref sig .tc := ⟨.hbm, 2210, rfl⟩
abbrev main_v2042 : Ref sig .tc := ⟨.hbm, 2211, rfl⟩
abbrev main_cst_159 : Ref sig .tc := ⟨.hbm, 2212, rfl⟩
abbrev main_v2043 : Ref sig .tc := ⟨.hbm, 2213, rfl⟩
abbrev main_v2044 : Ref sig .tc := ⟨.hbm, 2214, rfl⟩
abbrev main_v2045 : Ref sig .tc := ⟨.hbm, 2215, rfl⟩
abbrev main_v2046 : Ref sig .tc := ⟨.hbm, 2216, rfl⟩
abbrev main_v2047 : Ref sig .tc := ⟨.hbm, 2217, rfl⟩
abbrev main_v2048 : Ref sig .tc := ⟨.hbm, 2218, rfl⟩
abbrev main_cst_160 : Ref sig .tc := ⟨.hbm, 2219, rfl⟩
abbrev main_v2049 : Ref sig .tc := ⟨.hbm, 2220, rfl⟩
abbrev main_v2050 : Ref sig .tc := ⟨.hbm, 2221, rfl⟩
abbrev main_v2051 : Ref sig .tc := ⟨.hbm, 2222, rfl⟩
abbrev main_v2052 : Ref sig .tc := ⟨.hbm, 2223, rfl⟩
abbrev main_v2053 : Ref sig .tc := ⟨.hbm, 2224, rfl⟩
abbrev main_v2054 : Ref sig .tc := ⟨.hbm, 2225, rfl⟩
abbrev main_v2055 : Ref sig .tc := ⟨.hbm, 2226, rfl⟩
abbrev main_cst_161 : Ref sig .tc := ⟨.hbm, 2227, rfl⟩
abbrev main_v2056 : Ref sig .tc := ⟨.hbm, 2228, rfl⟩
abbrev main_v2057 : Ref sig .tc := ⟨.hbm, 2229, rfl⟩
abbrev main_v2058 : Ref sig .tc := ⟨.hbm, 2230, rfl⟩
abbrev main_cst_162 : Ref sig .tc := ⟨.hbm, 2231, rfl⟩
abbrev main_v2059 : Ref sig .tc := ⟨.hbm, 2232, rfl⟩
abbrev main_v2060 : Ref sig .tc := ⟨.hbm, 2233, rfl⟩
abbrev main_v2061 : Ref sig .tc := ⟨.hbm, 2234, rfl⟩
abbrev main_v2062 : Ref sig .tc := ⟨.hbm, 2235, rfl⟩
abbrev main_v2063 : Ref sig .tc := ⟨.hbm, 2236, rfl⟩
abbrev main_v2064 : Ref sig .tc := ⟨.hbm, 2237, rfl⟩
abbrev main_v2065 : Ref sig .tc := ⟨.hbm, 2238, rfl⟩
abbrev main_v2066 : Ref sig .tc := ⟨.hbm, 2239, rfl⟩
abbrev main_v2067 : Ref sig .tc := ⟨.hbm, 2240, rfl⟩
abbrev main_v2068 : Ref sig .tc := ⟨.hbm, 2241, rfl⟩
abbrev main_v2069 : Ref sig .tc := ⟨.hbm, 2242, rfl⟩
abbrev main_v2070 : Ref sig .tc := ⟨.hbm, 2243, rfl⟩
abbrev main_v2071 : Ref sig .tc := ⟨.hbm, 2244, rfl⟩
abbrev main_v2072 : Ref sig .tc := ⟨.hbm, 2245, rfl⟩
abbrev main_v2073 : Ref sig .tc := ⟨.hbm, 2246, rfl⟩
abbrev main_v2074 : Ref sig .tc := ⟨.hbm, 2247, rfl⟩
abbrev main_v2075 : Ref sig .tc := ⟨.hbm, 2248, rfl⟩
abbrev main_v2076 : Ref sig .tc := ⟨.hbm, 2249, rfl⟩
abbrev main_v2077 : Ref sig .tc := ⟨.hbm, 2250, rfl⟩
abbrev main_v2078 : Ref sig .tc := ⟨.hbm, 2251, rfl⟩
abbrev main_v2079 : Ref sig .tc := ⟨.hbm, 2252, rfl⟩
abbrev main_v2080 : Ref sig .tc := ⟨.hbm, 2253, rfl⟩
abbrev main_v2081 : Ref sig .tc := ⟨.hbm, 2254, rfl⟩
abbrev main_v2082 : Ref sig .tc := ⟨.hbm, 2255, rfl⟩
abbrev main_v2083 : Ref sig .tc := ⟨.hbm, 2256, rfl⟩
abbrev main_v2084 : Ref sig .tc := ⟨.hbm, 2257, rfl⟩
abbrev main_v2085 : Ref sig .tc := ⟨.hbm, 2258, rfl⟩
abbrev main_v2086 : Ref sig .tc := ⟨.hbm, 2259, rfl⟩
abbrev main_v2087 : Ref sig .tc := ⟨.hbm, 2260, rfl⟩
abbrev main_v2088 : Ref sig .tc := ⟨.hbm, 2261, rfl⟩
abbrev main_v2089 : Ref sig .tc := ⟨.hbm, 2262, rfl⟩
abbrev main_v2090 : Ref sig .tc := ⟨.hbm, 2263, rfl⟩
abbrev main_v2091 : Ref sig .tc := ⟨.hbm, 2264, rfl⟩
abbrev main_v2092 : Ref sig .tc := ⟨.hbm, 2265, rfl⟩
abbrev main_v2093 : Ref sig .tc := ⟨.hbm, 2266, rfl⟩
abbrev main_v2094 : Ref sig .tc := ⟨.hbm, 2267, rfl⟩
abbrev main_v2095 : Ref sig .tc := ⟨.hbm, 2268, rfl⟩
abbrev main_v2096 : Ref sig .tc := ⟨.hbm, 2269, rfl⟩
abbrev main_v2097 : Ref sig .tc := ⟨.hbm, 2270, rfl⟩
abbrev main_v2098 : Ref sig .tc := ⟨.hbm, 2271, rfl⟩
abbrev main_v2099 : Ref sig .tc := ⟨.hbm, 2272, rfl⟩
abbrev main_v2100 : Ref sig .tc := ⟨.hbm, 2273, rfl⟩
abbrev main_v2101 : Ref sig .tc := ⟨.hbm, 2274, rfl⟩
abbrev main_v2102 : Ref sig .tc := ⟨.hbm, 2275, rfl⟩
abbrev main_cst_163 : Ref sig .tc := ⟨.hbm, 2276, rfl⟩
abbrev main_v2103 : Ref sig .tc := ⟨.hbm, 2277, rfl⟩
abbrev main_v2104 : Ref sig .tc := ⟨.hbm, 2278, rfl⟩
abbrev main_v2105 : Ref sig .tc := ⟨.hbm, 2279, rfl⟩
abbrev main_v2106 : Ref sig .tc := ⟨.hbm, 2280, rfl⟩
abbrev main_cst_164 : Ref sig .tc := ⟨.hbm, 2281, rfl⟩
abbrev main_v2107 : Ref sig .tc := ⟨.hbm, 2282, rfl⟩
abbrev main_v2108 : Ref sig .tc := ⟨.hbm, 2283, rfl⟩
abbrev main_v2109 : Ref sig .tc := ⟨.hbm, 2284, rfl⟩
abbrev main_v2110 : Ref sig .tc := ⟨.hbm, 2285, rfl⟩
abbrev main_v2111 : Ref sig .tc := ⟨.hbm, 2286, rfl⟩
abbrev main_v2112 : Ref sig .tc := ⟨.hbm, 2287, rfl⟩
abbrev main_cst_165 : Ref sig .tc := ⟨.hbm, 2288, rfl⟩
abbrev main_v2113 : Ref sig .tc := ⟨.hbm, 2289, rfl⟩
abbrev main_v2114 : Ref sig .tc := ⟨.hbm, 2290, rfl⟩
abbrev main_v2115 : Ref sig .tc := ⟨.hbm, 2291, rfl⟩
abbrev main_v2116 : Ref sig .tc := ⟨.hbm, 2292, rfl⟩
abbrev main_v2117 : Ref sig .tc := ⟨.hbm, 2293, rfl⟩
abbrev main_v2118 : Ref sig .tc := ⟨.hbm, 2294, rfl⟩
abbrev main_v2119 : Ref sig .tc := ⟨.hbm, 2295, rfl⟩
abbrev main_cst_166 : Ref sig .tc := ⟨.hbm, 2296, rfl⟩
abbrev main_v2120 : Ref sig .tc := ⟨.hbm, 2297, rfl⟩
abbrev main_v2121 : Ref sig .tc := ⟨.hbm, 2298, rfl⟩
abbrev main_v2122 : Ref sig .tc := ⟨.hbm, 2299, rfl⟩
abbrev main_cst_167 : Ref sig .tc := ⟨.hbm, 2300, rfl⟩
abbrev main_v2123 : Ref sig .tc := ⟨.hbm, 2301, rfl⟩
abbrev main_v2124 : Ref sig .tc := ⟨.hbm, 2302, rfl⟩
abbrev main_v2125 : Ref sig .tc := ⟨.hbm, 2303, rfl⟩
abbrev main_v2126 : Ref sig .tc := ⟨.hbm, 2304, rfl⟩
abbrev main_v2127 : Ref sig .tc := ⟨.hbm, 2305, rfl⟩
abbrev main_v2128 : Ref sig .tc := ⟨.hbm, 2306, rfl⟩
abbrev main_v2129 : Ref sig .tc := ⟨.hbm, 2307, rfl⟩
abbrev main_v2130 : Ref sig .tc := ⟨.hbm, 2308, rfl⟩
abbrev main_v2131 : Ref sig .tc := ⟨.hbm, 2309, rfl⟩
abbrev main_v2132 : Ref sig .tc := ⟨.hbm, 2310, rfl⟩
abbrev main_v2133 : Ref sig .tc := ⟨.hbm, 2311, rfl⟩
abbrev main_v2134 : Ref sig .tc := ⟨.hbm, 2312, rfl⟩
abbrev main_v2135 : Ref sig .tc := ⟨.hbm, 2313, rfl⟩
abbrev main_v2136 : Ref sig .tc := ⟨.hbm, 2314, rfl⟩
abbrev main_v2137 : Ref sig .tc := ⟨.hbm, 2315, rfl⟩
abbrev main_v2138 : Ref sig .tc := ⟨.hbm, 2316, rfl⟩
abbrev main_v2139 : Ref sig .tc := ⟨.hbm, 2317, rfl⟩
abbrev main_v2140 : Ref sig .tc := ⟨.hbm, 2318, rfl⟩
abbrev main_v2141 : Ref sig .tc := ⟨.hbm, 2319, rfl⟩
abbrev main_v2142 : Ref sig .tc := ⟨.hbm, 2320, rfl⟩
abbrev main_v2143 : Ref sig .tc := ⟨.hbm, 2321, rfl⟩
abbrev main_v2144 : Ref sig .tc := ⟨.hbm, 2322, rfl⟩
abbrev main_v2145 : Ref sig .tc := ⟨.hbm, 2323, rfl⟩
abbrev main_v2146 : Ref sig .tc := ⟨.hbm, 2324, rfl⟩
abbrev main_v2147 : Ref sig .tc := ⟨.hbm, 2325, rfl⟩
abbrev main_v2148 : Ref sig .tc := ⟨.hbm, 2326, rfl⟩
abbrev main_v2149 : Ref sig .tc := ⟨.hbm, 2327, rfl⟩
abbrev main_v2150 : Ref sig .tc := ⟨.hbm, 2328, rfl⟩
abbrev main_v2151 : Ref sig .tc := ⟨.hbm, 2329, rfl⟩
abbrev main_v2152 : Ref sig .tc := ⟨.hbm, 2330, rfl⟩
abbrev main_v2153 : Ref sig .tc := ⟨.hbm, 2331, rfl⟩
abbrev main_v2154 : Ref sig .tc := ⟨.hbm, 2332, rfl⟩
abbrev main_v2155 : Ref sig .tc := ⟨.hbm, 2333, rfl⟩
abbrev main_v2156 : Ref sig .tc := ⟨.hbm, 2334, rfl⟩
abbrev main_v2157 : Ref sig .tc := ⟨.hbm, 2335, rfl⟩
abbrev main_v2158 : Ref sig .tc := ⟨.hbm, 2336, rfl⟩
abbrev main_v2159 : Ref sig .tc := ⟨.hbm, 2337, rfl⟩
abbrev main_v2160 : Ref sig .tc := ⟨.hbm, 2338, rfl⟩
abbrev main_v2161 : Ref sig .tc := ⟨.hbm, 2339, rfl⟩
abbrev main_v2162 : Ref sig .tc := ⟨.hbm, 2340, rfl⟩
abbrev main_v2163 : Ref sig .tc := ⟨.hbm, 2341, rfl⟩
abbrev main_v2164 : Ref sig .tc := ⟨.hbm, 2342, rfl⟩
abbrev main_v2165 : Ref sig .tc := ⟨.hbm, 2343, rfl⟩
abbrev main_v2166 : Ref sig .tc := ⟨.hbm, 2344, rfl⟩
abbrev main_cst_168 : Ref sig .tc := ⟨.hbm, 2345, rfl⟩
abbrev main_v2167 : Ref sig .tc := ⟨.hbm, 2346, rfl⟩
abbrev main_v2168 : Ref sig .tc := ⟨.hbm, 2347, rfl⟩
abbrev main_v2169 : Ref sig .tc := ⟨.hbm, 2348, rfl⟩
abbrev main_v2170 : Ref sig .tc := ⟨.hbm, 2349, rfl⟩
abbrev main_cst_169 : Ref sig .tc := ⟨.hbm, 2350, rfl⟩
abbrev main_v2171 : Ref sig .tc := ⟨.hbm, 2351, rfl⟩
abbrev main_v2172 : Ref sig .tc := ⟨.hbm, 2352, rfl⟩
abbrev main_v2173 : Ref sig .tc := ⟨.hbm, 2353, rfl⟩
abbrev main_v2174 : Ref sig .tc := ⟨.hbm, 2354, rfl⟩
abbrev main_v2175 : Ref sig .tc := ⟨.hbm, 2355, rfl⟩
abbrev main_v2176 : Ref sig .tc := ⟨.hbm, 2356, rfl⟩
abbrev main_cst_170 : Ref sig .tc := ⟨.hbm, 2357, rfl⟩
abbrev main_v2177 : Ref sig .tc := ⟨.hbm, 2358, rfl⟩
abbrev main_v2178 : Ref sig .tc := ⟨.hbm, 2359, rfl⟩
abbrev main_v2179 : Ref sig .tc := ⟨.hbm, 2360, rfl⟩
abbrev main_v2180 : Ref sig .tc := ⟨.hbm, 2361, rfl⟩
abbrev main_v2181 : Ref sig .tc := ⟨.hbm, 2362, rfl⟩
abbrev main_v2182 : Ref sig .tc := ⟨.hbm, 2363, rfl⟩
abbrev main_v2183 : Ref sig .tc := ⟨.hbm, 2364, rfl⟩
abbrev main_cst_171 : Ref sig .tc := ⟨.hbm, 2365, rfl⟩
abbrev main_v2184 : Ref sig .tc := ⟨.hbm, 2366, rfl⟩
abbrev main_v2185 : Ref sig .tc := ⟨.hbm, 2367, rfl⟩
abbrev main_v2186 : Ref sig .tc := ⟨.hbm, 2368, rfl⟩
abbrev main_cst_172 : Ref sig .tc := ⟨.hbm, 2369, rfl⟩
abbrev main_v2187 : Ref sig .tc := ⟨.hbm, 2370, rfl⟩
abbrev main_v2188 : Ref sig .tc := ⟨.hbm, 2371, rfl⟩
abbrev main_v2189 : Ref sig .tc := ⟨.hbm, 2372, rfl⟩
abbrev main_v2190 : Ref sig .tc := ⟨.hbm, 2373, rfl⟩
abbrev main_v2191 : Ref sig .tc := ⟨.hbm, 2374, rfl⟩
abbrev main_v2192 : Ref sig .tc := ⟨.hbm, 2375, rfl⟩
abbrev main_v2193 : Ref sig .tc := ⟨.hbm, 2376, rfl⟩
abbrev main_v2194 : Ref sig .tc := ⟨.hbm, 2377, rfl⟩
abbrev main_v2195 : Ref sig .tc := ⟨.hbm, 2378, rfl⟩
abbrev main_v2196 : Ref sig .tc := ⟨.hbm, 2379, rfl⟩
abbrev main_v2197 : Ref sig .tc := ⟨.hbm, 2380, rfl⟩
abbrev main_v2198 : Ref sig .tc := ⟨.hbm, 2381, rfl⟩
abbrev main_v2199 : Ref sig .tc := ⟨.hbm, 2382, rfl⟩
abbrev main_v2200 : Ref sig .tc := ⟨.hbm, 2383, rfl⟩
abbrev main_v2201 : Ref sig .tc := ⟨.hbm, 2384, rfl⟩
abbrev main_v2202 : Ref sig .tc := ⟨.hbm, 2385, rfl⟩
abbrev main_v2203 : Ref sig .tc := ⟨.hbm, 2386, rfl⟩
abbrev main_v2204 : Ref sig .tc := ⟨.hbm, 2387, rfl⟩
abbrev main_v2205 : Ref sig .tc := ⟨.hbm, 2388, rfl⟩
abbrev main_v2206 : Ref sig .tc := ⟨.hbm, 2389, rfl⟩
abbrev main_v2207 : Ref sig .tc := ⟨.hbm, 2390, rfl⟩
abbrev main_v2208 : Ref sig .tc := ⟨.hbm, 2391, rfl⟩
abbrev main_v2209 : Ref sig .tc := ⟨.hbm, 2392, rfl⟩
abbrev main_v2210 : Ref sig .tc := ⟨.hbm, 2393, rfl⟩
abbrev main_v2211 : Ref sig .tc := ⟨.hbm, 2394, rfl⟩
abbrev main_v2212 : Ref sig .tc := ⟨.hbm, 2395, rfl⟩
abbrev main_v2213 : Ref sig .tc := ⟨.hbm, 2396, rfl⟩
abbrev main_v2214 : Ref sig .tc := ⟨.hbm, 2397, rfl⟩
abbrev main_v2215 : Ref sig .tc := ⟨.hbm, 2398, rfl⟩
abbrev main_v2216 : Ref sig .tc := ⟨.hbm, 2399, rfl⟩
abbrev main_v2217 : Ref sig .tc := ⟨.hbm, 2400, rfl⟩
abbrev main_v2218 : Ref sig .tc := ⟨.hbm, 2401, rfl⟩
abbrev main_v2219 : Ref sig .tc := ⟨.hbm, 2402, rfl⟩
abbrev main_v2220 : Ref sig .tc := ⟨.hbm, 2403, rfl⟩
abbrev main_v2221 : Ref sig .tc := ⟨.hbm, 2404, rfl⟩
abbrev main_v2222 : Ref sig .tc := ⟨.hbm, 2405, rfl⟩
abbrev main_v2223 : Ref sig .tc := ⟨.hbm, 2406, rfl⟩
abbrev main_v2224 : Ref sig .tc := ⟨.hbm, 2407, rfl⟩
abbrev main_v2225 : Ref sig .tc := ⟨.hbm, 2408, rfl⟩
abbrev main_v2226 : Ref sig .tc := ⟨.hbm, 2409, rfl⟩
abbrev main_v2227 : Ref sig .tc := ⟨.hbm, 2410, rfl⟩
abbrev main_v2228 : Ref sig .tc := ⟨.hbm, 2411, rfl⟩
abbrev main_v2229 : Ref sig .tc := ⟨.hbm, 2412, rfl⟩
abbrev main_v2230 : Ref sig .tc := ⟨.hbm, 2413, rfl⟩
abbrev main_cst_173 : Ref sig .tc := ⟨.hbm, 2414, rfl⟩
abbrev main_v2231 : Ref sig .tc := ⟨.hbm, 2415, rfl⟩
abbrev main_v2232 : Ref sig .tc := ⟨.hbm, 2416, rfl⟩
abbrev main_v2233 : Ref sig .tc := ⟨.hbm, 2417, rfl⟩
abbrev main_v2234 : Ref sig .tc := ⟨.hbm, 2418, rfl⟩
abbrev main_cst_174 : Ref sig .tc := ⟨.hbm, 2419, rfl⟩
abbrev main_v2235 : Ref sig .tc := ⟨.hbm, 2420, rfl⟩
abbrev main_v2236 : Ref sig .tc := ⟨.hbm, 2421, rfl⟩
abbrev main_v2237 : Ref sig .tc := ⟨.hbm, 2422, rfl⟩
abbrev main_v2238 : Ref sig .tc := ⟨.hbm, 2423, rfl⟩
abbrev main_v2239 : Ref sig .tc := ⟨.hbm, 2424, rfl⟩
abbrev main_v2240 : Ref sig .tc := ⟨.hbm, 2425, rfl⟩
abbrev main_cst_175 : Ref sig .tc := ⟨.hbm, 2426, rfl⟩
abbrev main_v2241 : Ref sig .tc := ⟨.hbm, 2427, rfl⟩
abbrev main_v2242 : Ref sig .tc := ⟨.hbm, 2428, rfl⟩
abbrev main_v2243 : Ref sig .tc := ⟨.hbm, 2429, rfl⟩
abbrev main_v2244 : Ref sig .tc := ⟨.hbm, 2430, rfl⟩
abbrev main_v2245 : Ref sig .tc := ⟨.hbm, 2431, rfl⟩
abbrev main_v2246 : Ref sig .tc := ⟨.hbm, 2432, rfl⟩
abbrev main_v2247 : Ref sig .tc := ⟨.hbm, 2433, rfl⟩
abbrev main_cst_176 : Ref sig .tc := ⟨.hbm, 2434, rfl⟩
abbrev main_v2248 : Ref sig .tc := ⟨.hbm, 2435, rfl⟩
abbrev main_v2249 : Ref sig .tc := ⟨.hbm, 2436, rfl⟩
abbrev main_v2250 : Ref sig .tc := ⟨.hbm, 2437, rfl⟩
abbrev main_cst_177 : Ref sig .tc := ⟨.hbm, 2438, rfl⟩
abbrev main_v2251 : Ref sig .tc := ⟨.hbm, 2439, rfl⟩
abbrev main_v2252 : Ref sig .tc := ⟨.hbm, 2440, rfl⟩
abbrev main_v2253 : Ref sig .tc := ⟨.hbm, 2441, rfl⟩
abbrev main_v2254 : Ref sig .tc := ⟨.hbm, 2442, rfl⟩
abbrev main_v2255 : Ref sig .tc := ⟨.hbm, 2443, rfl⟩
abbrev main_v2256 : Ref sig .tc := ⟨.hbm, 2444, rfl⟩
abbrev main_v2257 : Ref sig .tc := ⟨.hbm, 2445, rfl⟩
abbrev main_v2258 : Ref sig .tc := ⟨.hbm, 2446, rfl⟩
abbrev main_v2259 : Ref sig .tc := ⟨.hbm, 2447, rfl⟩
abbrev main_v2260 : Ref sig .tc := ⟨.hbm, 2448, rfl⟩
abbrev main_v2261 : Ref sig .tc := ⟨.hbm, 2449, rfl⟩
abbrev main_v2262 : Ref sig .tc := ⟨.hbm, 2450, rfl⟩
abbrev main_v2263 : Ref sig .tc := ⟨.hbm, 2451, rfl⟩
abbrev main_v2264 : Ref sig .tc := ⟨.hbm, 2452, rfl⟩
abbrev main_v2265 : Ref sig .tc := ⟨.hbm, 2453, rfl⟩
abbrev main_v2266 : Ref sig .tc := ⟨.hbm, 2454, rfl⟩
abbrev main_v2267 : Ref sig .tc := ⟨.hbm, 2455, rfl⟩
abbrev main_v2268 : Ref sig .tc := ⟨.hbm, 2456, rfl⟩
abbrev main_v2269 : Ref sig .tc := ⟨.hbm, 2457, rfl⟩
abbrev main_v2270 : Ref sig .tc := ⟨.hbm, 2458, rfl⟩
abbrev main_v2271 : Ref sig .tc := ⟨.hbm, 2459, rfl⟩
abbrev main_v2272 : Ref sig .tc := ⟨.hbm, 2460, rfl⟩
abbrev main_v2273 : Ref sig .tc := ⟨.hbm, 2461, rfl⟩
abbrev main_v2274 : Ref sig .tc := ⟨.hbm, 2462, rfl⟩
abbrev main_v2275 : Ref sig .tc := ⟨.hbm, 2463, rfl⟩
abbrev main_v2276 : Ref sig .tc := ⟨.hbm, 2464, rfl⟩
abbrev main_v2277 : Ref sig .tc := ⟨.hbm, 2465, rfl⟩
abbrev main_v2278 : Ref sig .tc := ⟨.hbm, 2466, rfl⟩
abbrev main_v2279 : Ref sig .tc := ⟨.hbm, 2467, rfl⟩
abbrev main_v2280 : Ref sig .tc := ⟨.hbm, 2468, rfl⟩
abbrev main_v2281 : Ref sig .tc := ⟨.hbm, 2469, rfl⟩
abbrev main_v2282 : Ref sig .tc := ⟨.hbm, 2470, rfl⟩
abbrev main_v2283 : Ref sig .tc := ⟨.hbm, 2471, rfl⟩
abbrev main_v2284 : Ref sig .tc := ⟨.hbm, 2472, rfl⟩
abbrev main_v2285 : Ref sig .tc := ⟨.hbm, 2473, rfl⟩
abbrev main_v2286 : Ref sig .tc := ⟨.hbm, 2474, rfl⟩
abbrev main_v2287 : Ref sig .tc := ⟨.hbm, 2475, rfl⟩
abbrev main_v2288 : Ref sig .tc := ⟨.hbm, 2476, rfl⟩
abbrev main_v2289 : Ref sig .tc := ⟨.hbm, 2477, rfl⟩
abbrev main_v2290 : Ref sig .tc := ⟨.hbm, 2478, rfl⟩
abbrev main_v2291 : Ref sig .tc := ⟨.hbm, 2479, rfl⟩
abbrev main_v2292 : Ref sig .tc := ⟨.hbm, 2480, rfl⟩
abbrev main_v2293 : Ref sig .tc := ⟨.hbm, 2481, rfl⟩
abbrev main_v2294 : Ref sig .tc := ⟨.hbm, 2482, rfl⟩
abbrev main_cst_178 : Ref sig .tc := ⟨.hbm, 2483, rfl⟩
abbrev main_v2295 : Ref sig .tc := ⟨.hbm, 2484, rfl⟩
abbrev main_v2296 : Ref sig .tc := ⟨.hbm, 2485, rfl⟩
abbrev main_v2297 : Ref sig .tc := ⟨.hbm, 2486, rfl⟩
abbrev main_v2298 : Ref sig .tc := ⟨.hbm, 2487, rfl⟩
abbrev main_cst_179 : Ref sig .tc := ⟨.hbm, 2488, rfl⟩
abbrev main_v2299 : Ref sig .tc := ⟨.hbm, 2489, rfl⟩
abbrev main_v2300 : Ref sig .tc := ⟨.hbm, 2490, rfl⟩
abbrev main_v2301 : Ref sig .tc := ⟨.hbm, 2491, rfl⟩
abbrev main_v2302 : Ref sig .tc := ⟨.hbm, 2492, rfl⟩
abbrev main_v2303 : Ref sig .tc := ⟨.hbm, 2493, rfl⟩
abbrev main_v2304 : Ref sig .tc := ⟨.hbm, 2494, rfl⟩
abbrev main_cst_180 : Ref sig .tc := ⟨.hbm, 2495, rfl⟩
abbrev main_v2305 : Ref sig .tc := ⟨.hbm, 2496, rfl⟩
abbrev main_v2306 : Ref sig .tc := ⟨.hbm, 2497, rfl⟩
abbrev main_v2307 : Ref sig .tc := ⟨.hbm, 2498, rfl⟩
abbrev main_v2308 : Ref sig .tc := ⟨.hbm, 2499, rfl⟩
abbrev main_v2309 : Ref sig .tc := ⟨.hbm, 2500, rfl⟩
abbrev main_v2310 : Ref sig .tc := ⟨.hbm, 2501, rfl⟩
abbrev main_v2311 : Ref sig .tc := ⟨.hbm, 2502, rfl⟩
abbrev main_cst_181 : Ref sig .tc := ⟨.hbm, 2503, rfl⟩
abbrev main_v2312 : Ref sig .tc := ⟨.hbm, 2504, rfl⟩
abbrev main_v2313 : Ref sig .tc := ⟨.hbm, 2505, rfl⟩
abbrev main_v2314 : Ref sig .tc := ⟨.hbm, 2506, rfl⟩
abbrev main_cst_182 : Ref sig .tc := ⟨.hbm, 2507, rfl⟩
abbrev main_v2315 : Ref sig .tc := ⟨.hbm, 2508, rfl⟩
abbrev main_v2316 : Ref sig .tc := ⟨.hbm, 2509, rfl⟩
abbrev main_v2317 : Ref sig .tc := ⟨.hbm, 2510, rfl⟩
abbrev main_v2318 : Ref sig .tc := ⟨.hbm, 2511, rfl⟩
abbrev main_v2319 : Ref sig .tc := ⟨.hbm, 2512, rfl⟩
abbrev main_v2320 : Ref sig .tc := ⟨.hbm, 2513, rfl⟩
abbrev main_v2321 : Ref sig .tc := ⟨.hbm, 2514, rfl⟩
abbrev main_v2322 : Ref sig .tc := ⟨.hbm, 2515, rfl⟩
abbrev main_v2323 : Ref sig .tc := ⟨.hbm, 2516, rfl⟩
abbrev main_v2324 : Ref sig .tc := ⟨.hbm, 2517, rfl⟩
abbrev main_v2325 : Ref sig .tc := ⟨.hbm, 2518, rfl⟩
abbrev main_v2326 : Ref sig .tc := ⟨.hbm, 2519, rfl⟩
abbrev main_v2327 : Ref sig .tc := ⟨.hbm, 2520, rfl⟩
abbrev main_v2328 : Ref sig .tc := ⟨.hbm, 2521, rfl⟩
abbrev main_v2329 : Ref sig .tc := ⟨.hbm, 2522, rfl⟩
abbrev main_v2330 : Ref sig .tc := ⟨.hbm, 2523, rfl⟩
abbrev main_v2331 : Ref sig .tc := ⟨.hbm, 2524, rfl⟩
abbrev main_v2332 : Ref sig .tc := ⟨.hbm, 2525, rfl⟩
abbrev main_v2333 : Ref sig .tc := ⟨.hbm, 2526, rfl⟩
abbrev main_v2334 : Ref sig .tc := ⟨.hbm, 2527, rfl⟩
abbrev main_v2335 : Ref sig .tc := ⟨.hbm, 2528, rfl⟩
abbrev main_v2336 : Ref sig .tc := ⟨.hbm, 2529, rfl⟩
abbrev main_v2337 : Ref sig .tc := ⟨.hbm, 2530, rfl⟩
abbrev main_v2338 : Ref sig .tc := ⟨.hbm, 2531, rfl⟩
abbrev main_v2339 : Ref sig .tc := ⟨.hbm, 2532, rfl⟩
abbrev main_v2340 : Ref sig .tc := ⟨.hbm, 2533, rfl⟩
abbrev main_v2341 : Ref sig .tc := ⟨.hbm, 2534, rfl⟩
abbrev main_v2342 : Ref sig .tc := ⟨.hbm, 2535, rfl⟩
abbrev main_v2343 : Ref sig .tc := ⟨.hbm, 2536, rfl⟩
abbrev main_v2344 : Ref sig .tc := ⟨.hbm, 2537, rfl⟩
abbrev main_v2345 : Ref sig .tc := ⟨.hbm, 2538, rfl⟩
abbrev main_v2346 : Ref sig .tc := ⟨.hbm, 2539, rfl⟩
abbrev main_v2347 : Ref sig .tc := ⟨.hbm, 2540, rfl⟩
abbrev main_v2348 : Ref sig .tc := ⟨.hbm, 2541, rfl⟩
abbrev main_v2349 : Ref sig .tc := ⟨.hbm, 2542, rfl⟩
abbrev main_v2350 : Ref sig .tc := ⟨.hbm, 2543, rfl⟩
abbrev main_v2351 : Ref sig .tc := ⟨.hbm, 2544, rfl⟩
abbrev main_v2352 : Ref sig .tc := ⟨.hbm, 2545, rfl⟩
abbrev main_v2353 : Ref sig .tc := ⟨.hbm, 2546, rfl⟩
abbrev main_v2354 : Ref sig .tc := ⟨.hbm, 2547, rfl⟩
abbrev main_v2355 : Ref sig .tc := ⟨.hbm, 2548, rfl⟩
abbrev main_v2356 : Ref sig .tc := ⟨.hbm, 2549, rfl⟩
abbrev main_v2357 : Ref sig .tc := ⟨.hbm, 2550, rfl⟩
abbrev main_v2358 : Ref sig .tc := ⟨.hbm, 2551, rfl⟩
abbrev main_v2359 : Ref sig .tc := ⟨.hbm, 2552, rfl⟩
abbrev main_v2360 : Ref sig .tc := ⟨.hbm, 2553, rfl⟩
abbrev main_v2361 : Ref sig .tc := ⟨.hbm, 2554, rfl⟩
abbrev main_v2362 : Ref sig .tc := ⟨.hbm, 2555, rfl⟩
abbrev main_v2363 : Ref sig .tc := ⟨.hbm, 2556, rfl⟩
abbrev main_v2364 : Ref sig .tc := ⟨.hbm, 2557, rfl⟩
abbrev main_v2365 : Ref sig .tc := ⟨.hbm, 2558, rfl⟩
abbrev main_v2366 : Ref sig .tc := ⟨.hbm, 2559, rfl⟩
abbrev main_v2367 : Ref sig .tc := ⟨.hbm, 2560, rfl⟩
abbrev main_v2368 : Ref sig .tc := ⟨.hbm, 2561, rfl⟩
abbrev main_v2369 : Ref sig .tc := ⟨.hbm, 2562, rfl⟩
abbrev main_v2370 : Ref sig .tc := ⟨.hbm, 2563, rfl⟩
abbrev main_v2371 : Ref sig .tc := ⟨.hbm, 2564, rfl⟩
abbrev main_v2372 : Ref sig .tc := ⟨.hbm, 2565, rfl⟩
abbrev main_v2373 : Ref sig .tc := ⟨.hbm, 2566, rfl⟩
abbrev main_v2374 : Ref sig .tc := ⟨.hbm, 2567, rfl⟩
abbrev main_v2375 : Ref sig .tc := ⟨.hbm, 2568, rfl⟩
abbrev main_v2376 : Ref sig .tc := ⟨.hbm, 2569, rfl⟩
abbrev main_v2377 : Ref sig .tc := ⟨.hbm, 2570, rfl⟩
abbrev main_v2378 : Ref sig .tc := ⟨.hbm, 2571, rfl⟩
abbrev main_v2379 : Ref sig .tc := ⟨.hbm, 2572, rfl⟩
abbrev main_v2380 : Ref sig .tc := ⟨.hbm, 2573, rfl⟩
abbrev main_v2381 : Ref sig .tc := ⟨.hbm, 2574, rfl⟩
abbrev main_v2382 : Ref sig .tc := ⟨.hbm, 2575, rfl⟩
abbrev main_v2383 : Ref sig .tc := ⟨.hbm, 2576, rfl⟩
abbrev main_cst_183 : Ref sig .tc := ⟨.hbm, 2577, rfl⟩
abbrev main_v2384 : Ref sig .tc := ⟨.hbm, 2578, rfl⟩
abbrev main_v2385 : Ref sig .tc := ⟨.hbm, 2579, rfl⟩
abbrev main_v2386 : Ref sig .tc := ⟨.hbm, 2580, rfl⟩
abbrev main_v2387 : Ref sig .tc := ⟨.hbm, 2581, rfl⟩
abbrev main_v2388 : Ref sig .tc := ⟨.hbm, 2582, rfl⟩
abbrev main_v2389 : Ref sig .tc := ⟨.hbm, 2583, rfl⟩
abbrev main_v2390 : Ref sig .tc := ⟨.hbm, 2584, rfl⟩
abbrev main_v2391 : Ref sig .tc := ⟨.hbm, 2585, rfl⟩
abbrev main_v2392 : Ref sig .tc := ⟨.hbm, 2586, rfl⟩
abbrev main_cst_184 : Ref sig .tc := ⟨.hbm, 2587, rfl⟩
abbrev main_v2393 : Ref sig .tc := ⟨.hbm, 2588, rfl⟩
abbrev main_v2394 : Ref sig .tc := ⟨.hbm, 2589, rfl⟩
abbrev main_cst_185 : Ref sig .tc := ⟨.hbm, 2590, rfl⟩
abbrev main_v2395 : Ref sig .tc := ⟨.hbm, 2591, rfl⟩
abbrev main_v2396 : Ref sig .tc := ⟨.hbm, 2592, rfl⟩
abbrev main_v2397 : Ref sig .tc := ⟨.hbm, 2593, rfl⟩
abbrev main_v2398 : Ref sig .tc := ⟨.hbm, 2594, rfl⟩
abbrev main_v2399 : Ref sig .tc := ⟨.hbm, 2595, rfl⟩
abbrev main_cst_186 : Ref sig .tc := ⟨.hbm, 2596, rfl⟩
abbrev main_v2400 : Ref sig .tc := ⟨.hbm, 2597, rfl⟩
abbrev main_v2401 : Ref sig .tc := ⟨.hbm, 2598, rfl⟩
abbrev main_v2402 : Ref sig .tc := ⟨.hbm, 2599, rfl⟩
abbrev main_v2403 : Ref sig .tc := ⟨.hbm, 2600, rfl⟩
abbrev main_v2404 : Ref sig .tc := ⟨.hbm, 2601, rfl⟩
abbrev main_cst_187 : Ref sig .tc := ⟨.hbm, 2602, rfl⟩
abbrev main_v2405 : Ref sig .tc := ⟨.hbm, 2603, rfl⟩
abbrev main_v2406 : Ref sig .tc := ⟨.hbm, 2604, rfl⟩
abbrev main_v2407 : Ref sig .tc := ⟨.hbm, 2605, rfl⟩
abbrev main_v2408 : Ref sig .tc := ⟨.hbm, 2606, rfl⟩
abbrev main_v2409 : Ref sig .tc := ⟨.hbm, 2607, rfl⟩
abbrev main_v2410 : Ref sig .tc := ⟨.hbm, 2608, rfl⟩
abbrev main_v2411 : Ref sig .tc := ⟨.hbm, 2609, rfl⟩
abbrev main_v2412 : Ref sig .tc := ⟨.hbm, 2610, rfl⟩
abbrev main_v2413 : Ref sig .tc := ⟨.hbm, 2611, rfl⟩
abbrev main_cst_188 : Ref sig .tc := ⟨.hbm, 2612, rfl⟩
abbrev main_v2414 : Ref sig .tc := ⟨.hbm, 2613, rfl⟩
abbrev main_v2415 : Ref sig .tc := ⟨.hbm, 2614, rfl⟩
abbrev main_v2416 : Ref sig .tc := ⟨.hbm, 2615, rfl⟩
abbrev main_v2417 : Ref sig .tc := ⟨.hbm, 2616, rfl⟩
abbrev main_v2418 : Ref sig .tc := ⟨.hbm, 2617, rfl⟩
abbrev main_cst_189 : Ref sig .tc := ⟨.hbm, 2618, rfl⟩
abbrev main_v2419 : Ref sig .tc := ⟨.hbm, 2619, rfl⟩
abbrev main_v2420 : Ref sig .tc := ⟨.hbm, 2620, rfl⟩
abbrev main_cst_190 : Ref sig .tc := ⟨.hbm, 2621, rfl⟩
abbrev main_v2421 : Ref sig .tc := ⟨.hbm, 2622, rfl⟩
abbrev main_v2422 : Ref sig .tc := ⟨.hbm, 2623, rfl⟩
abbrev main_v2423 : Ref sig .tc := ⟨.hbm, 2624, rfl⟩
abbrev main_v2424 : Ref sig .tc := ⟨.hbm, 2625, rfl⟩
abbrev main_v2425 : Ref sig .tc := ⟨.hbm, 2626, rfl⟩
abbrev main_cst_191 : Ref sig .tc := ⟨.hbm, 2627, rfl⟩
abbrev main_v2426 : Ref sig .tc := ⟨.hbm, 2628, rfl⟩
abbrev main_v2427 : Ref sig .tc := ⟨.hbm, 2629, rfl⟩
abbrev main_v2428 : Ref sig .tc := ⟨.hbm, 2630, rfl⟩
abbrev main_v2429 : Ref sig .tc := ⟨.hbm, 2631, rfl⟩
abbrev main_v2430 : Ref sig .tc := ⟨.hbm, 2632, rfl⟩
abbrev main_v2431 : Ref sig .tc := ⟨.hbm, 2633, rfl⟩
abbrev main_v2432 : Ref sig .tc := ⟨.hbm, 2634, rfl⟩
abbrev main_v2433 : Ref sig .tc := ⟨.hbm, 2635, rfl⟩
abbrev main_v2434 : Ref sig .tc := ⟨.hbm, 2636, rfl⟩
abbrev main_cst_192 : Ref sig .tc := ⟨.hbm, 2637, rfl⟩
abbrev main_v2435 : Ref sig .tc := ⟨.hbm, 2638, rfl⟩
abbrev main_v2436 : Ref sig .tc := ⟨.hbm, 2639, rfl⟩
abbrev main_v2437 : Ref sig .tc := ⟨.hbm, 2640, rfl⟩
abbrev main_v2438 : Ref sig .tc := ⟨.hbm, 2641, rfl⟩
abbrev main_v2439 : Ref sig .tc := ⟨.hbm, 2642, rfl⟩
abbrev main_cst_193 : Ref sig .tc := ⟨.hbm, 2643, rfl⟩
abbrev main_v2440 : Ref sig .tc := ⟨.hbm, 2644, rfl⟩
abbrev main_v2441 : Ref sig .tc := ⟨.hbm, 2645, rfl⟩
abbrev main_v2442 : Ref sig .tc := ⟨.hbm, 2646, rfl⟩
abbrev main_v2443 : Ref sig .tc := ⟨.hbm, 2647, rfl⟩
abbrev main_v2444 : Ref sig .tc := ⟨.hbm, 2648, rfl⟩
abbrev main_cst_194 : Ref sig .tc := ⟨.hbm, 2649, rfl⟩
abbrev main_v2445 : Ref sig .tc := ⟨.hbm, 2650, rfl⟩
abbrev main_v2446 : Ref sig .tc := ⟨.hbm, 2651, rfl⟩
abbrev main_cst_195 : Ref sig .tc := ⟨.hbm, 2652, rfl⟩
abbrev main_v2447 : Ref sig .tc := ⟨.hbm, 2653, rfl⟩
abbrev main_v2448 : Ref sig .tc := ⟨.hbm, 2654, rfl⟩
abbrev main_v2449 : Ref sig .tc := ⟨.hbm, 2655, rfl⟩
abbrev main_v2450 : Ref sig .tc := ⟨.hbm, 2656, rfl⟩
abbrev main_v2451 : Ref sig .tc := ⟨.hbm, 2657, rfl⟩
abbrev main_v2452 : Ref sig .tc := ⟨.hbm, 2658, rfl⟩
abbrev main_v2453 : Ref sig .tc := ⟨.hbm, 2659, rfl⟩
abbrev main_v2454 : Ref sig .tc := ⟨.hbm, 2660, rfl⟩
abbrev main_v2455 : Ref sig .tc := ⟨.hbm, 2661, rfl⟩
abbrev main_v2456 : Ref sig .tc := ⟨.hbm, 2662, rfl⟩
abbrev main_v2457 : Ref sig .tc := ⟨.hbm, 2663, rfl⟩
abbrev main_v2458 : Ref sig .tc := ⟨.hbm, 2664, rfl⟩
abbrev main_v2459 : Ref sig .tc := ⟨.hbm, 2665, rfl⟩
abbrev main_cst_196 : Ref sig .tc := ⟨.hbm, 2666, rfl⟩
abbrev main_v2460 : Ref sig .tc := ⟨.hbm, 2667, rfl⟩
abbrev main_v2461 : Ref sig .tc := ⟨.hbm, 2668, rfl⟩
abbrev main_v2462 : Ref sig .tc := ⟨.hbm, 2669, rfl⟩
abbrev main_v2463 : Ref sig .tc := ⟨.hbm, 2670, rfl⟩
abbrev main_v2464 : Ref sig .tc := ⟨.hbm, 2671, rfl⟩
abbrev main_v2465 : Ref sig .tc := ⟨.hbm, 2672, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v7 : Index := Scalar.indexCast arg0
  let c0_6 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8x64x2048 : Shape := ⟨3, ![8, 64, 2048]⟩
abbrev S8x3x2048 : Shape := ⟨3, ![8, 3, 2048]⟩
abbrev S8 : Shape := ⟨1, ![8]⟩
abbrev S_ : Shape := ⟨0, ![]⟩
abbrev S8x1x1 : Shape := ⟨3, ![8, 1, 1]⟩
abbrev S8x2048x2048 : Shape := ⟨3, ![8, 2048, 2048]⟩
abbrev S8x2048 : Shape := ⟨2, ![8, 2048]⟩
abbrev S8x2048x1 : Shape := ⟨3, ![8, 2048, 1]⟩
abbrev S8x2048x3 : Shape := ⟨3, ![8, 2048, 3]⟩
abbrev S1x8x1x2048x1x1 : Shape := ⟨6, ![1, 8, 1, 2048, 1, 1]⟩
abbrev S1x8x1x2048x3x1 : Shape := ⟨6, ![1, 8, 1, 2048, 3, 1]⟩
abbrev S8x3 : Shape := ⟨2, ![8, 3]⟩
abbrev S8x1x3 : Shape := ⟨3, ![8, 1, 3]⟩
abbrev S8x3x3 : Shape := ⟨3, ![8, 3, 3]⟩

abbrev nBuf : Space → Nat
  | .hbm => 81
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S8x64x2048, .f32⟩
  | .hbm, ⟨2, _⟩ => ⟨S8x3x2048, .f32⟩
  | .hbm, ⟨3, _⟩ => ⟨S8x3x2048, .f32⟩
  | .hbm, ⟨4, _⟩ => ⟨S8, .f32⟩
  | .hbm, ⟨5, _⟩ => ⟨S_, .i32⟩
  | .hbm, ⟨6, _⟩ => ⟨S8x1x1, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x2048, .i32⟩
  | .hbm, ⟨30, _⟩ => ⟨S_, .f32⟩
  | .hbm, ⟨31, _⟩ => ⟨S_, .i32⟩
  | .hbm, ⟨32, _⟩ => ⟨S8x2048, .f32⟩
  | .hbm, ⟨33, _⟩ => ⟨S8x2048, .i32⟩
  | .hbm, ⟨34, _⟩ => ⟨S8x2048x1, .i32⟩
  | .hbm, ⟨35, _⟩ => ⟨S8x2048x1, .f32⟩
  | .hbm, ⟨36, _⟩ => ⟨S8x2048x3, .f32⟩
  | .hbm, ⟨37, _⟩ => ⟨S8x2048x3, .f32⟩
  | .hbm, ⟨38, _⟩ => ⟨S8x2048, .i32⟩
  | .hbm, ⟨39, _⟩ => ⟨S_, .i32⟩
  | .hbm, ⟨40, _⟩ => ⟨S8x2048, .i32⟩
  | .hbm, ⟨41, _⟩ => ⟨S8x2048, .i1⟩
  | .hbm, ⟨42, _⟩ => ⟨S_, .i32⟩
  | .hbm, ⟨43, _⟩ => ⟨S8x2048, .i32⟩
  | .hbm, ⟨44, _⟩ => ⟨S8x2048, .i32⟩
  | .hbm, ⟨45, _⟩ => ⟨S8x2048, .i32⟩
  | .hbm, ⟨46, _⟩ => ⟨S8x2048x1, .i32⟩
  | .hbm, ⟨47, _⟩ => ⟨S8x2048x3, .f32⟩
  | .hbm, ⟨48, _⟩ => ⟨S8x2048x1, .f32⟩
  | .hbm, ⟨49, _⟩ => ⟨S_, .f32⟩
  | .hbm, ⟨50, _⟩ => ⟨S8, .f32⟩
  | .hbm, ⟨51, _⟩ => ⟨S1x8x1x2048x1x1, .f32⟩
  | .hbm, ⟨52, _⟩ => ⟨S1x8x1x2048x3x1, .f32⟩
  | .hbm, ⟨53, _⟩ => ⟨S8x2048x3, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8x1x1, .f32⟩
  | .hbm, ⟨58, _⟩ => ⟨S8x2048x3, .f32⟩
  | .hbm, ⟨59, _⟩ => ⟨S8x2048x3, .f32⟩
  | .hbm, ⟨60, _⟩ => ⟨S8x2048x3, .f32⟩
  | .hbm, ⟨61, _⟩ => ⟨S_, .f32⟩
  | .hbm, ⟨62, _⟩ => ⟨S8x3, .f32⟩
  | .hbm, ⟨63, _⟩ => ⟨S8x1x3, .f32⟩
  | .hbm, ⟨64, _⟩ => ⟨S8x2048x3, .f32⟩
  | .hbm, ⟨65, _⟩ => ⟨S_, .f32⟩
  | .hbm, ⟨66, _⟩ => ⟨S8x3, .f32⟩
  | .hbm, ⟨67, _⟩ => ⟨S8x1x3, .f32⟩
  | .hbm, ⟨68, _⟩ => ⟨S8x2048x3, .f32⟩
  | .hbm, ⟨69, _⟩ => ⟨S8x2048x3, .f32⟩
  | .hbm, ⟨70, _⟩ => ⟨S8x3x2048, .f32⟩
  | .hbm, ⟨71, _⟩ => ⟨S8x2048x3, .f32⟩
  | .hbm, ⟨72, _⟩ => ⟨S8x2048x3, .f32⟩
  | .hbm, ⟨73, _⟩ => ⟨S8x2048x3, .f32⟩
  | .hbm, ⟨74, _⟩ => ⟨S8x3x3, .f32⟩
  | .hbm, ⟨75, _⟩ => ⟨S8x3, .f32⟩
  | .hbm, ⟨76, _⟩ => ⟨S8x3, .f32⟩
  | .hbm, ⟨77, _⟩ => ⟨S_, .f32⟩
  | .hbm, ⟨78, _⟩ => ⟨S8x3x3, .f32⟩
  | .hbm, ⟨79, _⟩ => ⟨S_, .f32⟩
  | .hbm, ⟨80, _⟩ => ⟨S8x3x3, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel2.lean ====
abbrev S8x3x3 : Shape := ⟨3, ![8, 3, 3]⟩
abbrev S8x3 : Shape := ⟨2, ![8, 3]⟩
abbrev S8x1x3 : Shape := ⟨3, ![8, 1, 3]⟩
abbrev S_ : Shape := ⟨0, ![]⟩
abbrev S8x3x1 : Shape := ⟨3, ![8, 3, 1]⟩

abbrev nBuf : Space → Nat
  | .hbm => 13
  | .vmem => 0
  | .smem => 0
  | _ => 0

abbrev bufTy : (tb : Table) → Fin (tcTables nBuf tb) → BufTy
  | .hbm, ⟨0, _⟩ => ⟨S8x3x3, .f32⟩
  | .hbm, ⟨1, _⟩ => ⟨S8x3, .f32⟩
  | .hbm, ⟨2, _⟩ => ⟨S8x3, .f32⟩
  | .hbm, ⟨3, _⟩ => ⟨S8x1x3, .f32⟩
  | .hbm, ⟨4, _⟩ => ⟨S8x3x3, .f32⟩
  | .hbm, ⟨5, _⟩ => ⟨S8x3x3, .f32⟩
  | .hbm, ⟨6, _⟩ => ⟨S_, .f32⟩
  | .hbm, ⟨7, _⟩ => ⟨S8x3, .f32⟩
  | .hbm, ⟨8, _⟩ => ⟨S8x1x3, .f32⟩
  | .hbm, ⟨9, _⟩ => ⟨S8x3x1, .f32⟩
  | .hbm, ⟨10, _⟩ => ⟨S8x3x3, .f32⟩
  | .hbm, ⟨11, _⟩ => ⟨S8x3x3, .f32⟩
  | .hbm, ⟨12, _⟩ => ⟨S8x3x3, .f32⟩
  | _, _ => ⟨S8x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Reference2Ideal.lean ====
abbrev S8x3x3 : Shape := ⟨3, ![8, 3, 3]⟩
abbrev S8x3 : Shape := ⟨2, ![8, 3]⟩
abbrev S8x1x3 : Shape := ⟨3, ![8, 1, 3]⟩
abbrev S8x3x1 : Shape := ⟨3, ![8, 3, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x3x3, .f32⟩
  | .hbm, ⟨1, _⟩ => ⟨S8x3, .f32⟩
  | .hbm, ⟨2, _⟩ => ⟨S8x3, .f32⟩
  | .hbm, ⟨3, _⟩ => ⟨S8x1x3, .f32⟩
  | .hbm, ⟨4, _⟩ => ⟨S8x1x3, .f32⟩
  | .hbm, ⟨5, _⟩ => ⟨S8x3, .f32⟩
  | .hbm, ⟨6, _⟩ => ⟨S8x3x1, .f32⟩
  | .hbm, ⟨7, _⟩ => ⟨S8x3x1, .f32⟩
  | .hbm, ⟨8, _⟩ => ⟨S8x1x3, .f32⟩
  | .hbm, ⟨9, _⟩ => ⟨S8x3x3, .f32⟩
  | .hbm, ⟨10, _⟩ => ⟨S8x3x3, .f32⟩
  | .hbm, ⟨11, _⟩ => ⟨S8x3x3, .f32⟩
  | _, _ => ⟨S8x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.RefOps.lean ====
/-
  The run of the reference program. It is a straight line of host operations, cut here into eight stretches; the run
  leaves in each buffer what the stretches, one after the other, compute from the launch contents.
-/
module

public import Idealize.ShloMosaic.Lib.StableHlo.Run
public import Idealize.ShloMosaic.Lib.Pipeline.Frame
public import proofs.«01_k».proof.Proof.Gen.ReferenceIdeal

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The operations that compute the scaled scores. -/
def opsScores : List (HloOp τ sig (Elt F)) :=
  [ reshape main_arg4 main_v0 rfl shapeCasts_S8_S8x1x1,
    binary main_arg0 main_arg1 main_v1 (fun l r => Host.dotGeneral dot_S8x64x2048_S8x64x2048_S8x2048x2048_1_1_2_2_0_0 none l r),
    nullary main_cst (constant S_ .f32 0x41000000#32),
    unary main_cst main_v2 (broadcastInDim S8x2048x2048 ![] bcast_S_S8x2048x2048),
    binary main_v1 main_v2 main_v3 Host.divf,
    unary main_v0 main_v4 (broadcastInDim S8x2048x2048 ![0, 1, 2] bcast_S8x1x1_S8x2048x2048_0_1_2),
    binary main_v4 main_v3 main_v5 mulf ]

/-- Where `opsScores` writes. -/
def opsScores_W : List (Ref sig .tc) :=
  [main_v0, main_v1, main_cst, main_v2, main_v3, main_v4, main_v5]

/-- `opsScores` writes nothing else. -/
theorem opsScores_keep (V : Valuation τ sig (Elt F)) (r : Ref sig .tc) (h : r ∉ opsScores_W) :
    after opsScores V (Proc.devRef .tc r) = V (Proc.devRef .tc r) :=
  after_of_writes_sub _ _ (forall_writes_sub_of_map rfl) h

/-- It touches device buffers only. -/
theorem opsScores_sub : (opsScores : List (HloOp τ sig (Elt F))).Forall fun op => op.bufs ⊆ tcRefs τ sig :=
  ⟨reshape_bufs_sub .., binary_bufs_sub .., nullary_bufs_sub .., unary_bufs_sub .., binary_bufs_sub .., unary_bufs_sub .., binary_bufs_sub ..⟩

/-- The operations that compute the softmax of the scores and its row maximum. -/
def opsSoftmax : List (HloOp τ sig (Elt F)) :=
  [ nullary main_cst_0 (constant S_ .f32 0xFF800000#32),
    binary main_v5 main_cst_0 main_v6 (fun x v => Host.reduce FloatOps.maximumf x v reducesTo_S8x2048x2048_S8x2048_d2 h_S_),
    nullary main_cst_1 (constant S_ .f32 0xFF800000#32),
    unary main_cst_1 main_v7 (broadcastInDim S8x2048 ![] bcast_S_S8x2048),
    binary main_v7 main_v6 main_v8 maximumf,
    unary main_v8 main_v9 (broadcastInDim S8x2048x1 ![0, 1] bcast_S8x2048_S8x2048x1_0_1),
    unary main_v9 main_v10 (broadcastInDim S8x2048x2048 ![0, 1, 2] bcast_S8x2048x1_S8x2048x2048_0_1_2),
    binary main_v5 main_v10 main_v11 subf,
    unary main_v11 main_v12 Host.exp,
    nullary main_cst_2 (constant S_ .f32 0x00000000#32),
    binary main_v12 main_cst_2 main_v13 (fun x v => Host.reduceAdd x v reducesTo_S8x2048x2048_S8x2048_d2 h_S_),
    unary main_v13 main_v14 (broadcastInDim S8x2048x1 ![0, 1] bcast_S8x2048_S8x2048x1_0_1),
    unary main_v14 main_v15 (broadcastInDim S8x2048x2048 ![0, 1, 2] bcast_S8x2048x1_S8x2048x2048_0_1_2),
    binary main_v12 main_v15 main_v16 Host.divf,
    nullary main_cst_3 (constant S_ .f32 0xFF800000#32),
    binary main_v16 main_cst_3 main_v17 (fun x v => Host.reduce FloatOps.maximumf x v reducesTo_S8x2048x2048_S8x2048_d2 h_S_) ]

/-- Where `opsSoftmax` writes. -/
def opsSoftmax_W : List (Ref sig .tc) :=
  [main_cst_0, main_v6, main_cst_1, main_v7, main_v8, main_v9, main_v10, main_v11, main_v12, main_cst_2, main_v13, main_v14, main_v15, main_v16, main_cst_3, main_v17]

/-- `opsSoftmax` writes nothing else. -/
theorem opsSoftmax_keep (V : Valuation τ sig (Elt F)) (r : Ref sig .tc) (h : r ∉ opsSoftmax_W) :
    after opsSoftmax V (Proc.devRef .tc r) = V (Proc.devRef .tc r) :=
  after_of_writes_sub _ _ (forall_writes_sub_of_map rfl) h

/-- It touches device buffers only. -/
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub ..⟩

/-- The operations that compute the first maximum of each row. -/
def opsArgmax : List (HloOp τ sig (Elt F)) :=
  [ nullary main_call0_v0 (iotaInDim S8x2048x2048 32 2),
    nullary main_call0_cst (constant S_ .f32 0xFF800000#32),
    nullary main_call0_c (constantI S_ 32 0#32),
    quaternary main_v16 main_call0_v0 main_call0_cst main_call0_c main_call0_v1_0 (fun x y u v j => (Host.argReduce reducer_argmax_f32_i32 x y u v reducesTo_S8x2048x2048_S8x2048_d2 h_S_ j).1),
    quaternary main_v16 main_call0_v0 main_call0_cst main_call0_c main_v18 (fun x y u v j => (Host.argReduce reducer_argmax_f32_i32 x y u v reducesTo_S8x2048x2048_S8x2048_d2 h_S_ j).2) ]

/-- Where `opsArgmax` writes. -/
def opsArgmax_W : List (Ref sig .tc) :=
  [main_call0_v0, main_call0_cst, main_call0_c, main_call0_v1_0, main_v18]

/-- `opsArgmax` writes nothing else. -/
theorem opsArgmax_keep (V : Valuation τ sig (Elt F)) (r : Ref sig .tc) (h : r ∉ opsArgmax_W) :
    after opsArgmax V (Proc.devRef .tc r) = V (Proc.devRef .tc r) :=
  after_of_writes_sub _ _ (forall_writes_sub_of_map rfl) h

/-- It touches device buffers only. -/
theorem opsArgmax_sub : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

/-- The operations that compute the correspondences and the weights with their trailing axis. -/
def opsPick : List (HloOp τ sig (Elt F)) :=
  [ reshape main_v18 main_v19 rfl shapeCasts_S8x2048_S8x2048x1,
    unary main_v17 main_v20 (broadcastInDim S8x2048x1 ![0, 1] bcast_S8x2048_S8x2048x1_0_1) ]

/-- Where `opsPick` writes. -/
def opsPick_W : List (Ref sig .tc) :=
  [main_v19, main_v20]

/-- `opsPick` writes nothing else. -/
theorem opsPick_keep (V : Valuation τ sig (Elt F)) (r : Ref sig .tc) (h : r ∉ opsPick_W) :
    after opsPick V (Proc.devRef .tc r) = V (Proc.devRef .tc r) :=
  after_of_writes_sub _ _ (forall_writes_sub_of_map rfl) h

/-- It touches device buffers only. -/
theorem opsPick_sub : (opsPick : List (HloOp τ sig (Elt F))).Forall fun op => op.bufs ⊆ tcRefs τ sig :=
  ⟨reshape_bufs_sub .., unary_bufs_sub ..⟩

/-- The operations that compute the target points that the correspondences name. -/
def opsGather : List (HloOp τ sig (Elt F)) :=
  [ unary main_arg2 main_v21 (transpose S8x2048x3 [0, 2, 1] · transposes_S8x3x2048_S8x2048x3_0_2_1),
    unary main_arg3 main_v22 (transpose S8x2048x3 [0, 2, 1] · transposes_S8x3x2048_S8x2048x3_0_2_1),
    reshape main_v19 main_v23 rfl shapeCasts_S8x2048x1_S8x2048,
    nullary main_c (constantI S_ 32 0#32),
    unary main_c main_v24 (broadcastInDim S8x2048 ![] bcast_S_S8x2048),
    binary main_v23 main_v24 main_v25 (cmpi .slt),
    nullary main_c_4 (constantI S_ 32 2048#32),
    unary main_c_4 main_v26 (broadcastInDim S8x2048 ![] bcast_S_S8x2048),
    binary main_v23 main_v26 main_v27 addi,
    ternary main_v25 main_v27 main_v23 main_v28 select,
    unary main_v28 main_v29 (broadcastInDim S8x2048x1 ![0, 1] bcast_S8x2048_S8x2048x1_0_1),
    binary main_v22 main_v29 main_v30 (fun x i => Host.gather gather_S8x2048x3_S8x2048x1_S8x2048x3_2_1_0_0_1_2_113 x i) ]

/-- Where `opsGather` writes. -/
def opsGather_W : List (Ref sig .tc) :=
  [main_v21, main_v22, main_v23, main_c, main_v24, main_v25, main_c_4, main_v26, main_v27, main_v28, main_v29, main_v30]

/-- `opsGather` writes nothing else. -/
theorem opsGather_keep (V : Valuation τ sig (Elt F)) (r : Ref sig .tc) (h : r ∉ opsGather_W) :
    after opsGather V (Proc.devRef .tc r) = V (Proc.devRef .tc r) :=
  after_of_writes_sub _ _ (forall_writes_sub_of_map rfl) h

/-- It touches device buffers only. -/
theorem opsGather_sub : (opsGather : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- The operations that compute the normalised weights. -/
def opsWeights : List (HloOp τ sig (Elt F)) :=
  [ unary main_v20 main_v31 Host.absf,
    nullary main_cst_5 (constant S_ .f32 0x00000000#32),
    binary main_v31 main_cst_5 main_v32 (fun x v => Host.reduceAdd x v reducesTo_S8x2048x1_S8_d1_2 h_S_),
    reshape main_v20 main_v33 rfl shapeCasts_S8x2048x1_S1x8x1x2048x1x1,
    unary main_v33 main_v34 (broadcastInDim S1x8x1x2048x3x1 ![0, 1, 2, 3, 4, 5] bcast_S1x8x1x2048x1x1_S1x8x1x2048x3x1_0_1_2_3_4_5),
    reshape main_v34 main_v35 rfl shapeCasts_S1x8x1x2048x3x1_S8x2048x3,
    nullary main_cst_6 (constant S_ .f32 0x33D6BF95#32),
    unary main_cst_6 main_v36 (broadcastInDim S8 ![] bcast_S_S8),
    binary main_v32 main_v36 main_v37 addf,
    unary main_v37 main_v38 (broadcastInDim S8x1x1 ![0] bcast_S8_S8x1x1_0),
    unary main_v38 main_v39 (broadcastInDim S8x2048x3 ![0, 1, 2] bcast_S8x1x1_S8x2048x3_0_1_2),
    binary main_v35 main_v39 main_v40 Host.divf ]

/-- Where `opsWeights` writes. -/
def opsWeights_W : List (Ref sig .tc) :=
  [main_v31, main_cst_5, main_v32, main_v33, main_v34, main_v35, main_cst_6, main_v36, main_v37, main_v38, main_v39, main_v40]

/-- `opsWeights` writes nothing else. -/
theorem opsWeights_keep (V : Valuation τ sig (Elt F)) (r : Ref sig .tc) (h : r ∉ opsWeights_W) :
    after opsWeights V (Proc.devRef .tc r) = V (Proc.devRef .tc r) :=
  after_of_writes_sub _ _ (forall_writes_sub_of_map rfl) h

/-- It touches device buffers only. -/
theorem opsWeights_sub : (opsWeights : List (HloOp τ sig (Elt F))).Forall fun op => op.bufs ⊆ tcRefs τ sig :=
  ⟨unary_bufs_sub .., nullary_bufs_sub .., binary_bufs_sub .., reshape_bufs_sub .., unary_bufs_sub .., reshape_bufs_sub .., nullary_bufs_sub .., unary_bufs_sub .., binary_bufs_sub .., unary_bufs_sub .., unary_bufs_sub .., binary_bufs_sub ..⟩

/-- The operations that compute the two weighted means. -/
def opsMeans : List (HloOp τ sig (Elt F)) :=
  [ binary main_v40 main_v21 main_v41 mulf,
    nullary main_cst_7 (constant S_ .f32 0x00000000#32),
    binary main_v41 main_cst_7 main_v42 (fun x v => Host.reduceAdd x v reducesTo_S8x2048x3_S8x3_d1 h_S_),
    unary main_v42 main_v43 (broadcastInDim S8x1x3 ![0, 2] bcast_S8x3_S8x1x3_0_2),
    binary main_v40 main_v30 main_v44 mulf,
    nullary main_cst_8 (constant S_ .f32 0x00000000#32),
    binary main_v44 main_cst_8 main_v45 (fun x v => Host.reduceAdd x v reducesTo_S8x2048x3_S8x3_d1 h_S_),
    unary main_v45 main_v46 (broadcastInDim S8x1x3 ![0, 2] bcast_S8x3_S8x1x3_0_2) ]

/-- Where `opsMeans` writes. -/
def opsMeans_W : List (Ref sig .tc) :=
  [main_v41, main_cst_7, main_v42, main_v43, main_v44, main_cst_8, main_v45, main_v46]

/-- `opsMeans` writes nothing else. -/
theorem opsMeans_keep (V : Valuation τ sig (Elt F)) (r : Ref sig .tc) (h : r ∉ opsMeans_W) :
    after opsMeans V (Proc.devRef .tc r) = V (Proc.devRef .tc r) :=
  after_of_writes_sub _ _ (forall_writes_sub_of_map rfl) h

/-- It touches device buffers only. -/
theorem opsMeans_sub : (opsMeans : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub ..⟩

/-- The operations that compute the covariance, the means without their unit axis, and the two zero arrays. -/
def opsCov : List (HloOp τ sig (Elt F)) :=
  [ unary main_v46 main_v47 (broadcastInDim S8x2048x3 ![0, 1, 2] bcast_S8x1x3_S8x2048x3_0_1_2),
    binary main_v30 main_v47 main_v48 subf,
    unary main_v48 main_v49 (transpose S8x3x2048 [0, 2, 1] · transposes_S8x2048x3_S8x3x2048_0_2_1),
    unary main_v43 main_v50 (broadcastInDim S8x2048x3 ![0, 1, 2] bcast_S8x1x3_S8x2048x3_0_1_2),
    binary main_v21 main_v50 main_v51 subf,
    binary main_v40 main_v51 main_v52 mulf,
    binary main_v49 main_v52 main_v53 (fun l r => Host.dotGeneral dot_S8x3x2048_S8x2048x3_S8x3x3_2_1_1_2_0_0 none l r),
    reshape main_v46 main_v54 rfl shapeCasts_S8x1x3_S8x3,
    reshape main_v43 main_v55 rfl shapeCasts_S8x1x3_S8x3,
    nullary main_cst_9 (constant S_ .f32 0x00000000#32),
    unary main_cst_9 main_v56 (broadcastInDim S8x3x3 ![] bcast_S_S8x3x3),
    nullary main_cst_10 (constant S_ .f32 0x00000000#32),
    unary main_cst_10 main_v57 (broadcastInDim S8x3x3 ![] bcast_S_S8x3x3) ]

/-- Where `opsCov` writes. -/
def opsCov_W : List (Ref sig .tc) :=
  [main_v47, main_v48, main_v49, main_v50, main_v51, main_v52, main_v53, main_v54, main_v55, main_cst_9, main_v56, main_cst_10, main_v57]

/-- `opsCov` writes nothing else. -/
theorem opsCov_keep (V : Valuation τ sig (Elt F)) (r : Ref sig .tc) (h : r ∉ opsCov_W) :
    after opsCov V (Proc.devRef .tc r) = V (Proc.devRef .tc r) :=
  after_of_writes_sub _ _ (forall_writes_sub_of_map rfl) h

/-- It touches device buffers only. -/
theorem opsCov_sub : (opsCov : List (HloOp τ sig (Elt F))).Forall fun op => op.bufs ⊆ tcRefs τ sig :=
  ⟨unary_bufs_sub .., binary_bufs_sub .., unary_bufs_sub .., unary_bufs_sub .., binary_bufs_sub .., binary_bufs_sub .., binary_bufs_sub .., reshape_bufs_sub .., reshape_bufs_sub .., nullary_bufs_sub .., unary_bufs_sub .., nullary_bufs_sub .., unary_bufs_sub ..⟩

/-- All of @main's operations, in order. -/
def ops : List (HloOp τ sig (Elt F)) :=
  opsScores ++ (opsSoftmax ++ (opsArgmax ++ (opsPick ++ (opsGather ++ (opsWeights ++ (opsMeans ++ opsCov))))))

set_option maxHeartbeats 4000000 in
set_option maxRecDepth 100000 in
/-- @main is that line. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches device buffers only. -/
theorem ops_sub : (ops : List (HloOp τ sig (Elt F))).Forall fun op => op.bufs ⊆ tcRefs τ sig := by
  rw [List.forall_iff_forall_mem]
  intro op h
  simp only [ops, List.mem_append] at h
  rcases h with h | h | h | h | h | h | h | h
  · exact List.forall_iff_forall_mem.mp opsScores_sub op h
  · exact List.forall_iff_forall_mem.mp opsSoftmax_sub op h
  · exact List.forall_iff_forall_mem.mp opsArgmax_sub op h
  · exact List.forall_iff_forall_mem.mp opsPick_sub op h
  · exact List.forall_iff_forall_mem.mp opsGather_sub op h
  · exact List.forall_iff_forall_mem.mp opsWeights_sub op h
  · exact List.forall_iff_forall_mem.mp opsMeans_sub op h
  · exact List.forall_iff_forall_mem.mp opsCov_sub op h

/-- No operation leaves a result undetermined. -/
theorem ops_fresh : ∀ op ∈ (ops : List (HloOp τ sig (Elt F))), op.fresh = ∅ :=
  List.forall_iff_forall_mem.mp (forall_fresh_of_map rfl)

/-- The program's run: every buffer ends at the fold of the operations over the launch contents, and every counter
    at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc),
        r.2.mem ((c.tc : Thread nD τ).loc b) = after ops (launchContents m c) (Proc.devRef .tc b))
      ∧ r.2.sem = fun _ => 0 :=
  (θ_run defs _ _).mono (fun _ h => ⟨h, funext fun g => by
      rcases g with ⟨_, ⟨⟨_, hs⟩⟩ | ⟨⟨_, hs⟩⟩⟩ <;> exact absurd hs (Nat.not_lt_zero _)⟩)
    (run_seq scopedRefs_eq scopedSems_eq defs main (fun _ => ops) main_eq (fun _ => ops_sub) m ρ (fun _ => ops_fresh))

end Cert.RefRun
-- ==== Proof.RefRun.lean ====
/-
  What the reference program's run leaves in its result buffers: each stretch's results are named as functions of the
  arrays that the stretch reads, and the results of the run are those functions composed.
-/
module

public import proofs.«01_k».proof.Proof.RefOps

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## What the stretches compute -/

/-- The scaled scores: temperature times the dot product over eight. -/
def scores (a0 a1 : FVec F S8x64x2048 .f32) (a4 : FVec F S8 .f32) : FVec F S8x2048x2048 .f32 :=
  mulf (broadcastInDim S8x2048x2048 ![0, 1, 2] bcast_S8x1x1_S8x2048x2048_0_1_2 (shapeCast S8x1x1 a4 shapeCasts_S8_S8x1x1))
    (Host.divf (Host.dotGeneral dot_S8x64x2048_S8x64x2048_S8x2048x2048_1_1_2_2_0_0 none a0 a1)
      (broadcastInDim S8x2048x2048 ![] bcast_S_S8x2048x2048 (constant S_ .f32 0x41000000#32)))

/-- An array of rows given one value per row, repeated along the row. -/
def spread (x : FVec F S8x2048 .f32) : FVec F S8x2048x2048 .f32 :=
  broadcastInDim S8x2048x2048 ![0, 1, 2] bcast_S8x2048x1_S8x2048x2048_0_1_2
    (broadcastInDim S8x2048x1 ![0, 1] bcast_S8x2048_S8x2048x1_0_1 x)

/-- A row's maximum, folded from minus infinity. -/
def rowMax (x : FVec F S8x2048x2048 .f32) : FVec F S8x2048 .f32 :=
  Host.reduce FloatOps.maximumf x (constant S_ .f32 0xFF800000#32) reducesTo_S8x2048x2048_S8x2048_d2 h_S_

/-- The exponentials of a row's scores less their maximum. -/
def expRows (z : FVec F S8x2048x2048 .f32) : FVec F S8x2048x2048 .f32 :=
  Host.exp (subf z (spread (maximumf (broadcastInDim S8x2048 ![] bcast_S_S8x2048 (constant S_ .f32 0xFF800000#32)) (rowMax z))))

/-- The softmax of the scores. -/
def softmax (z : FVec F S8x2048x2048 .f32) : FVec F S8x2048x2048 .f32 :=
  Host.divf (expRows z)
    (spread (Host.reduceAdd (expRows z) (constant S_ .f32 0x00000000#32) reducesTo_S8x2048x2048_S8x2048_d2 h_S_))

/-- The first column at which a row is greatest. -/
def firstMax (p : FVec F S8x2048x2048 .f32) : IVec S8x2048 32 := fun j =>
  (Host.argReduce reducer_argmax_f32_i32 p (iotaInDim S8x2048x2048 32 2)
    (constant S_ .f32 0xFF800000#32) (constantI S_ 32 0#32) reducesTo_S8x2048x2048_S8x2048_d2 h_S_ j).2

/-- The correspondences: those columns, with a trailing unit axis. -/
def corres (p : FVec F S8x2048x2048 .f32) : IVec S8x2048x1 32 :=
  shapeCast S8x2048x1 (firstMax p) shapeCasts_S8x2048_S8x2048x1

/-- The weights: a row's maximum with a trailing unit axis. -/
def weight (p : FVec F S8x2048x2048 .f32) : FVec F S8x2048x1 .f32 :=
  broadcastInDim S8x2048x1 ![0, 1] bcast_S8x2048_S8x2048x1_0_1 (rowMax p)

/-- Points as rows. -/
def points (a : FVec F S8x3x2048 .f32) : FVec F S8x2048x3 .f32 :=
  transpose S8x2048x3 [0, 2, 1] a transposes_S8x3x2048_S8x2048x3_0_2_1

/-- The row numbers to read, a negative one counted from the end. -/
def rowNumbers (k : IVec S8x2048x1 32) : IVec S8x2048x1 32 :=
  broadcastInDim S8x2048x1 ![0, 1] bcast_S8x2048_S8x2048x1_0_1
    (select (cmpi .slt (shapeCast S8x2048 k shapeCasts_S8x2048x1_S8x2048) (broadcastInDim S8x2048 ![] bcast_S_S8x2048 (constantI S_ 32 0#32)))
      (addi (shapeCast S8x2048 k shapeCasts_S8x2048x1_S8x2048) (broadcastInDim S8x2048 ![] bcast_S_S8x2048 (constantI S_ 32 2048#32)))
      (shapeCast S8x2048 k shapeCasts_S8x2048x1_S8x2048))

/-- The target points that the correspondences name. -/
def matched (a3 : FVec F S8x3x2048 .f32) (k : IVec S8x2048x1 32) : FVec F S8x2048x3 .f32 :=
  Host.gather gather_S8x2048x3_S8x2048x1_S8x2048x3_2_1_0_0_1_2_113 (points a3) (rowNumbers k)

/-- The weights over their total plus a small constant, repeated for the three coordinates. -/
def normed (w : FVec F S8x2048x1 .f32) : FVec F S8x2048x3 .f32 :=
  Host.divf
    (shapeCast S8x2048x3 (broadcastInDim S1x8x1x2048x3x1 ![0, 1, 2, 3, 4, 5] bcast_S1x8x1x2048x1x1_S1x8x1x2048x3x1_0_1_2_3_4_5
      (shapeCast S1x8x1x2048x1x1 w shapeCasts_S8x2048x1_S1x8x1x2048x1x1)) shapeCasts_S1x8x1x2048x3x1_S8x2048x3)
    (broadcastInDim S8x2048x3 ![0, 1, 2] bcast_S8x1x1_S8x2048x3_0_1_2 (broadcastInDim S8x1x1 ![0] bcast_S8_S8x1x1_0
      (addf (Host.reduceAdd (Host.absf w) (constant S_ .f32 0x00000000#32) reducesTo_S8x2048x1_S8_d1_2 h_S_)
        (broadcastInDim S8 ![] bcast_S_S8 (constant S_ .f32 0x33D6BF95#32)))))

/-- A weighted mean of points, with a unit axis where the points were. -/
def mean (nw x : FVec F S8x2048x3 .f32) : FVec F S8x1x3 .f32 :=
  broadcastInDim S8x1x3 ![0, 2] bcast_S8x3_S8x1x3_0_2
    (Host.reduceAdd (mulf nw x) (constant S_ .f32 0x00000000#32) reducesTo_S8x2048x3_S8x3_d1 h_S_)

/-- Points less their mean. -/
def centred (x : FVec F S8x2048x3 .f32) (mu : FVec F S8x1x3 .f32) : FVec F S8x2048x3 .f32 :=
  subf x (broadcastInDim S8x2048x3 ![0, 1, 2] bcast_S8x1x3_S8x2048x3_0_1_2 mu)

/-- The covariance of two sets of points about their means. -/
def cov (nw y x : FVec F S8x2048x3 .f32) (muy mux : FVec F S8x1x3 .f32) : FVec F S8x3x3 .f32 :=
  Host.dotGeneral dot_S8x3x2048_S8x2048x3_S8x3x3_2_1_1_2_0_0 none
    (transpose S8x3x2048 [0, 2, 1] (centred y muy) transposes_S8x2048x3_S8x3x2048_0_2_1) (mulf nw (centred x mux))

/-- A mean without its unit axis. -/
def flat (mu : FVec F S8x1x3 .f32) : FVec F S8x3 .f32 := shapeCast S8x3 mu shapeCasts_S8x1x3_S8x3

variable (V : Valuation τ sig (Elt F))

theorem scores_eq : after opsScores V (main_v5 : DevRef τ sig)
    = scores (V (main_arg0 : DevRef τ sig)) (V (main_arg1 : DevRef τ sig)) (V (main_arg4 : DevRef τ sig)) := by
  unfold opsScores; after_results; rfl

theorem softmax_eq : after opsSoftmax V (main_v16 : DevRef τ sig) = softmax (V (main_v5 : DevRef τ sig)) := by
  unfold opsSoftmax; after_results; rfl

theorem softmaxMax_eq : after opsSoftmax V (main_v17 : DevRef τ sig) = rowMax (softmax (V (main_v5 : DevRef τ sig))) := by
  unfold opsSoftmax; after_results; rfl

/-- The call's five operations, whatever the two functions of the last ones: what the second leaves. -/
theorem call_eq (g : FVec F S8x2048x2048 .f32 → IVec S8x2048x2048 32 → FVec F S_ .f32 → IVec S_ 32 → FVec F S8x2048 .f32)
    (f : FVec F S8x2048x2048 .f32 → IVec S8x2048x2048 32 → FVec F S_ .f32 → IVec S_ 32 → IVec S8x2048 32) :
    after [ nullary main_call0_v0 (iotaInDim S8x2048x2048 32 2),
        nullary main_call0_cst (constant S_ .f32 0xFF800000#32),
        nullary main_call0_c (constantI S_ 32 0#32),
        quaternary main_v16 main_call0_v0 main_call0_cst main_call0_c main_call0_v1_0 g,
        quaternary main_v16 main_call0_v0 main_call0_cst main_call0_c main_v18 f ] V (main_v18 : DevRef τ sig)
      = f (V (main_v16 : DevRef τ sig)) (iotaInDim S8x2048x2048 32 2) (constant S_ .f32 0xFF800000#32) (constantI S_ 32 0#32) := by
  after_results

theorem firstMax_eq : after opsArgmax V (main_v18 : DevRef τ sig) = firstMax (V (main_v16 : DevRef τ sig)) :=
  call_eq V _ _

theorem corres_eq : after opsPick V (main_v19 : DevRef τ sig)
    = shapeCast S8x2048x1 (V (main_v18 : DevRef τ sig)) shapeCasts_S8x2048_S8x2048x1 := by
  unfold opsPick; after_results; rfl

theorem weight_eq : after opsPick V (main_v20 : DevRef τ sig)
    = broadcastInDim S8x2048x1 ![0, 1] bcast_S8x2048_S8x2048x1_0_1 (V (main_v17 : DevRef τ sig)) := by
  unfold opsPick; after_results

theorem matched_eq : after opsGather V (main_v30 : DevRef τ sig)
    = matched (V (main_arg3 : DevRef τ sig)) (V (main_v19 : DevRef τ sig)) := by
  unfold opsGather; after_results; rfl

theorem points_eq : after opsGather V (main_v21 : DevRef τ sig) = points (V (main_arg2 : DevRef τ sig)) := by
  unfold opsGather; after_results; rfl

theorem normed_eq : after opsWeights V (main_v40 : DevRef τ sig) = normed (V (main_v20 : DevRef τ sig)) := by
  unfold opsWeights; after_results; rfl

theorem meanX_eq : after opsMeans V (main_v43 : DevRef τ sig)
    = mean (V (main_v40 : DevRef τ sig)) (V (main_v21 : DevRef τ sig)) := by
  unfold opsMeans; after_results; rfl

theorem meanY_eq : after opsMeans V (main_v46 : DevRef τ sig)
    = mean (V (main_v40 : DevRef τ sig)) (V (main_v30 : DevRef τ sig)) := by
  unfold opsMeans; after_results; rfl

theorem cov_eq : after opsCov V (main_v53 : DevRef τ sig)
    = cov (V (main_v40 : DevRef τ sig)) (V (main_v30 : DevRef τ sig)) (V (main_v21 : DevRef τ sig))
        (V (main_v46 : DevRef τ sig)) (V (main_v43 : DevRef τ sig)) := by
  unfold opsCov; after_results; rfl

theorem flatY_eq : after opsCov V (main_v54 : DevRef τ sig) = flat (V (main_v46 : DevRef τ sig)) := by
  unfold opsCov; after_results; rfl

theorem flatX_eq : after opsCov V (main_v55 : DevRef τ sig) = flat (V (main_v43 : DevRef τ sig)) := by
  unfold opsCov; after_results; rfl

/-! ## The results after the run -/

section Results

variable (a0 a1 : FVec F S8x64x2048 .f32) (a2 a3 : FVec F S8x3x2048 .f32) (a4 : FVec F S8 .f32)

/-- The softmax as a function of the arguments. -/
def resSoftmax : FVec F S8x2048x2048 .f32 := softmax (scores a0 a1 a4)
/-- The correspondences as a function of the arguments. -/
def resCorres : IVec S8x2048x1 32 := corres (resSoftmax a0 a1 a4)
/-- The weights as a function of the arguments. -/
def resWeight : FVec F S8x2048x1 .f32 := weight (resSoftmax a0 a1 a4)
/-- The matched target points as a function of the arguments. -/
def resMatched : FVec F S8x2048x3 .f32 := matched a3 (resCorres a0 a1 a4)
/-- The normalised weights as a function of the arguments. -/
def resNormed : FVec F S8x2048x3 .f32 := normed (resWeight a0 a1 a4)
/-- The mean of the matched target points. -/
def resMeanY : FVec F S8x1x3 .f32 := mean (resNormed a0 a1 a4) (resMatched a0 a1 a3 a4)
/-- The mean of the source points. -/
def resMeanX : FVec F S8x1x3 .f32 := mean (resNormed a0 a1 a4) (points a2)
/-- The covariance. -/
def resCov : FVec F S8x3x3 .f32 :=
  cov (resNormed a0 a1 a4) (resMatched a0 a1 a3 a4) (points a2) (resMeanY a0 a1 a3 a4) (resMeanX a0 a1 a2 a4)

end Results

/-- The line, stretch by stretch. -/
theorem after_ops : after ops V
    = after opsCov (after opsMeans (after opsWeights (after opsGather (after opsPick (after opsArgmax (after opsSoftmax (after opsScores V))))))) := by
  simp only [ops, after_append]

/-- A buffer that no stretch writes keeps its contents. -/
theorem keep (r : Ref sig .tc) (h0 : r ∉ opsScores_W) (h1 : r ∉ opsSoftmax_W) (ha : r ∉ opsArgmax_W) (h2 : r ∉ opsPick_W) (h3 : r ∉ opsGather_W)
    (h4 : r ∉ opsWeights_W) (h5 : r ∉ opsMeans_W) (h6 : r ∉ opsCov_W) :
    after ops V (Proc.devRef .tc r) = V (Proc.devRef .tc r) := by
  rw [after_ops, opsCov_keep _ r h6, opsMeans_keep _ r h5, opsWeights_keep _ r h4, opsGather_keep _ r h3,
    opsPick_keep _ r h2, opsArgmax_keep _ r ha, opsSoftmax_keep _ r h1, opsScores_keep _ r h0]

theorem corres_mid : after opsPick (after opsArgmax (after opsSoftmax (after opsScores V))) (main_v19 : DevRef τ sig) = resCorres (V (main_arg0 : DevRef τ sig)) (V (main_arg1 : DevRef τ sig)) (V (main_arg4 : DevRef τ sig)) := by
  rw [corres_eq, firstMax_eq, softmax_eq, scores_eq]; rfl

theorem weight_mid : after opsPick (after opsArgmax (after opsSoftmax (after opsScores V))) (main_v20 : DevRef τ sig) = resWeight (V (main_arg0 : DevRef τ sig)) (V (main_arg1 : DevRef τ sig)) (V (main_arg4 : DevRef τ sig)) := by
  rw [weight_eq, opsArgmax_keep _ main_v17 (by decide), softmaxMax_eq, scores_eq]; rfl

/-- The correspondences after the run. -/
theorem corres_after : after ops V (main_v19 : DevRef τ sig) = resCorres (V (main_arg0 : DevRef τ sig)) (V (main_arg1 : DevRef τ sig)) (V (main_arg4 : DevRef τ sig)) := by
  rw [after_ops, opsCov_keep _ main_v19 (by decide), opsMeans_keep _ main_v19 (by decide), opsWeights_keep _ main_v19 (by decide),
    opsGather_keep _ main_v19 (by decide), corres_mid]

/-- The weights after the run. -/
theorem weight_after : after ops V (main_v20 : DevRef τ sig) = resWeight (V (main_arg0 : DevRef τ sig)) (V (main_arg1 : DevRef τ sig)) (V (main_arg4 : DevRef τ sig)) := by
  rw [after_ops, opsCov_keep _ main_v20 (by decide), opsMeans_keep _ main_v20 (by decide), opsWeights_keep _ main_v20 (by decide),
    opsGather_keep _ main_v20 (by decide), weight_mid]

/-- What the three stretches before the means leave: the normalised weights, -/
theorem normed_mid : after opsWeights (after opsGather (after opsPick (after opsArgmax (after opsSoftmax (after opsScores V))))) (main_v40 : DevRef τ sig)
    = resNormed (V (main_arg0 : DevRef τ sig)) (V (main_arg1 : DevRef τ sig)) (V (main_arg4 : DevRef τ sig)) := by
  rw [normed_eq, opsGather_keep _ main_v20 (by decide), weight_mid]; rfl

/-- the matched target points, -/
theorem matched_mid : after opsWeights (after opsGather (after opsPick (after opsArgmax (after opsSoftmax (after opsScores V))))) (main_v30 : DevRef τ sig)
    = resMatched (V (main_arg0 : DevRef τ sig)) (V (main_arg1 : DevRef τ sig)) (V (main_arg3 : DevRef τ sig)) (V (main_arg4 : DevRef τ sig)) := by
  rw [opsWeights_keep _ main_v30 (by decide), matched_eq, corres_mid, opsPick_keep _ main_arg3 (by decide),
    opsArgmax_keep _ main_arg3 (by decide), opsSoftmax_keep _ main_arg3 (by decide), opsScores_keep _ main_arg3 (by decide)]; rfl

/-- and the source points. -/
theorem points_mid : after opsWeights (after opsGather (after opsPick (after opsArgmax (after opsSoftmax (after opsScores V))))) (main_v21 : DevRef τ sig)
    = points (V (main_arg2 : DevRef τ sig)) := by
  rw [opsWeights_keep _ main_v21 (by decide), points_eq, opsPick_keep _ main_arg2 (by decide),
    opsArgmax_keep _ main_arg2 (by decide), opsSoftmax_keep _ main_arg2 (by decide), opsScores_keep _ main_arg2 (by decide)]

/-- The covariance after the run. -/
theorem cov_after : after ops V (main_v53 : DevRef τ sig) = resCov (V (main_arg0 : DevRef τ sig)) (V (main_arg1 : DevRef τ sig)) (V (main_arg2 : DevRef τ sig)) (V (main_arg3 : DevRef τ sig)) (V (main_arg4 : DevRef τ sig)) := by
  rw [after_ops, cov_eq, meanX_eq, meanY_eq, opsMeans_keep _ main_v40 (by decide), opsMeans_keep _ main_v30 (by decide),
    opsMeans_keep _ main_v21 (by decide), normed_mid, matched_mid, points_mid]; rfl

/-- The target points' mean after the run. -/
theorem meanY_after : after ops V (main_v54 : DevRef τ sig) = flat (resMeanY (V (main_arg0 : DevRef τ sig)) (V (main_arg1 : DevRef τ sig)) (V (main_arg3 : DevRef τ sig)) (V (main_arg4 : DevRef τ sig))) := by
  rw [after_ops, flatY_eq, meanY_eq, normed_mid, matched_mid]; rfl

/-- The source points' mean after the run. -/
theorem meanX_after : after ops V (main_v55 : DevRef τ sig) = flat (resMeanX (V (main_arg0 : DevRef τ sig)) (V (main_arg1 : DevRef τ sig)) (V (main_arg2 : DevRef τ sig)) (V (main_arg4 : DevRef τ sig))) := by
  rw [after_ops, flatX_eq, meanX_eq, normed_mid, points_mid]; rfl

end Cert.RefRun
-- ==== Proof.Row.lean ====
/-
  One row of scores: its maximum, the first column where the maximum is attained, the sum of its exponentials, and
  the two ways in which the two programs find the column and the weight.
-/
module

public import proofs.«01_k».proof.Proof.RefRun
public import Idealize.ShloMosaic.PureOps.Ideal.Laws
public import Idealize.ShloMosaic.Lib.Pipeline.Value
public import Idealize.ShloMosaic.Lib.ValueIdx
public import Idealize.ShloMosaic.Lib.StableHlo.Predicate
public import Idealize.ShloMosaic.Lib.Pointwise

@[expose] public section

noncomputable section

namespace Cert.Row

open Idealize.ShloMosaic

/-- Column `k` is the first at which the row `f` is greatest. -/
structure IsFirst {n : ℕ} (f : Fin n → ℝ) (k : Fin n) : Prop where
  le : ∀ m, f m ≤ f k
  first : ∀ m, f m = f k → k ≤ m

/-- Every row with a column has such a column. -/
theorem exists_first {n : ℕ} [NeZero n] (f : Fin n → ℝ) : ∃ k, IsFirst f k := by
  classical
  obtain ⟨k₀, h₀⟩ := Finite.exists_max f
  have hne : (Finset.univ.filter fun m => f m = f k₀).Nonempty := ⟨k₀, by simp⟩
  have hmem := Finset.min'_mem _ hne
  rw [Finset.mem_filter] at hmem
  refine ⟨(Finset.univ.filter fun m => f m = f k₀).min' hne, fun m => (h₀ m).trans hmem.2.symm.le, fun m hm => ?_⟩
  exact Finset.min'_le _ _ (by rw [Finset.mem_filter]; exact ⟨Finset.mem_univ _, hm.trans hmem.2⟩)

/-- A fold of `max` from minus infinity is the greatest element. -/
theorem fold_max {n : ℕ} (g : Fin n → EReal) (k : Fin n) (h : ∀ m, g m ≤ g k) : Finset.univ.fold max ⊥ g = g k :=
  le_antisymm ((Finset.fold_max_le _).2 ⟨bot_le, fun m _ => h m⟩)
    ((Finset.le_fold_max _).2 (Or.inr ⟨k, Finset.mem_univ _, le_rfl⟩))

/-! ## The least column, as a fold of the signed minimum -/

theorem toInt_column (m : Fin 2048) : (BitVec.ofNat 32 m.val).toInt = m.val := by
  rw [BitVec.toInt_eq_toNat_of_lt (by simp [BitVec.toNat_ofNat]; omega)]
  simp [BitVec.toNat_ofNat]; omega

theorem minsi_le {c x y : BitVec 32} : c.toInt ≤ (IntOp.minsi x y).toInt ↔ c.toInt ≤ x.toInt ∧ c.toInt ≤ y.toInt := by
  unfold IntOp.minsi
  split <;> rename_i h <;> simp only [BitVec.slt, decide_eq_true_eq] at h <;> omega

theorem minsi_ge {c x y : BitVec 32} : (IntOp.minsi x y).toInt ≤ c.toInt ↔ x.toInt ≤ c.toInt ∨ y.toInt ≤ c.toInt := by
  unfold IntOp.minsi
  split <;> rename_i h <;> simp only [BitVec.slt, decide_eq_true_eq] at h <;> omega

/-- A fold of the signed minimum over words none of which is below a column `k`, one of which is `k`, is `k`. -/
theorem fold_minsi (w : Fin 2048 → BitVec 32) (k : Fin 2048) (hk : w k = BitVec.ofNat 32 k.val)
    (h : ∀ m, (k.val : ℤ) ≤ (w m).toInt) : Finset.univ.fold IntOp.minsi 2147483647#32 w = BitVec.ofNat 32 k.val := by
  apply BitVec.eq_of_toInt_eq
  apply le_antisymm
  · refine (Finset.fold_op_rel_iff_or (r := fun c x : BitVec 32 => x.toInt ≤ c.toInt) minsi_ge).2 (Or.inr ⟨k, Finset.mem_univ _, ?_⟩)
    rw [hk]
  · refine (Finset.fold_op_rel_iff_and (r := fun c x : BitVec 32 => c.toInt ≤ x.toInt) minsi_le).2 ⟨?_, fun m _ => ?_⟩
    · rw [toInt_column]
      have := k.isLt
      have e : (2147483647#32 : BitVec 32).toInt = 2147483647 := by decide
      rw [e]; omega
    · rw [toInt_column]; exact h m

/-! ## The first column, as the host's fold over (value, column) pairs -/

theorem reducer_eq (a b : Ideal .f32 × BitVec 32) : Cert.ReferenceIdeal.reducer_argmax_f32_i32 a b
    = (if (b.1 : EReal) < a.1 then a.1 else b.1,
       if (b.1 : EReal) < a.1 ∨ ((a.1 : EReal) = b.1 ∧ a.2.slt b.2 = true) then a.2 else b.2) := by
  unfold Cert.ReferenceIdeal.reducer_argmax_f32_i32
  simp only [Ideal.cmpf_def, Ideal.cmp, IntOp.cmpi, IntOp.ori, IntOp.andi, Scalar.select]
  by_cases h1 : (b.1 : EReal) < a.1 <;> by_cases h2 : (a.1 : EReal) = b.1 <;> by_cases h3 : a.2.slt b.2 = true <;>
    simp [h1, h2, h3]

/-- A row's pairs folded in order: pairs of smaller value first, then the pair of the greatest value, then pairs of
    no greater value and of larger word, leave that pair. -/
theorem foldl_first {ι : Type} (q : ι → Ideal .f32) (w : ι → BitVec 32) (pre post : List ι) (i : ι)
    (hpre : ∀ m ∈ pre, (q m : EReal) < q i) (hpost : ∀ m ∈ post, (q m : EReal) ≤ q i)
    (hw : ∀ m ∈ post, (w i).slt (w m) = true) (a : Ideal .f32 × BitVec 32) (ha : (a.1 : EReal) < q i) :
    (pre ++ i :: post).foldl (fun r m => Cert.ReferenceIdeal.reducer_argmax_f32_i32 r (q m, w m)) a = (q i, w i) := by
  induction pre generalizing a with
  | nil =>
    rw [List.nil_append, List.foldl_cons]
    have e : Cert.ReferenceIdeal.reducer_argmax_f32_i32 a (q i, w i) = (q i, w i) := by
      rw [reducer_eq]
      simp only [not_lt.2 ha.le, ha.ne, if_false, false_or, false_and]
    rw [e]
    clear e ha a hpre
    induction post with
    | nil => rfl
    | cons m post ih =>
      rw [List.foldl_cons]
      have e : Cert.ReferenceIdeal.reducer_argmax_f32_i32 (q i, w i) (q m, w m) = (q i, w i) := by
        rw [reducer_eq]
        rcases (hpost m (by simp)).lt_or_eq with h | h
        · simp only [h, if_true, true_or]
        · simp only [h, hw m (by simp), lt_irrefl, if_false, false_or, and_self, if_true]
      rw [e]
      exact ih (fun m' h' => hpost m' (by simp [h'])) (fun m' h' => hw m' (by simp [h']))
  | cons m pre ih =>
    rw [List.cons_append, List.foldl_cons]
    refine ih (fun m' h' => hpre m' (by simp [h'])) _ ?_
    rw [reducer_eq]
    dsimp only
    split
    · exact ha
    · exact hpre m (by simp)

/-! ## The softmax of a row of real scores -/

/-- The sum of a row's exponentials, each less the value at column `k`. -/
def total {n : ℕ} (f : Fin n → ℝ) (k : Fin n) : ℝ := ∑ m, Real.exp (f m - f k)

theorem total_pos {n : ℕ} (f : Fin n → ℝ) (k : Fin n) : 0 < total f k :=
  Finset.sum_pos (fun m _ => Real.exp_pos _) ⟨k, Finset.mem_univ _⟩

theorem exp_sub (a b : ℝ) : Ideal.exp ((a : EReal) - (b : EReal)) = ((Real.exp (a - b) : ℝ) : EReal) := by
  rw [← EReal.coe_sub]; rfl

theorem sum_exp {n : ℕ} (f : Fin n → ℝ) (k : Fin n) :
    ∑ m, Ideal.exp ((f m : EReal) - (f k : EReal)) = ((total f k : ℝ) : EReal) := by
  simp only [exp_sub, total]
  exact (map_sum (⟨⟨fun x : ℝ => (x : EReal), EReal.coe_zero⟩, EReal.coe_add⟩ : ℝ →+ EReal) _ _).symm

/-- The softmax of a row at a column. -/
def soft {n : ℕ} (f : Fin n → ℝ) (k m : Fin n) : ℝ := Real.exp (f m - f k) / total f k

theorem div_exp {n : ℕ} (f : Fin n → ℝ) (k m : Fin n) :
    Ideal.div (Ideal.exp ((f m : EReal) - (f k : EReal))) ((total f k : ℝ) : EReal) = ((soft f k m : ℝ) : EReal) := by
  rw [exp_sub, Ideal.div_coe (total_pos f k).ne', ← EReal.coe_mul, mul_one_div]; rfl

theorem soft_self {n : ℕ} (f : Fin n → ℝ) (k : Fin n) : soft f k k = 1 / total f k := by
  rw [soft, sub_self, Real.exp_zero]

theorem soft_pos {n : ℕ} (f : Fin n → ℝ) (k m : Fin n) : 0 < soft f k m := div_pos (Real.exp_pos _) (total_pos f k)

theorem soft_le {n : ℕ} {f : Fin n → ℝ} {k : Fin n} (h : IsFirst f k) (m : Fin n) : soft f k m ≤ soft f k k := by
  unfold soft
  have := total_pos f k
  have := h.le m
  gcongr

theorem soft_lt {n : ℕ} {f : Fin n → ℝ} {k : Fin n} (h : IsFirst f k) {m : Fin n} (hm : m < k) : soft f k m < soft f k k := by
  unfold soft
  have := total_pos f k
  have h' : f m < f k := lt_of_le_of_ne (h.le m) fun e => absurd (h.first m e) (not_le.2 hm)
  gcongr

/-- The weight as the kernel has it: one over the sum of the exponentials. -/
theorem one_div_total {n : ℕ} (f : Fin n → ℝ) (k : Fin n) :
    Ideal.div 1 ((total f k : ℝ) : EReal) = ((soft f k k : ℝ) : EReal) := by
  rw [soft_self, Ideal.div_coe (total_pos f k).ne', one_mul]

end Cert.Row
-- ==== Proof.KBody.lean ====
/-
  What the first kernel body computes from one point's blocks, read at an index: the scores of 512 rows against all
  2048 columns, each row's first column of greatest score, its weight, and the target points picked by a product with
  the rows' one-hot vectors.
-/
module

public import proofs.«01_k».proof.Proof.Row
public import proofs.«01_k».proof.Proof.Gen.KernelIdeal.Skeleton

@[expose] public section

noncomputable section

namespace Cert.KBody

open Cert.KernelIdeal Cert.KernelIdeal.Gen
open Idealize.ShloMosaic hiding ix1 ix2 ix3
open Idealize.ShloMosaic.ValueIdx

/-- A row's greatest score, as the kernel folds it. -/
def top (z : Fin 2048 → EReal) : EReal := Finset.univ.fold max (Ideal.ofBits .f32 0xFF800000#32) z

/-- The first column of greatest score, as the kernel finds it: the least of the columns' words, 2048 where the score
    is not the greatest. -/
def least (z : Fin 2048 → EReal) : BitVec 32 :=
  Finset.univ.fold IntOp.minsi 2147483647#32
    fun m => Scalar.select (Ideal.cmp .oeq (z m) (top z)) (BitVec.ofNat 32 m.val) 2048#32

/-- A row's weight, as the kernel computes it. -/
def weight (z : Fin 2048 → EReal) : EReal :=
  Ideal.div (Ideal.ofBits .f32 0x3F800000#32) (∑ m, Ideal.exp (z m - top z))

/-- The value that a row picks out of a vector, as the kernel computes it: a product with the row's one-hot vector. -/
def pick (z t : Fin 2048 → EReal) : EReal :=
  ∑ m, t m * Scalar.select (IntOp.cmpi .eq (BitVec.ofNat 32 m.val) (least z)) (Ideal.ofBits .f32 0x3F800000#32) (Ideal.ofBits .f32 0x00000000#32)

/-- A score: the dot product of two embeddings times an eighth times the temperature. -/
def score (e g : Fin 64 → EReal) (t : EReal) : EReal := (∑ d, e d * g d) * Ideal.ofBits .f32 0x3E000000#32 * t

section Body

variable (v0 : Vec Ideal S1x64x512 .bf16) (v2 : Vec Ideal S1x64x2048 .bf16) (v8 : Ideal .f32)

/-- The scores of row `r` of a block. -/
def row (r : Fin 512) : Fin 2048 → EReal := fun m => score (fun d => v0 (ix3 0 d r)) (fun d => v2 (ix3 0 d m)) v8

theorem scores_apply (r : Fin 512) (m : Fin 2048) : k0_pay2 v0 v2 v8 (ix2 r m) = row v0 v2 v8 r m := by
  unfold k0_pay2
  show (FloatOps.matmul dot_S64x512_S64x2048_S512x2048_0_0_1_1_n_n none _ _ (constant S512x2048 .f32 0x00000000#32) (ix2 r m))
    * Ideal.ofBits .f32 0x3E000000#32 * v8 = _
  unfold row score
  congr 2
  rw [Ideal.matmul_constant_zero_apply]
  have hr : dot_S64x512_S64x2048_S512x2048_0_0_1_1_n_n.contr.rank = 1 := rfl
  have hs : dot_S64x512_S64x2048_S512x2048_0_0_1_1_n_n.contr.size ⟨0, by omega⟩ = 64 := rfl
  rw [← Equiv.sum_comp (contrEquiv1 dot_S64x512_S64x2048_S512x2048_0_0_1_1_n_n 64 hr hs).symm]
  refine Finset.sum_congr rfl fun d _ => ?_
  congr 1
  · rw [shapeCast_dropUnit_apply]
    refine congrArg v0 (funext fun a => Fin.ext ?_)
    match a with
    | ⟨0, _⟩ => rfl
    | ⟨1, _⟩ => exact contrEquiv1_symm_val _ 64 hr hs d
    | ⟨2, _⟩ => rfl
  · rw [shapeCast_dropUnit_apply]
    refine congrArg v2 (funext fun a => Fin.ext ?_)
    match a with
    | ⟨0, _⟩ => rfl
    | ⟨1, _⟩ => exact contrEquiv1_symm_val _ 64 hr hs d
    | ⟨2, _⟩ => rfl

/-- The one reduced index of a block's rows: row and column. -/
theorem lift_row (r : Fin 512) (m : Fin 2048) : reduces_S512x2048_S512.lift (ix1 r) m = ix2 r m := by
  funext a
  match a with
  | ⟨0, _⟩ => rfl
  | ⟨1, _⟩ => rfl

/-- A column of a value per row, read at a row: the unit axis dropped. -/
theorem column_apply {α : Type} (x : S512.Idx → α) (r : Fin 512) : shapeCast S512x1 x shapeCasts_S512_S512x1 (ix2 r 0) = x (ix1 r) :=
  shapeCast_apply x _ _ _ (by
    show (Shape.rowMajor ⟨1, ![512]⟩ (ix1 r)).val = (Shape.rowMajor ⟨2, ![512, 1]⟩ (ix2 r 0)).val
    rw [Shape.rowMajor_val_one, Shape.rowMajor_val_two]
    show r.val = r.val * 1 + 0
    omega)

/-- A value per row repeated over the columns. -/
theorem across_apply {α : Type} (x : S512x1.Idx → α) (r : Fin 512) (m : Fin 2048) :
    broadcastTo S512x2048 x broadcasts_S512x1_S512x2048 (ix2 r m) = x (ix2 r 0) :=
  broadcastTo_apply x _ _ _ (fun a => match a with
    | ⟨0, _⟩ => rfl
    | ⟨1, _⟩ => rfl)

theorem top_apply (r : Fin 512) : k0_pay3 v0 v2 v8 (ix2 r 0) = top (row v0 v2 v8 r) := by
  unfold k0_pay3
  refine (column_apply _ r).trans ?_
  refine (Ideal.multiReduction_maximumf_single _ _ reduces_S512x2048_S512 (.inl rfl) rfl (ix1 r)).trans ?_
  show Finset.univ.fold max (Ideal.ofBits .f32 0xFF800000#32) _ = _
  unfold top
  refine Finset.fold_congr fun (m : Fin 2048) _ => ?_
  exact (congrArg _ (lift_row r m)).trans (scores_apply v0 v2 v8 r m)

theorem least_apply (r : Fin 512) : k0_pay4 v0 v2 v8 (ix2 r 0) = least (row v0 v2 v8 r) := by
  unfold k0_pay4
  refine (column_apply _ r).trans ?_
  refine (multiReductionI_eq_fold .minsi _ _ reduces_S512x2048_S512 rfl (ix1 r)).trans ?_
  refine (reduces_S512x2048_S512.fold_filter_drop_single _ _ _ (ix1 r)).trans ?_
  unfold least
  refine Finset.fold_congr fun (m : Fin 2048) _ => ?_
  refine (congrArg _ (lift_row r m)).trans ?_
  show Scalar.select (Ideal.cmp .oeq (k0_pay2 v0 v2 v8 (ix2 r m)) (broadcastTo S512x2048 (k0_pay3 v0 v2 v8) broadcasts_S512x1_S512x2048 (ix2 r m)))
    (iota .tc S512x2048 32 [1] iota_S512x2048_d1_w32 (ix2 r m)) 2048#32 = _
  rw [across_apply, scores_apply, top_apply, iota_single_apply]

theorem corres_apply (r : Fin 512) : k0_pay5 v0 v2 v8 (ix3 0 r 0) = least (row v0 v2 v8 r) := by
  unfold k0_pay5
  refine (shapeCast_addUnit_apply _ _ _ _).trans ?_
  refine Eq.trans (congrArg _ (funext fun a => ?_)) (least_apply v0 v2 v8 r)
  match a with
  | ⟨0, _⟩ => rfl
  | ⟨1, _⟩ => rfl

theorem weight_apply (r : Fin 512) : k0_pay6 v0 v2 v8 (ix3 0 r 0) = weight (row v0 v2 v8 r) := by
  unfold k0_pay6
  refine (shapeCast_addUnit_apply _ _ _ _).trans ?_
  refine Eq.trans (congrArg _ (show _ = ix2 r 0 from funext fun a => ?_)) ?_
  · match a with
    | ⟨0, _⟩ => rfl
    | ⟨1, _⟩ => rfl
  show Ideal.div (Ideal.ofBits .f32 0x3F800000#32) (shapeCast S512x1 _ shapeCasts_S512_S512x1 (ix2 r 0)) = _
  rw [column_apply]
  unfold weight
  refine congrArg _ ((Ideal.multiReduction_add_single _ _ reduces_S512x2048_S512 (.inl rfl) rfl (ix1 r)).trans ?_)
  refine Finset.sum_congr rfl fun (m : Fin 2048) _ => ?_
  refine (congrArg _ (lift_row r m)).trans ?_
  show Ideal.exp (k0_pay2 v0 v2 v8 (ix2 r m) - broadcastTo S512x2048 (k0_pay3 v0 v2 v8) broadcasts_S512x1_S512x2048 (ix2 r m)) = _
  rw [across_apply, scores_apply, top_apply]

theorem hot_apply (r : Fin 512) (m : Fin 2048) :
    k0_pay7 v0 v2 v8 (ix2 r m) = IntOp.cmpi .eq (BitVec.ofNat 32 m.val) (least (row v0 v2 v8 r)) := by
  unfold k0_pay7
  show IntOp.cmpi .eq (iota .tc S512x2048 32 [1] iota_S512x2048_d1_w32 (ix2 r m))
    (broadcastTo S512x2048 (k0_pay4 v0 v2 v8) broadcasts_S512x1_S512x2048 (ix2 r m)) = _
  rw [across_apply, least_apply, iota_single_apply]

/-- The product with the one-hot vectors, at a row of the sixteen and a row of the block. -/
theorem product_apply (v39 : Vec Ideal S1x16x2048 .bf16) (hot : IVec S512x2048 1) (a : Fin 16) (r : Fin 512) :
    FloatOps.matmul (F := Ideal) (φ₁ := .bf16) dot_S16x2048_S512x2048_S16x512_1_1_0_0_n_n none
        (shapeCast S16x2048 v39 shapeCasts_S1x16x2048_S16x2048)
        (truncf .bf16 (select hot (broadcast S512x2048 (Scalar.ofBits .f32 0x3F800000#32)) (broadcast S512x2048 (Scalar.ofBits (F := Ideal) .f32 0x00000000#32))) bitsLt_bf16_f32)
        (constant S16x512 .f32 0x00000000#32) (ix2 a r)
      = ∑ m, v39 (ix3 0 a m) * Scalar.select (hot (ix2 r m)) (Ideal.ofBits .f32 0x3F800000#32) (Ideal.ofBits .f32 0x00000000#32) := by
  rw [Ideal.matmul_constant_zero_apply]
  have hr : dot_S16x2048_S512x2048_S16x512_1_1_0_0_n_n.contr.rank = 1 := rfl
  have hs : dot_S16x2048_S512x2048_S16x512_1_1_0_0_n_n.contr.size ⟨0, by omega⟩ = 2048 := rfl
  rw [← Equiv.sum_comp (contrEquiv1 dot_S16x2048_S512x2048_S16x512_1_1_0_0_n_n 2048 hr hs).symm]
  refine Finset.sum_congr rfl fun (m : Fin 2048) _ => ?_
  congr 1
  · rw [shapeCast_dropUnit_apply]
    refine congrArg v39 (funext fun b => Fin.ext ?_)
    match b with
    | ⟨0, _⟩ => rfl
    | ⟨1, _⟩ => rfl
    | ⟨2, _⟩ => exact contrEquiv1_symm_val _ 2048 hr hs m
  · show Scalar.select (hot _) (Ideal.ofBits .f32 0x3F800000#32) (Ideal.ofBits .f32 0x00000000#32) = _
    congr 2
    funext b
    apply Fin.ext
    match b with
    | ⟨0, _⟩ => rfl
    | ⟨1, _⟩ => exact contrEquiv1_symm_val _ 2048 hr hs m

theorem picked_apply (v39 : Vec Ideal S1x16x2048 .bf16) (a : Fin 8) (r : Fin 512) :
    k0_pay1 (k0_pay7 v0 v2 v8) (Scalar.ofBits .f32 0x3F800000#32) v39 (ix3 0 a r)
      = pick (row v0 v2 v8 r) (fun m => v39 (ix3 0 (a.castLE (by decide)) m))
        + pick (row v0 v2 v8 r) (fun m => v39 (ix3 0 (a.natAdd 8) m)) := by
  unfold k0_pay1
  refine (shapeCast_addUnit_apply _ _ _ _).trans ?_
  refine (congrArg₂ (fun x y : EReal => x + y)
    ((extractStridedSlice_apply _ _ slices_S16x512_o0_0_S8x512 _ (ix2 (a.castLE (by decide)) r) ?_).trans (product_apply v39 _ _ r))
    ((extractStridedSlice_apply _ _ slices_S16x512_o8_0_S8x512 _ (ix2 (a.natAdd 8) r) ?_).trans (product_apply v39 _ _ r))).trans ?_
  · intro b
    match b with
    | ⟨0, _⟩ => show a.val = 0 + a.val; omega
    | ⟨1, _⟩ => show r.val = 0 + r.val; omega
  · intro b
    match b with
    | ⟨0, _⟩ => rfl
    | ⟨1, _⟩ => show r.val = 0 + r.val; omega
  · simp only [hot_apply]
    rfl

end Body

end Cert.KBody
-- ==== Proof.KPoint0.lean ====
/-
  The first kernel's three result arrays after its run, each as one function of the arrays its windows read: the
  correspondences, the weights and the target points that the rows pick.
-/
module

public import proofs.«01_k».proof.Proof.KBody
public import proofs.«01_k».proof.Proof.Gen.KernelIdeal.Frame.Region0

@[expose] public section

set_option maxRecDepth 16384

noncomputable section

namespace Cert.KPoint0

open Cert.KernelIdeal Cert.KernelIdeal.Gen
open Idealize.ShloMosaic hiding ix1 ix2 ix3
open Idealize.ShloMosaic.ValueIdx Idealize.ShloMosaic.TcCoe Idealize.ShloMosaic.Tactic
open Idealize.SL.Sem
open Idealize.ShloMosaic.Pipeline (Dat)

variable (V : (c : Dev nD) → (b : Ref sig .tc) → Buf (Elt Ideal) ((c : Thread nD τ).loc b))

/-! ## Where the windows' blocks lie -/

/-- A point's batch entry. -/
def batch (t : Fin cfg0.N) : Fin 8 := ⟨t.val / 4, by have := t.isLt; have : cfg0.N = 32 := N_0; omega⟩

/-- The array row of a row of a point's block. -/
def line (t : Fin cfg0.N) (r : Fin 512) : Fin 2048 := ⟨t.val % 4 * 512 + r.val, by have := r.isLt; omega⟩

theorem coord0 : ∀ t : Fin cfg0.N, (BitVec.toNat (Scalar.indexCast (BitVec.ofNat 32 (grid0.coords t 0).val)) : ℕ) = t.val / 4 :=
  (by decide +kernel : ∀ t : Fin grid0.N, _)

theorem index0 : ∀ t : Fin cfg0.N, win0_0.index t 0 = 0 ∧ win0_0.index t 1 = 0 := (by decide +kernel : ∀ t : Fin grid0.N, _)
theorem index1 : ∀ t : Fin cfg0.N, win0_1.index t 0 = t.val / 4 ∧ win0_1.index t 1 = 0 ∧ win0_1.index t 2 = t.val % 4 :=
  (by decide +kernel : ∀ t : Fin grid0.N, _)
theorem index2 : ∀ t : Fin cfg0.N, win0_2.index t 0 = t.val / 4 ∧ win0_2.index t 1 = 0 ∧ win0_2.index t 2 = 0 :=
  (by decide +kernel : ∀ t : Fin grid0.N, _)
theorem index3 : ∀ t : Fin cfg0.N, win0_3.index t 0 = t.val / 4 ∧ win0_3.index t 1 = 0 ∧ win0_3.index t 2 = 0 :=
  (by decide +kernel : ∀ t : Fin grid0.N, _)
theorem index4 : ∀ t : Fin cfg0.N, win0_4.index t 0 = t.val / 4 ∧ win0_4.index t 1 = t.val % 4 ∧ win0_4.index t 2 = 0 :=
  (by decide +kernel : ∀ t : Fin grid0.N, _)
theorem index5 : ∀ t : Fin cfg0.N, win0_5.index t 0 = t.val / 4 ∧ win0_5.index t 1 = t.val % 4 ∧ win0_5.index t 2 = 0 :=
  (by decide +kernel : ∀ t : Fin grid0.N, _)
theorem index6 : ∀ t : Fin cfg0.N, win0_6.index t 0 = t.val / 4 ∧ win0_6.index t 1 = 0 ∧ win0_6.index t 2 = t.val % 4 :=
  (by decide +kernel : ∀ t : Fin grid0.N, _)

theorem block1 (c : Dev nD) (t : Fin cfg0.N) (d : Fin 64) (r : Fin 512) :
    (iblk0 V c 1 t : Vec Ideal S1x64x512 .bf16) (ix3 0 d r) = (V c main_v0 : Vec Ideal S8x64x2048 .bf16) (ix3 (batch t) d (line t r)) := by
  obtain ⟨h0, h1, h2⟩ := index1 t
  unfold iblk0
  rw [View.read_apply]
  show V c main_v0 _ = V c main_v0 _
  congr 1
  funext a
  apply Fin.ext
  match a with
  | ⟨0, _⟩ => show win0_1.index t 0 * 1 + 1 * 0 = t.val / 4; rw [h0]; omega
  | ⟨1, _⟩ => show win0_1.index t 1 * 64 + 1 * d.val = d.val; rw [h1]; omega
  | ⟨2, _⟩ => show win0_1.index t 2 * 512 + 1 * r.val = t.val % 4 * 512 + r.val; rw [h2]; omega

theorem block2 (c : Dev nD) (t : Fin cfg0.N) (d : Fin 64) (m : Fin 2048) :
    (iblk0 V c 2 t : Vec Ideal S1x64x2048 .bf16) (ix3 0 d m) = (V c main_v1 : Vec Ideal S8x64x2048 .bf16) (ix3 (batch t) d m) := by
  obtain ⟨h0, h1, h2⟩ := index2 t
  unfold iblk0
  rw [View.read_apply]
  show V c main_v1 _ = V c main_v1 _
  congr 1
  funext a
  apply Fin.ext
  match a with
  | ⟨0, _⟩ => show win0_2.index t 0 * 1 + 1 * 0 = t.val / 4; rw [h0]; omega
  | ⟨1, _⟩ => show win0_2.index t 1 * 64 + 1 * d.val = d.val; rw [h1]; omega
  | ⟨2, _⟩ => show win0_2.index t 2 * 2048 + 1 * m.val = m.val; rw [h2]; omega

theorem block3 (c : Dev nD) (t : Fin cfg0.N) (a : Fin 16) (m : Fin 2048) :
    (iblk0 V c 3 t : Vec Ideal S1x16x2048 .bf16) (ix3 0 a m) = (V c main_v10 : Vec Ideal S8x16x2048 .bf16) (ix3 (batch t) a m) := by
  obtain ⟨h0, h1, h2⟩ := index3 t
  unfold iblk0
  rw [View.read_apply]
  show V c main_v10 _ = V c main_v10 _
  congr 1
  funext b
  apply Fin.ext
  match b with
  | ⟨0, _⟩ => show win0_3.index t 0 * 1 + 1 * 0 = t.val / 4; rw [h0]; omega
  | ⟨1, _⟩ => show win0_3.index t 1 * 16 + 1 * a.val = a.val; rw [h1]; omega
  | ⟨2, _⟩ => show win0_3.index t 2 * 2048 + 1 * m.val = m.val; rw [h2]; omega

/-- The temperature that a point reads: its batch entry's. -/
def temp (c : Dev nD) (t : Fin cfg0.N) : Ideal .f32 :=
  View.ld (iblk0 V c 0 t : Vec Ideal S8x1 .f32) (Rect.unit (s := S8x1) (k0_off1 (grid0.coords t)) S1x1.size (k0_off1_inb (grid0.coords t)))
    (Shape.Idx.first (s := ⟨2, S1x1.size⟩) (by decide))

theorem temp_eq (c : Dev nD) (t : Fin cfg0.N) : temp V c t = (V c main_v11 : Vec Ideal S8x1 .f32) (ix2 (batch t) 0) := by
  obtain ⟨h0, h1⟩ := index0 t
  unfold temp iblk0
  show V c main_v11 _ = V c main_v11 _
  congr 1
  funext a
  apply Fin.ext
  match a with
  | ⟨0, _⟩ =>
    show win0_0.index t 0 * 8 + 1 * (BitVec.toNat (Scalar.indexCast (BitVec.ofNat 32 (grid0.coords t 0).val)) + 1 * 0) = t.val / 4
    rw [h0, coord0 t]; omega
  | ⟨1, _⟩ => show win0_0.index t 1 * 1 + 1 * (0 + 1 * 0) = 0; rw [h1]

/-! ## What a point leaves in the results' staging buffers -/

theorem zeros : (![0, 0, 0] : Fin 3 → ℕ) = fun _ => 0 := funext fun a => by fin_cases a <;> rfl

theorem left4 (c : Dev nD) (t : Fin cfg0.N) : (outsAt0 V c t).1 = k0_pay5 (iblk0 V c 1 t) (iblk0 V c 2 t) (temp V c t) := by
  unfold outsAt0 out0_A_4
  dsimp only
  rw [View.read_writes_eq_canon _ _ _ (cover0_A_4 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  refine (View.canon_unit_zero (S := S1x512x1) zeros _ _).trans ?_
  rw [View.ld_unit_zero (S := S1x64x512) zeros, View.ld_unit_zero (S := S1x64x2048) zeros]
  rfl

theorem left5 (c : Dev nD) (t : Fin cfg0.N) : (outsAt0 V c t).2.1 = k0_pay6 (iblk0 V c 1 t) (iblk0 V c 2 t) (temp V c t) := by
  unfold outsAt0 out0_A_5
  dsimp only
  rw [View.read_writes_eq_canon _ _ _ (cover0_A_5 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  refine (View.canon_unit_zero (S := S1x512x1) zeros _ _).trans ?_
  rw [View.ld_unit_zero (S := S1x64x512) zeros, View.ld_unit_zero (S := S1x64x2048) zeros]
  rfl

theorem left6 (c : Dev nD) (t : Fin cfg0.N) : (outsAt0 V c t).2.2
    = k0_pay1 (k0_pay7 (iblk0 V c 1 t) (iblk0 V c 2 t) (temp V c t)) (Scalar.ofBits .f32 0x3F800000#32) (iblk0 V c 3 t) := by
  unfold outsAt0 out0_A_6
  dsimp only
  rw [View.read_writes_eq_canon _ _ _ (cover0_A_6 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine (View.canon_unit_zero (S := S1x8x512) zeros _ _).trans ?_
  rw [View.ld_unit_zero (S := S1x64x512) zeros, View.ld_unit_zero (S := S1x64x2048) zeros, View.ld_unit_zero (S := S1x16x2048) zeros]
  rfl

/-! ## The arrays -/

/-- The scores of an array row: those of one batch entry's source point against all its target points. -/
def rowOf (c : Dev nD) (b : Fin 8) (n : Fin 2048) : Fin 2048 → EReal := fun m =>
  KBody.score (fun d => (V c main_v0 : Vec Ideal S8x64x2048 .bf16) (ix3 b d n)) (fun d => (V c main_v1 : Vec Ideal S8x64x2048 .bf16) (ix3 b d m))
    ((V c main_v11 : Vec Ideal S8x1 .f32) (ix2 b 0))

theorem row_eq (c : Dev nD) (t : Fin cfg0.N) (r : Fin 512) :
    KBody.row (iblk0 V c 1 t) (iblk0 V c 2 t) (temp V c t) r = rowOf V c (batch t) (line t r) := by
  unfold KBody.row rowOf
  simp only [block1, block2, temp_eq]

/-- The correspondences. -/
def corres (c : Dev nD) : S8x2048x1.Idx → BitVec 32 := fun i => KBody.least (rowOf V c (i 0) (i 1))

/-- The weights. -/
def weight (c : Dev nD) : S8x2048x1.Idx → EReal := fun i => KBody.weight (rowOf V c (i 0) (i 1))

/-- The picked target points: the sum of what the rows pick from the two halves of the table. -/
def picked (c : Dev nD) : S8x8x2048.Idx → EReal := fun i =>
  KBody.pick (rowOf V c (i 0) (i 2)) (fun m => (V c main_v10 : Vec Ideal S8x16x2048 .bf16) (ix3 (i 0) ((i 1 : Fin 8).castLE (by decide)) m))
    + KBody.pick (rowOf V c (i 0) (i 2)) (fun m => (V c main_v10 : Vec Ideal S8x16x2048 .bf16) (ix3 (i 0) ((i 1 : Fin 8).natAdd 8) m))

/-- An index of a block of 512 rows with unit axes on both sides is its row. -/
theorem eq_row (j : S1x512x1.Idx) : ∃ r : Fin 512, j = ix3 0 r 0 := by
  refine ⟨j 1, funext fun a => ?_⟩
  match a with
  | ⟨0, _⟩ => exact Subsingleton.elim (α := Fin 1) _ _
  | ⟨1, _⟩ => rfl
  | ⟨2, _⟩ => exact Subsingleton.elim (α := Fin 1) _ _

/-- An index of a block of 8 by 512 with a leading unit axis is its two coordinates. -/
theorem eq_pair (j : S1x8x512.Idx) : ∃ (a : Fin 8) (r : Fin 512), j = ix3 0 a r := by
  refine ⟨j 1, j 2, funext fun a => ?_⟩
  match a with
  | ⟨0, _⟩ => exact Subsingleton.elim (α := Fin 1) _ _
  | ⟨1, _⟩ => rfl
  | ⟨2, _⟩ => rfl

theorem cut4 (t : Fin cfg0.N) (X : Vec Ideal S1x512x1 .i32) : (cfg0.win 4).cut (grid0.coords t) X = X := rfl
theorem cut5 (t : Fin cfg0.N) (X : Vec Ideal S1x512x1 .f32) : (cfg0.win 5).cut (grid0.coords t) X = X := rfl
theorem cut6 (t : Fin cfg0.N) (X : Vec Ideal S1x8x512 .f32) : (cfg0.win 6).cut (grid0.coords t) X = X := rfl

theorem read4 (t : Fin cfg0.N) (G : S8x2048x1.Idx → BitVec 32) (r : Fin 512) :
    (((cfg0.win 4).blk t).view.read (Elt Ideal) G : S1x512x1.Idx → BitVec 32) (ix3 0 r 0) = G (ix3 (batch t) (line t r) 0) := by
  obtain ⟨h0, h1, h2⟩ := index4 t
  rw [View.read_apply]
  refine congrArg G (funext fun a => Fin.ext ?_)
  match a with
  | ⟨0, _⟩ => show win0_4.index t 0 * 1 + 1 * 0 = t.val / 4; rw [h0]; omega
  | ⟨1, _⟩ => show win0_4.index t 1 * 512 + 1 * r.val = t.val % 4 * 512 + r.val; rw [h1]; omega
  | ⟨2, _⟩ => show win0_4.index t 2 * 1 + 1 * 0 = 0; rw [h2]

theorem read5 (t : Fin cfg0.N) (G : S8x2048x1.Idx → EReal) (r : Fin 512) :
    (((cfg0.win 5).blk t).view.read (Elt Ideal) G : S1x512x1.Idx → EReal) (ix3 0 r 0) = G (ix3 (batch t) (line t r) 0) := by
  obtain ⟨h0, h1, h2⟩ := index5 t
  rw [View.read_apply]
  refine congrArg G (funext fun a => Fin.ext ?_)
  match a with
  | ⟨0, _⟩ => show win0_5.index t 0 * 1 + 1 * 0 = t.val / 4; rw [h0]; omega
  | ⟨1, _⟩ => show win0_5.index t 1 * 512 + 1 * r.val = t.val % 4 * 512 + r.val; rw [h1]; omega
  | ⟨2, _⟩ => show win0_5.index t 2 * 1 + 1 * 0 = 0; rw [h2]

theorem read6 (t : Fin cfg0.N) (G : S8x8x2048.Idx → EReal) (a : Fin 8) (r : Fin 512) :
    (((cfg0.win 6).blk t).view.read (Elt Ideal) G : S1x8x512.Idx → EReal) (ix3 0 a r) = G (ix3 (batch t) a (line t r)) := by
  obtain ⟨h0, h1, h2⟩ := index6 t
  rw [View.read_apply]
  refine congrArg G (funext fun b => Fin.ext ?_)
  match b with
  | ⟨0, _⟩ => show win0_6.index t 0 * 1 + 1 * 0 = t.val / 4; rw [h0]; omega
  | ⟨1, _⟩ => show win0_6.index t 1 * 8 + 1 * a.val = a.val; rw [h1]; omega
  | ⟨2, _⟩ => show win0_6.index t 2 * 512 + 1 * r.val = t.val % 4 * 512 + r.val; rw [h2]; omega

theorem flushed4 (c : Dev nD) (t : Fin cfg0.N) :
    (dat0 V c).flushed 4 t = ((cfg0.win 4).blk t).view.read (Elt Ideal) (corres V c) := by
  show (cfg0.win 4).cut (grid0.coords t) ((dat0 V c).after 4 t) = _
  rw [after0_4, left4]
  refine (cut4 t _).trans (funext fun j : S1x512x1.Idx => ?_)
  obtain ⟨r, rfl⟩ := eq_row j
  refine Eq.trans ?_ (read4 t _ _).symm
  rw [KBody.corres_apply, row_eq]
  rfl

theorem flushed5 (c : Dev nD) (t : Fin cfg0.N) :
    (dat0 V c).flushed 5 t = ((cfg0.win 5).blk t).view.read (Elt Ideal) (weight V c) := by
  show (cfg0.win 5).cut (grid0.coords t) ((dat0 V c).after 5 t) = _
  rw [after0_5, left5]
  refine (cut5 t _).trans (funext fun j : S1x512x1.Idx => ?_)
  obtain ⟨r, rfl⟩ := eq_row j
  refine Eq.trans ?_ (read5 t _ _).symm
  rw [KBody.weight_apply, row_eq]
  rfl

theorem flushed6 (c : Dev nD) (t : Fin cfg0.N) :
    (dat0 V c).flushed 6 t = ((cfg0.win 6).blk t).view.read (Elt Ideal) (picked V c) := by
  show (cfg0.win 6).cut (grid0.coords t) ((dat0 V c).after 6 t) = _
  rw [after0_6, left6]
  refine (cut6 t _).trans (funext fun j : S1x8x512.Idx => ?_)
  obtain ⟨a, r, rfl⟩ := eq_pair j
  refine Eq.trans ?_ (read6 t _ _ _).symm
  rw [KBody.picked_apply, row_eq]
  simp only [block3]
  rfl

/-! The blocks cover the arrays: an index lies in the block of its batch entry and of its row's quarter. -/

/-- The point of a batch entry and a quarter of its rows. -/
def point (b : Fin 8) (q : Fin 4) : Fin cfg0.N := ⟨b.val * 4 + q.val, by have : cfg0.N = 32 := N_0; omega⟩

theorem cover4 (i : S8x2048x1.Idx) : ∃ t : Fin cfg0.N, (cfg0.win 4).flush t = true ∧ i ∈ ((cfg0.win 4).blk t).view.set := by
  have b0 : (i 0 : ℕ) < 8 := (i 0).isLt
  have b1 : (i 1 : ℕ) < 2048 := (i 1).isLt
  have b2 : (i 2 : ℕ) < 1 := (i 2).isLt
  let t := point ⟨i 0, b0⟩ ⟨(i 1 : ℕ) / 512, by omega⟩
  have ht : t.val = (i 0 : ℕ) * 4 + (i 1 : ℕ) / 512 := rfl
  obtain ⟨h0, h1, h2⟩ := index4 t
  refine ⟨t, flush0_4 t, ?_⟩
  show i ∈ ((View.whole main_v12_0).slice (win0_4.rect t)).set
  rw [View.set_slice_whole, Rect.mem_set_unit]
  intro a
  match a with
  | ⟨0, _⟩ => show win0_4.index t 0 * 1 ≤ (i 0 : ℕ) ∧ (i 0 : ℕ) < win0_4.index t 0 * 1 + 1; rw [h0, ht]; omega
  | ⟨1, _⟩ => show win0_4.index t 1 * 512 ≤ (i 1 : ℕ) ∧ (i 1 : ℕ) < win0_4.index t 1 * 512 + 512; rw [h1, ht]; omega
  | ⟨2, _⟩ => show win0_4.index t 2 * 1 ≤ (i 2 : ℕ) ∧ (i 2 : ℕ) < win0_4.index t 2 * 1 + 1; rw [h2]; omega

theorem cover5 (i : S8x2048x1.Idx) : ∃ t : Fin cfg0.N, (cfg0.win 5).flush t = true ∧ i ∈ ((cfg0.win 5).blk t).view.set := by
  have b0 : (i 0 : ℕ) < 8 := (i 0).isLt
  have b1 : (i 1 : ℕ) < 2048 := (i 1).isLt
  have b2 : (i 2 : ℕ) < 1 := (i 2).isLt
  let t := point ⟨i 0, b0⟩ ⟨(i 1 : ℕ) / 512, by omega⟩
  have ht : t.val = (i 0 : ℕ) * 4 + (i 1 : ℕ) / 512 := rfl
  obtain ⟨h0, h1, h2⟩ := index5 t
  refine ⟨t, flush0_5 t, ?_⟩
  show i ∈ ((View.whole main_v12_1).slice (win0_5.rect t)).set
  rw [View.set_slice_whole, Rect.mem_set_unit]
  intro a
  match a with
  | ⟨0, _⟩ => show win0_5.index t 0 * 1 ≤ (i 0 : ℕ) ∧ (i 0 : ℕ) < win0_5.index t 0 * 1 + 1; rw [h0, ht]; omega
  | ⟨1, _⟩ => show win0_5.index t 1 * 512 ≤ (i 1 : ℕ) ∧ (i 1 : ℕ) < win0_5.index t 1 * 512 + 512; rw [h1, ht]; omega
  | ⟨2, _⟩ => show win0_5.index t 2 * 1 ≤ (i 2 : ℕ) ∧ (i 2 : ℕ) < win0_5.index t 2 * 1 + 1; rw [h2]; omega

theorem cover6 (i : S8x8x2048.Idx) : ∃ t : Fin cfg0.N, (cfg0.win 6).flush t = true ∧ i ∈ ((cfg0.win 6).blk t).view.set := by
  have b0 : (i 0 : ℕ) < 8 := (i 0).isLt
  have b1 : (i 1 : ℕ) < 8 := (i 1).isLt
  have b2 : (i 2 : ℕ) < 2048 := (i 2).isLt
  let t := point ⟨i 0, b0⟩ ⟨(i 2 : ℕ) / 512, by omega⟩
  have ht : t.val = (i 0 : ℕ) * 4 + (i 2 : ℕ) / 512 := rfl
  obtain ⟨h0, h1, h2⟩ := index6 t
  refine ⟨t, flush0_6 t, ?_⟩
  show i ∈ ((View.whole main_v12_2).slice (win0_6.rect t)).set
  rw [View.set_slice_whole, Rect.mem_set_unit]
  intro a
  match a with
  | ⟨0, _⟩ => show win0_6.index t 0 * 1 ≤ (i 0 : ℕ) ∧ (i 0 : ℕ) < win0_6.index t 0 * 1 + 1; rw [h0, ht]; omega
  | ⟨1, _⟩ => show win0_6.index t 1 * 8 ≤ (i 1 : ℕ) ∧ (i 1 : ℕ) < win0_6.index t 1 * 8 + 8; rw [h1]; omega
  | ⟨2, _⟩ => show win0_6.index t 2 * 512 ≤ (i 2 : ℕ) ∧ (i 2 : ℕ) < win0_6.index t 2 * 512 + 512; rw [h2, ht]; omega

/-- The array of correspondences after the first kernel. -/
theorem final4 (c : Dev nD) : (dat0 V c).arrAt 4 cfg0.N = corres V c :=
  (dat0 V c).arrAt_eq_of_cover 4 (corres V c) (fun t _ => flushed4 V c t) cover4

/-- The array of weights after the first kernel. -/
theorem final5 (c : Dev nD) : (dat0 V c).arrAt 5 cfg0.N = weight V c :=
  (dat0 V c).arrAt_eq_of_cover 5 (weight V c) (fun t _ => flushed5 V c t) cover5

/-- The array of picked target points after the first kernel. -/
theorem final6 (c : Dev nD) : (dat0 V c).arrAt 6 cfg0.N = picked V c :=
  (dat0 V c).arrAt_eq_of_cover 6 (picked V c) (fun t _ => flushed6 V c t) cover6

end Cert.KPoint0
-- ==== Proof.KMoments.lean ====
/-
  What the second kernel body computes from one batch entry's blocks, read at an index: the normed weights, the two
  weighted means and the weighted covariance; and its two result arrays after its run.
-/
module

public import proofs.«01_k».proof.Proof.KPoint0
public import proofs.«01_k».proof.Proof.Gen.KernelIdeal.Frame.Region1

@[expose] public section

set_option maxRecDepth 16384

noncomputable section

namespace Cert.KMoments

open Cert.KernelIdeal Cert.KernelIdeal.Gen
open Idealize.ShloMosaic hiding ix1 ix2 ix3
open Idealize.ShloMosaic.ValueIdx Idealize.ShloMosaic.TcCoe Idealize.ShloMosaic.Tactic
open Idealize.SL.Sem
open Idealize.ShloMosaic.Pipeline (Dat)

/-- The normed weights: each weight over the weights' sum and a small constant. -/
def norm (w : Fin 2048 → EReal) : Fin 2048 → EReal := fun n => Ideal.div (w n) ((∑ k, w k) + Ideal.ofBits .f32 0x33D6BF95#32)

/-- The weighted mean of a coordinate. -/
def mean (w y : Fin 2048 → EReal) : EReal := ∑ n, norm w n * y n

/-- The weighted covariance of two coordinates. -/
def cov (w y x : Fin 2048 → EReal) : EReal := ∑ n, (y n - mean w y) * (norm w n * (x n - mean w x))

section Body

variable (v0 v2 : Vec Ideal S1x8x2048 .f32) (v4 : Vec Ideal S1x1x2048 .f32)

/-- One of the eight coordinates of a block of points. -/
def coordinate (v : Vec Ideal S1x8x2048 .f32) (a : Fin 8) : Fin 2048 → EReal := fun n => v (ix3 0 a n)

/-- A block's weights. -/
def weights : Fin 2048 → EReal := fun n => v4 (ix3 0 0 n)

theorem plain_apply (n : Fin 2048) : shapeCast S1x2048 v4 shapeCasts_S1x1x2048_S1x2048 (ix2 0 n) = weights v4 n := by
  rw [shapeCast_dropUnit_apply]
  refine congrArg v4 (funext fun a => Fin.ext ?_)
  match a with
  | ⟨0, _⟩ => rfl
  | ⟨1, _⟩ => rfl
  | ⟨2, _⟩ => rfl

/-- The indices of a row with two leading unit axes are its columns. -/
def columns : S1x1x2048.Idx ≃ Fin 2048 where
  toFun i := i 2
  invFun n := ix3 0 0 n
  left_inv i := funext fun a => match a with
    | ⟨0, _⟩ => Subsingleton.elim (α := Fin 1) _ _
    | ⟨1, _⟩ => Subsingleton.elim (α := Fin 1) _ _
    | ⟨2, _⟩ => rfl
  right_inv _ := rfl

theorem norm_apply (n : Fin 2048) : k1_pay3 v4 (ix2 0 n) = norm (weights v4) n := by
  unfold k1_pay3
  show Ideal.div (shapeCast S1x2048 v4 shapeCasts_S1x1x2048_S1x2048 (ix2 0 n))
    (shapeCast S1x1x1 _ shapeCasts_S1_S1x1x1 _ + Ideal.ofBits .f32 0x33D6BF95#32) = _
  rw [plain_apply]
  unfold norm
  congr 2
  refine (shapeCast_apply _ _ _ (ix1 0) (by rfl)).trans ?_
  refine (Ideal.multiReduction_add_total _ _ reduces_S1x1x2048_S1 (by decide) (.inl rfl) rfl (ix1 0)).trans ?_
  rw [← Equiv.sum_comp columns.symm]
  refine Finset.sum_congr rfl fun (k : Fin 2048) _ => ?_
  refine (shapeCast_addUnit_apply _ _ _ _).trans ?_
  refine Eq.trans (congrArg _ (funext fun a => ?_)) (plain_apply v4 k)
  match a with
  | ⟨0, _⟩ => rfl
  | ⟨1, _⟩ => rfl

theorem norms_apply (a : Fin 8) (n : Fin 2048) :
    broadcastTo S8x2048 (k1_pay3 v4) broadcasts_S1x2048_S8x2048 (ix2 a n) = norm (weights v4) n :=
  (broadcastTo_apply _ _ _ (ix2 0 n) (fun b => match b with
    | ⟨0, _⟩ => rfl
    | ⟨1, _⟩ => rfl)).trans (norm_apply v4 n)

theorem coordinate_apply (v : Vec Ideal S1x8x2048 .f32) (a : Fin 8) (n : Fin 2048) :
    shapeCast S8x2048 v shapeCasts_S1x8x2048_S8x2048 (ix2 a n) = coordinate v a n := by
  rw [shapeCast_dropUnit_apply]
  refine congrArg v (funext fun b => Fin.ext ?_)
  match b with
  | ⟨0, _⟩ => rfl
  | ⟨1, _⟩ => rfl
  | ⟨2, _⟩ => rfl

/-- The one reduced index of the eight coordinates: coordinate and column. -/
theorem lift_row (a : Fin 8) (n : Fin 2048) : reduces_S8x2048_S8.lift (ix1 a) n = ix2 a n := by
  funext b
  match b with
  | ⟨0, _⟩ => rfl
  | ⟨1, _⟩ => rfl

/-- The sums along the rows of a product with the normed weights. -/
theorem sums_apply (x : FVec Ideal S8x2048 .f32) (v : Vec Ideal S1x8x2048 .f32) (a : Fin 8)
    (hx : ∀ n, x (ix2 a n) = norm (weights v4) n * coordinate v a n) :
    shapeCast S8x1 (multiReduction .add [1] S8 x 0x00000000#32 reduces_S8x2048_S8 (.inl rfl) rfl) shapeCasts_S8_S8x1 (ix2 a 0)
      = mean (weights v4) (coordinate v a) := by
  refine (shapeCast_apply _ _ _ (ix1 a) (by
    show (Shape.rowMajor ⟨1, ![8]⟩ (ix1 a)).val = (Shape.rowMajor ⟨2, ![8, 1]⟩ (ix2 a 0)).val
    rw [Shape.rowMajor_val_one, Shape.rowMajor_val_two]
    show a.val = a.val * 1 + 0
    omega)).trans ?_
  refine (Ideal.multiReduction_add_single _ _ reduces_S8x2048_S8 (.inl rfl) rfl (ix1 a)).trans ?_
  unfold mean
  refine Finset.sum_congr rfl fun (n : Fin 2048) _ => ?_
  exact (congrArg _ (lift_row a n)).trans (hx n)

theorem meanY_apply (a : Fin 8) : k1_pay4 v0 v4 (ix2 a 0) = mean (weights v4) (coordinate v0 a) :=
  sums_apply v4 _ v0 a fun n => congrArg₂ (fun x y : EReal => x * y) (norms_apply v4 a n) (coordinate_apply v0 a n)

theorem meanX_apply (a : Fin 8) : k1_pay5 v2 v4 (ix2 a 0) = mean (weights v4) (coordinate v2 a) :=
  sums_apply v4 _ v2 a fun n => congrArg₂ (fun x y : EReal => x * y) (norms_apply v4 a n) (coordinate_apply v2 a n)

/-- A value per coordinate repeated over the columns. -/
theorem across_apply (x : S8x1.Idx → EReal) (a : Fin 8) (n : Fin 2048) :
    broadcastTo S8x2048 x broadcasts_S8x1_S8x2048 (ix2 a n) = x (ix2 a 0) :=
  broadcastTo_apply x _ _ _ (fun b => match b with
    | ⟨0, _⟩ => rfl
    | ⟨1, _⟩ => rfl)

theorem cov_apply (a b : Fin 8) :
    k1_pay6 v0 v2 v4 (ix3 0 a b) = cov (weights v4) (coordinate v0 a) (coordinate v2 b) := by
  unfold k1_pay6
  refine (shapeCast_addUnit_apply _ _ _ _).trans ?_
  refine Eq.trans (congrArg _ (show _ = ix2 a b from funext fun d => ?_)) ?_
  · match d with
    | ⟨0, _⟩ => rfl
    | ⟨1, _⟩ => rfl
  show FloatOps.matmul (F := Ideal) (φ₁ := .f32) dot_S8x2048_S8x2048_S8x8_1_1_0_0_n_n _ _ _ (constant S8x8 .f32 0x00000000#32) (ix2 a b) = _
  rw [Ideal.matmul_constant_zero_apply]
  have hr : dot_S8x2048_S8x2048_S8x8_1_1_0_0_n_n.contr.rank = 1 := rfl
  have hs : dot_S8x2048_S8x2048_S8x8_1_1_0_0_n_n.contr.size ⟨0, by omega⟩ = 2048 := rfl
  rw [← Equiv.sum_comp (contrEquiv1 dot_S8x2048_S8x2048_S8x8_1_1_0_0_n_n 2048 hr hs).symm]
  unfold cov
  refine Finset.sum_congr rfl fun (n : Fin 2048) _ => ?_
  refine congrArg₂ (fun x y : EReal => x * y) ?_ ?_
  · refine Eq.trans (congrArg _ (show _ = ix2 a n from funext fun d => Fin.ext ?_)) ?_
    · match d with
      | ⟨0, _⟩ => rfl
      | ⟨1, _⟩ => exact contrEquiv1_symm_val _ 2048 hr hs n
    show shapeCast S8x2048 v0 shapeCasts_S1x8x2048_S8x2048 (ix2 a n)
      - broadcastTo S8x2048 (k1_pay4 v0 v4) broadcasts_S8x1_S8x2048 (ix2 a n) = _
    rw [coordinate_apply, across_apply, meanY_apply]
  · refine Eq.trans (congrArg _ (show _ = ix2 b n from funext fun d => Fin.ext ?_)) ?_
    · match d with
      | ⟨0, _⟩ => rfl
      | ⟨1, _⟩ => exact contrEquiv1_symm_val _ 2048 hr hs n
    show broadcastTo S8x2048 (k1_pay3 v4) broadcasts_S1x2048_S8x2048 (ix2 b n) * (shapeCast S8x2048 v2 shapeCasts_S1x8x2048_S8x2048 (ix2 b n)
      - broadcastTo S8x2048 (k1_pay5 v2 v4) broadcasts_S8x1_S8x2048 (ix2 b n)) = _
    rw [norms_apply, coordinate_apply, across_apply, meanX_apply]

theorem means_apply (a : Fin 8) :
    k1_pay7 v0 v2 v4 (ix3 0 a 0) = mean (weights v4) (coordinate v0 a)
      ∧ k1_pay7 v0 v2 v4 (ix3 0 a 1) = mean (weights v4) (coordinate v2 a) := by
  unfold k1_pay7
  constructor
  · refine (shapeCast_addUnit_apply _ _ _ _).trans ?_
    refine (concatenate_apply_piece (t := S8x8) 1 _ _ _ 0 (by exact Nat.zero_lt_succ _) S8x1 (k1_pay4 v0 v4) rfl rfl 0 rfl (ix2 a 0) ?_ rfl).trans (meanY_apply v0 v4 a)
    intro b hb
    match b, hb with
    | ⟨0, _⟩, _ => rfl
    | ⟨1, _⟩, hb => exact absurd rfl hb
  · refine (shapeCast_addUnit_apply _ _ _ _).trans ?_
    refine (concatenate_apply_piece (t := S8x8) 1 _ _ _ 1 (by exact Nat.succ_lt_succ (Nat.zero_lt_succ _)) S8x1 (k1_pay5 v2 v4) rfl rfl 1 rfl (ix2 a 0) ?_ rfl).trans (meanX_apply v2 v4 a)
    intro b hb
    match b, hb with
    | ⟨0, _⟩, _ => rfl
    | ⟨1, _⟩, hb => exact absurd rfl hb

end Body

section Run

variable (V : (c : Dev nD) → (b : Ref sig .tc) → Buf (Elt Ideal) ((c : Thread nD τ).loc b))

/-- A point of the second kernel is a batch entry. -/
def batch (t : Fin cfg1.N) : Fin 8 := ⟨t.val, by have := t.isLt; have : cfg1.N = 8 := N_1; omega⟩

theorem index0 : ∀ t : Fin cfg1.N, win1_0.index t 0 = t.val ∧ win1_0.index t 1 = 0 ∧ win1_0.index t 2 = 0 :=
  (by decide +kernel : ∀ t : Fin grid1.N, _)
theorem index1 : ∀ t : Fin cfg1.N, win1_1.index t 0 = t.val ∧ win1_1.index t 1 = 0 ∧ win1_1.index t 2 = 0 :=
  (by decide +kernel : ∀ t : Fin grid1.N, _)
theorem index2 : ∀ t : Fin cfg1.N, win1_2.index t 0 = t.val ∧ win1_2.index t 1 = 0 ∧ win1_2.index t 2 = 0 :=
  (by decide +kernel : ∀ t : Fin grid1.N, _)
theorem index3 : ∀ t : Fin cfg1.N, win1_3.index t 0 = t.val ∧ win1_3.index t 1 = 0 ∧ win1_3.index t 2 = 0 :=
  (by decide +kernel : ∀ t : Fin grid1.N, _)
theorem index4 : ∀ t : Fin cfg1.N, win1_4.index t 0 = t.val ∧ win1_4.index t 1 = 0 ∧ win1_4.index t 2 = 0 :=
  (by decide +kernel : ∀ t : Fin grid1.N, _)

theorem block0 (c : Dev nD) (t : Fin cfg1.N) (a : Fin 8) (n : Fin 2048) :
    (iblk1 V c 0 t : Vec Ideal S1x8x2048 .f32) (ix3 0 a n) = (V c main_v12_2 : Vec Ideal S8x8x2048 .f32) (ix3 (batch t) a n) := by
  obtain ⟨h0, h1, h2⟩ := index0 t
  unfold iblk1
  rw [View.read_apply]
  show V c main_v12_2 _ = V c main_v12_2 _
  congr 1
  funext b
  apply Fin.ext
  match b with
  | ⟨0, _⟩ => show win1_0.index t 0 * 1 + 1 * 0 = t.val; rw [h0]; omega
  | ⟨1, _⟩ => show win1_0.index t 1 * 8 + 1 * a.val = a.val; rw [h1]; omega
  | ⟨2, _⟩ => show win1_0.index t 2 * 2048 + 1 * n.val = n.val; rw [h2]; omega

theorem block1 (c : Dev nD) (t : Fin cfg1.N) (a : Fin 8) (n : Fin 2048) :
    (iblk1 V c 1 t : Vec Ideal S1x8x2048 .f32) (ix3 0 a n) = (V c main_v4 : Vec Ideal S8x8x2048 .f32) (ix3 (batch t) a n) := by
  obtain ⟨h0, h1, h2⟩ := index1 t
  unfold iblk1
  rw [View.read_apply]
  show V c main_v4 _ = V c main_v4 _
  congr 1
  funext b
  apply Fin.ext
  match b with
  | ⟨0, _⟩ => show win1_1.index t 0 * 1 + 1 * 0 = t.val; rw [h0]; omega
  | ⟨1, _⟩ => show win1_1.index t 1 * 8 + 1 * a.val = a.val; rw [h1]; omega
  | ⟨2, _⟩ => show win1_1.index t 2 * 2048 + 1 * n.val = n.val; rw [h2]; omega

theorem block2 (c : Dev nD) (t : Fin cfg1.N) (n : Fin 2048) :
    (iblk1 V c 2 t : Vec Ideal S1x1x2048 .f32) (ix3 0 0 n) = (V c main_v13 : Vec Ideal S8x1x2048 .f32) (ix3 (batch t) 0 n) := by
  obtain ⟨h0, h1, h2⟩ := index2 t
  unfold iblk1
  rw [View.read_apply]
  show V c main_v13 _ = V c main_v13 _
  congr 1
  funext b
  apply Fin.ext
  match b with
  | ⟨0, _⟩ => show win1_2.index t 0 * 1 + 1 * 0 = t.val; rw [h0]; omega
  | ⟨1, _⟩ => show win1_2.index t 1 * 1 + 1 * 0 = 0; rw [h1]
  | ⟨2, _⟩ => show win1_2.index t 2 * 2048 + 1 * n.val = n.val; rw [h2]; omega

/-- A batch entry's picked target coordinate, as the second kernel finds it. -/
def picked (c : Dev nD) (b a : Fin 8) : Fin 2048 → EReal := fun n => (V c main_v12_2 : Vec Ideal S8x8x2048 .f32) (ix3 b a n)

/-- A batch entry's source coordinate, as the second kernel finds it. -/
def source (c : Dev nD) (b a : Fin 8) : Fin 2048 → EReal := fun n => (V c main_v4 : Vec Ideal S8x8x2048 .f32) (ix3 b a n)

/-- A batch entry's weights, as the second kernel finds them. -/
def weigh (c : Dev nD) (b : Fin 8) : Fin 2048 → EReal := fun n => (V c main_v13 : Vec Ideal S8x1x2048 .f32) (ix3 b 0 n)

theorem picked_eq (c : Dev nD) (t : Fin cfg1.N) (a : Fin 8) : coordinate (iblk1 V c 0 t) a = picked V c (batch t) a :=
  funext fun n => block0 V c t a n

theorem source_eq (c : Dev nD) (t : Fin cfg1.N) (a : Fin 8) : coordinate (iblk1 V c 1 t) a = source V c (batch t) a :=
  funext fun n => block1 V c t a n

theorem weigh_eq (c : Dev nD) (t : Fin cfg1.N) : weights (iblk1 V c 2 t) = weigh V c (batch t) :=
  funext fun n => block2 V c t n

/-- What a point leaves in its two results' staging buffers. -/
theorem left3 (c : Dev nD) (t : Fin cfg1.N) :
    out1_3 (iblk1 V c 0 t) (iblk1 V c 1 t) (iblk1 V c 2 t) = k1_pay6 (iblk1 V c 0 t) (iblk1 V c 1 t) (iblk1 V c 2 t) := by
  unfold out1_3
  rw [View.ld_unit_zero (S := S1x8x2048) KPoint0.zeros, View.ld_unit_zero (S := S1x8x2048) KPoint0.zeros, View.ld_unit_zero (S := S1x1x2048) KPoint0.zeros]
  exact View.canon_unit_zero (S := S1x8x8) KPoint0.zeros _ _

theorem left4 (c : Dev nD) (t : Fin cfg1.N) :
    out1_4 (iblk1 V c 0 t) (iblk1 V c 1 t) (iblk1 V c 2 t) = k1_pay7 (iblk1 V c 0 t) (iblk1 V c 1 t) (iblk1 V c 2 t) := by
  unfold out1_4
  rw [View.ld_unit_zero (S := S1x8x2048) KPoint0.zeros, View.ld_unit_zero (S := S1x8x2048) KPoint0.zeros, View.ld_unit_zero (S := S1x1x2048) KPoint0.zeros]
  exact View.canon_unit_zero (S := S1x8x8) KPoint0.zeros _ _

/-- The point of a batch entry. -/
def point (b : Fin 8) : Fin cfg1.N := ⟨b.val, by have : cfg1.N = 8 := N_1; omega⟩

/-- The covariances after the second kernel: at each entry that entry's block's. -/
def covs (c : Dev nD) : S8x8x8.Idx → EReal := fun i =>
  cov (weigh V c (i 0)) (picked V c (i 0) (i 1)) (source V c (i 0) (i 2))

/-- The means after the second kernel, at any of the eight columns. -/
def means (c : Dev nD) : S8x8x8.Idx → EReal := fun i =>
  k1_pay7 (iblk1 V c 0 (point (i 0))) (iblk1 V c 1 (point (i 0))) (iblk1 V c 2 (point (i 0))) (ix3 0 (i 1) (i 2))

theorem eq_pair (j : S1x8x8.Idx) : ∃ a b : Fin 8, j = ix3 0 a b := by
  refine ⟨j 1, j 2, funext fun a => ?_⟩
  match a with
  | ⟨0, _⟩ => exact Subsingleton.elim (α := Fin 1) _ _
  | ⟨1, _⟩ => rfl
  | ⟨2, _⟩ => rfl

theorem cut3 (t : Fin cfg1.N) (X : Vec Ideal S1x8x8 .f32) : (cfg1.win 3).cut (grid1.coords t) X = X := rfl
theorem cut4 (t : Fin cfg1.N) (X : Vec Ideal S1x8x8 .f32) : (cfg1.win 4).cut (grid1.coords t) X = X := rfl

theorem read3 (t : Fin cfg1.N) (G : S8x8x8.Idx → EReal) (a b : Fin 8) :
    (((cfg1.win 3).blk t).view.read (Elt Ideal) G : S1x8x8.Idx → EReal) (ix3 0 a b) = G (ix3 (batch t) a b) := by
  obtain ⟨h0, h1, h2⟩ := index3 t
  rw [View.read_apply]
  refine congrArg G (funext fun d => Fin.ext ?_)
  match d with
  | ⟨0, _⟩ => show win1_3.index t 0 * 1 + 1 * 0 = t.val; rw [h0]; omega
  | ⟨1, _⟩ => show win1_3.index t 1 * 8 + 1 * a.val = a.val; rw [h1]; omega
  | ⟨2, _⟩ => show win1_3.index t 2 * 8 + 1 * b.val = b.val; rw [h2]; omega

theorem read4 (t : Fin cfg1.N) (G : S8x8x8.Idx → EReal) (a b : Fin 8) :
    (((cfg1.win 4).blk t).view.read (Elt Ideal) G : S1x8x8.Idx → EReal) (ix3 0 a b) = G (ix3 (batch t) a b) := by
  obtain ⟨h0, h1, h2⟩ := index4 t
  rw [View.read_apply]
  refine congrArg G (funext fun d => Fin.ext ?_)
  match d with
  | ⟨0, _⟩ => show win1_4.index t 0 * 1 + 1 * 0 = t.val; rw [h0]; omega
  | ⟨1, _⟩ => show win1_4.index t 1 * 8 + 1 * a.val = a.val; rw [h1]; omega
  | ⟨2, _⟩ => show win1_4.index t 2 * 8 + 1 * b.val = b.val; rw [h2]; omega

theorem flushed3 (c : Dev nD) (t : Fin cfg1.N) :
    (dat1 V c).flushed 3 t = ((cfg1.win 3).blk t).view.read (Elt Ideal) (covs V c) := by
  show (cfg1.win 3).cut (grid1.coords t) ((dat1 V c).after 3 t) = _
  rw [after1_3, left3]
  refine (cut3 t _).trans (funext fun j : S1x8x8.Idx => ?_)
  obtain ⟨a, b, rfl⟩ := eq_pair j
  refine Eq.trans ?_ (read3 t _ _ _).symm
  rw [cov_apply, picked_eq, source_eq, weigh_eq]
  rfl

theorem flushed4 (c : Dev nD) (t : Fin cfg1.N) :
    (dat1 V c).flushed 4 t = ((cfg1.win 4).blk t).view.read (Elt Ideal) (means V c) := by
  show (cfg1.win 4).cut (grid1.coords t) ((dat1 V c).after 4 t) = _
  rw [after1_4, left4]
  refine (cut4 t _).trans (funext fun j : S1x8x8.Idx => ?_)
  obtain ⟨a, b, rfl⟩ := eq_pair j
  refine Eq.trans ?_ (read4 t (means V c) a b).symm
  rfl

theorem cover3 (i : S8x8x8.Idx) : ∃ t : Fin cfg1.N, (cfg1.win 3).flush t = true ∧ i ∈ ((cfg1.win 3).blk t).view.set := by
  have b1 : (i 1 : ℕ) < 8 := (i 1).isLt
  have b2 : (i 2 : ℕ) < 8 := (i 2).isLt
  let t := point (i 0)
  have ht : t.val = (i 0 : ℕ) := rfl
  obtain ⟨h0, h1, h2⟩ := index3 t
  refine ⟨t, flush1_3 t, ?_⟩
  show i ∈ ((View.whole main_v14_0).slice (win1_3.rect t)).set
  rw [View.set_slice_whole, Rect.mem_set_unit]
  intro a
  match a with
  | ⟨0, _⟩ => show win1_3.index t 0 * 1 ≤ (i 0 : ℕ) ∧ (i 0 : ℕ) < win1_3.index t 0 * 1 + 1; rw [h0, ht]; omega
  | ⟨1, _⟩ => show win1_3.index t 1 * 8 ≤ (i 1 : ℕ) ∧ (i 1 : ℕ) < win1_3.index t 1 * 8 + 8; rw [h1]; omega
  | ⟨2, _⟩ => show win1_3.index t 2 * 8 ≤ (i 2 : ℕ) ∧ (i 2 : ℕ) < win1_3.index t 2 * 8 + 8; rw [h2]; omega

theorem cover4 (i : S8x8x8.Idx) : ∃ t : Fin cfg1.N, (cfg1.win 4).flush t = true ∧ i ∈ ((cfg1.win 4).blk t).view.set := by
  have b1 : (i 1 : ℕ) < 8 := (i 1).isLt
  have b2 : (i 2 : ℕ) < 8 := (i 2).isLt
  let t := point (i 0)
  have ht : t.val = (i 0 : ℕ) := rfl
  obtain ⟨h0, h1, h2⟩ := index4 t
  refine ⟨t, flush1_4 t, ?_⟩
  show i ∈ ((View.whole main_v14_1).slice (win1_4.rect t)).set
  rw [View.set_slice_whole, Rect.mem_set_unit]
  intro a
  match a with
  | ⟨0, _⟩ => show win1_4.index t 0 * 1 ≤ (i 0 : ℕ) ∧ (i 0 : ℕ) < win1_4.index t 0 * 1 + 1; rw [h0, ht]; omega
  | ⟨1, _⟩ => show win1_4.index t 1 * 8 ≤ (i 1 : ℕ) ∧ (i 1 : ℕ) < win1_4.index t 1 * 8 + 8; rw [h1]; omega
  | ⟨2, _⟩ => show win1_4.index t 2 * 8 ≤ (i 2 : ℕ) ∧ (i 2 : ℕ) < win1_4.index t 2 * 8 + 8; rw [h2]; omega

/-- The array of covariances after the second kernel. -/
theorem final3 (c : Dev nD) : (dat1 V c).arrAt 3 cfg1.N = covs V c :=
  (dat1 V c).arrAt_eq_of_cover 3 (covs V c) (fun t _ => flushed3 V c t) cover3

/-- The array of means after the second kernel. -/
theorem final4 (c : Dev nD) : (dat1 V c).arrAt 4 cfg1.N = means V c :=
  (dat1 V c).arrAt_eq_of_cover 4 (means V c) (fun t _ => flushed4 V c t) cover4

theorem means_first (c : Dev nD) (b a : Fin 8) : means V c (ix3 b a 0) = mean (weigh V c b) (picked V c b a) := by
  refine (means_apply _ _ _ a).1.trans ?_
  rw [picked_eq, weigh_eq]
  rfl

theorem means_second (c : Dev nD) (b a : Fin 8) : means V c (ix3 b a 1) = mean (weigh V c b) (source V c b a) := by
  refine (means_apply _ _ _ a).2.trans ?_
  rw [source_eq, weigh_eq]
  rfl

end Run

end Cert.KMoments
-- ==== Proof.KHost.lean ====
/-
  What the kernel program's host operations leave around its two kernels, read at an index: the arrays the kernels
  read as functions of the arguments, and the program's results as functions of the kernels' arrays.
-/
module

public import proofs.«01_k».proof.Proof.KMoments
public import proofs.«01_k».proof.Proof.Gen.KernelIdeal.Frame.Fold0

@[expose] public section

set_option maxRecDepth 16384

noncomputable section

namespace Cert.KHost

open Cert.KernelIdeal Cert.KernelIdeal.Gen
open Idealize.ShloMosaic hiding ix1 ix2 ix3
open Idealize.ShloMosaic.ValueIdx Idealize.ShloMosaic.TcCoe Idealize.ShloMosaic.StableHlo
open Idealize.SL.Sem

section Stretches

variable (V : Valuation τ sig (Elt Ideal))

/-- Eight coordinates of points: the three of an array of points, then a one and four zeros. -/
def extended (x : FVec Ideal S8x3x2048 .f32) : FVec Ideal S8x8x2048 .f32 :=
  concatenate S8x8x2048 1 [⟨S8x3x2048, x⟩, ⟨S8x1x2048, broadcastInDim S8x1x2048 ![] bcast_S_S8x1x2048 (constant S_ .f32 0x3F800000#32)⟩,
    ⟨S8x4x2048, broadcastInDim S8x4x2048 ![] bcast_S_S8x4x2048 (constant S_ .f32 0x00000000#32)⟩] concatenates_S8x3x2048_S8x1x2048_S8x4x2048_S8x8x2048_d1

/-- The table of the points' rounded halves: the points rounded, then what the rounding left. -/
def table (x : FVec Ideal S8x8x2048 .f32) : FVec Ideal S8x16x2048 .bf16 :=
  concatenate S8x16x2048 1 [⟨S8x8x2048, truncf .bf16 x bitsLt_bf16_f32⟩,
    ⟨S8x8x2048, truncf .bf16 (subf x (extf .f32 (truncf .bf16 x bitsLt_bf16_f32) bitsLt_bf16_f32)) bitsLt_bf16_f32⟩]
    concatenates_S8x8x2048_S8x8x2048_S8x16x2048_d1

theorem left_v0 : after hostOps0 V (main_v0 : DevRef τ sig)
    = (truncf .bf16 (V (main_arg0 : DevRef τ sig) : FVec Ideal S8x64x2048 .f32) bitsLt_bf16_f32 : FVec Ideal S8x64x2048 .bf16) := by
  after_results

theorem left_v1 : after hostOps0 V (main_v1 : DevRef τ sig)
    = (truncf .bf16 (V (main_arg1 : DevRef τ sig) : FVec Ideal S8x64x2048 .f32) bitsLt_bf16_f32 : FVec Ideal S8x64x2048 .bf16) := by
  after_results

theorem left_v4 : after hostOps0 V (main_v4 : DevRef τ sig) = extended (V (main_arg2 : DevRef τ sig)) := by
  after_results; rfl

theorem left_v10 : after hostOps0 V (main_v10 : DevRef τ sig) = table (extended (V (main_arg3 : DevRef τ sig))) := by
  after_results; rfl

theorem left_v11 : after hostOps0 V (main_v11 : DevRef τ sig) = shapeCast S8x1 (V (main_arg4 : DevRef τ sig) : FVec Ideal S8 .f32) shapeCasts_S8_S8x1 := by
  after_results; rfl

theorem left_v13 : after hostOps1 V (main_v13 : DevRef τ sig)
    = shapeCast S8x1x2048 (V (main_v12_1 : DevRef τ sig) : FVec Ideal S8x2048x1 .f32) shapeCasts_S8x2048x1_S8x1x2048 := by
  after_results; rfl

theorem left_v15 : after hostOps2 V (main_v15 : DevRef τ sig)
    = extractStridedSlice S8x3x3 ![0, 0, 0] (V (main_v14_0 : DevRef τ sig) : FVec Ideal S8x8x8 .f32) slices_S8x8x8_S8x3x3_0_0_0 := by
  after_results

theorem left_v17 : after hostOps2 V (main_v17 : DevRef τ sig)
    = shapeCast S8x3 (extractStridedSlice S8x3x1 ![0, 0, 0] (V (main_v14_1 : DevRef τ sig) : FVec Ideal S8x8x8 .f32) slices_S8x8x8_S8x3x1_0_0_0) shapeCasts_S8x3x1_S8x3 := by
  after_results; rfl

theorem left_v19 : after hostOps2 V (main_v19 : DevRef τ sig)
    = shapeCast S8x3 (extractStridedSlice S8x3x1 ![0, 0, 1] (V (main_v14_1 : DevRef τ sig) : FVec Ideal S8x8x8 .f32) slices_S8x8x8_S8x3x1_0_0_1) shapeCasts_S8x3x1_S8x3 := by
  after_results; rfl

end Stretches

/-! ## The arrays read at an index -/

theorem extended_apply (x : FVec Ideal S8x3x2048 .f32) (b : Fin 8) (a : Fin 3) (n : Fin 2048) :
    extended x (ix3 b (a.castLE (by decide)) n) = x (ix3 b a n) := by
  unfold extended
  refine concatenate_apply_piece (t := S8x8x2048) 1 _ _ _ 0 (by exact Nat.zero_lt_succ _) S8x3x2048 x rfl rfl 0 rfl (ix3 b a n) ?_ ?_
  · intro d hd
    match d, hd with
    | ⟨0, _⟩, _ => rfl
    | ⟨1, _⟩, hd => exact absurd rfl hd
    | ⟨2, _⟩, _ => rfl
  · exact Nat.zero_add _

theorem table_first (x : FVec Ideal S8x8x2048 .f32) (b a : Fin 8) (n : Fin 2048) :
    table x (ix3 b (a.castLE (by decide)) n) = x (ix3 b a n) := by
  unfold table
  refine concatenate_apply_piece (t := S8x16x2048) 1 _ _ _ 0 (by exact Nat.zero_lt_succ _) S8x8x2048 _ rfl rfl 0 rfl (ix3 b a n) ?_ ?_
  · intro d hd
    match d, hd with
    | ⟨0, _⟩, _ => rfl
    | ⟨1, _⟩, hd => exact absurd rfl hd
    | ⟨2, _⟩, _ => rfl
  · exact Nat.zero_add _

theorem table_second (x : FVec Ideal S8x8x2048 .f32) (b a : Fin 8) (n : Fin 2048) :
    table x (ix3 b (a.natAdd 8) n) = x (ix3 b a n) - x (ix3 b a n) := by
  unfold table
  refine (concatenate_apply_piece (t := S8x16x2048) 1 _ _ _ 1 (by exact Nat.one_lt_two) S8x8x2048
    (truncf .bf16 (subf x (extf .f32 (truncf .bf16 x bitsLt_bf16_f32) bitsLt_bf16_f32)) bitsLt_bf16_f32) rfl rfl 8 rfl (ix3 b a n) ?_ ?_).trans rfl
  · intro d hd
    match d, hd with
    | ⟨0, _⟩, _ => rfl
    | ⟨1, _⟩, hd => exact absurd rfl hd
    | ⟨2, _⟩, _ => rfl
  · rfl

theorem temperature_apply (x : FVec Ideal S8 .f32) (b : Fin 8) : shapeCast S8x1 x shapeCasts_S8_S8x1 (ix2 b 0) = x (ix1 b) :=
  shapeCast_apply x _ _ _ (by
    show (Shape.rowMajor ⟨1, ![8]⟩ (ix1 b)).val = (Shape.rowMajor ⟨2, ![8, 1]⟩ (ix2 b 0)).val
    rw [Shape.rowMajor_val_one, Shape.rowMajor_val_two]
    show b.val = b.val * 1 + 0
    omega)

theorem weights_apply (x : FVec Ideal S8x2048x1 .f32) (b : Fin 8) (n : Fin 2048) :
    shapeCast S8x1x2048 x shapeCasts_S8x2048x1_S8x1x2048 (ix3 b 0 n) = x (ix3 b n 0) :=
  shapeCast_apply x _ _ _ (by
    show (Shape.rowMajor ⟨3, ![8, 2048, 1]⟩ (ix3 b n 0)).val = (Shape.rowMajor ⟨3, ![8, 1, 2048]⟩ (ix3 b 0 n)).val
    rw [Shape.rowMajor_val_three, Shape.rowMajor_val_three]
    show (b.val * 2048 + n.val) * 1 + 0 = (b.val * 1 + 0) * 2048 + n.val
    omega)

theorem corner_apply (x : FVec Ideal S8x8x8 .f32) (b : Fin 8) (i j : Fin 3) :
    extractStridedSlice S8x3x3 ![0, 0, 0] x slices_S8x8x8_S8x3x3_0_0_0 (ix3 b i j)
      = x (ix3 b (i.castLE (by decide)) (j.castLE (by decide))) :=
  extractStridedSlice_apply _ _ _ _ _ fun a => match a with
    | ⟨0, _⟩ => (Nat.zero_add _).symm
    | ⟨1, _⟩ => (Nat.zero_add _).symm
    | ⟨2, _⟩ => (Nat.zero_add _).symm

/-- A column of three without its unit axis. -/
theorem unit_apply (x : FVec Ideal S8x3x1 .f32) (b : Fin 8) (i : Fin 3) :
    shapeCast S8x3 x shapeCasts_S8x3x1_S8x3 (ix2 b i) = x (ix3 b i 0) :=
  shapeCast_apply x _ _ _ (by
    show (Shape.rowMajor ⟨3, ![8, 3, 1]⟩ (ix3 b i 0)).val = (Shape.rowMajor ⟨2, ![8, 3]⟩ (ix2 b i)).val
    rw [Shape.rowMajor_val_two, Shape.rowMajor_val_three]
    show (b.val * 3 + i.val) * 1 + 0 = b.val * 3 + i.val
    omega)

theorem first_apply (x : FVec Ideal S8x8x8 .f32) (b : Fin 8) (i : Fin 3) :
    shapeCast S8x3 (extractStridedSlice S8x3x1 ![0, 0, 0] x slices_S8x8x8_S8x3x1_0_0_0) shapeCasts_S8x3x1_S8x3 (ix2 b i)
      = x (ix3 b (i.castLE (by decide)) 0) :=
  (unit_apply _ b i).trans (extractStridedSlice_apply _ _ _ _ _ fun a => match a with
    | ⟨0, _⟩ => (Nat.zero_add _).symm
    | ⟨1, _⟩ => (Nat.zero_add _).symm
    | ⟨2, _⟩ => rfl)

theorem second_apply (x : FVec Ideal S8x8x8 .f32) (b : Fin 8) (i : Fin 3) :
    shapeCast S8x3 (extractStridedSlice S8x3x1 ![0, 0, 1] x slices_S8x8x8_S8x3x1_0_0_1) shapeCasts_S8x3x1_S8x3 (ix2 b i)
      = x (ix3 b (i.castLE (by decide)) 1) :=
  (unit_apply _ b i).trans (extractStridedSlice_apply _ _ _ _ _ fun a => match a with
    | ⟨0, _⟩ => (Nat.zero_add _).symm
    | ⟨1, _⟩ => (Nat.zero_add _).symm
    | ⟨2, _⟩ => rfl)

end Cert.KHost
-- ==== Proof.KValue.lean ====
/-
  The kernel program's results as functions of its arguments, read at an index.
-/
module

public import proofs.«01_k».proof.Proof.KHost

@[expose] public section

set_option maxRecDepth 16384

noncomputable section

namespace Cert.KValue

open Cert.KernelIdeal Cert.KernelIdeal.Gen
open Idealize.ShloMosaic hiding ix1 ix2 ix3
open Idealize.ShloMosaic.ValueIdx Idealize.ShloMosaic.TcCoe Idealize.ShloMosaic.StableHlo
open Idealize.SL.Sem

/-! ## The results as functions of the arguments -/

section Values

variable (a0 a1 : S8x64x2048.Idx → EReal) (a2 a3 : S8x3x2048.Idx → EReal) (a4 : S8.Idx → EReal)

/-- The scores of a row. -/
def row (b : Fin 8) (n : Fin 2048) : Fin 2048 → EReal := fun k =>
  KBody.score (fun d => a0 (ix3 b d n)) (fun d => a1 (ix3 b d k)) (a4 (ix1 b))

/-- The weights of a batch entry. -/
def weight (b : Fin 8) : Fin 2048 → EReal := fun n => KBody.weight (row a0 a1 a4 b n)

/-- A coordinate of a batch entry's points. -/
def coordinate (a : S8x3x2048.Idx → EReal) (b : Fin 8) (i : Fin 3) : Fin 2048 → EReal := fun n => a (ix3 b i n)

/-- A coordinate of the target points that a batch entry's rows pick. -/
def picked (b : Fin 8) (i : Fin 3) : Fin 2048 → EReal := fun n =>
  KBody.pick (row a0 a1 a4 b n) (coordinate a3 b i)
    + KBody.pick (row a0 a1 a4 b n) (fun k => coordinate a3 b i k - coordinate a3 b i k)

end Values

/-! ## What the run's boundaries hold -/

section Run

variable (m : (ℓ : Loc nD τ sig) → Buf (Elt Ideal) ℓ) (ρ : Dev nD → PrngReg) (c : Dev nD)

/-- The five arguments on a device. -/
abbrev arg0 : S8x64x2048.Idx → EReal := m ((c : Thread nD τ).loc main_arg0)
abbrev arg1 : S8x64x2048.Idx → EReal := m ((c : Thread nD τ).loc main_arg1)
abbrev arg2 : S8x3x2048.Idx → EReal := m ((c : Thread nD τ).loc main_arg2)
abbrev arg3 : S8x3x2048.Idx → EReal := m ((c : Thread nD τ).loc main_arg3)
abbrev arg4 : S8.Idx → EReal := m ((c : Thread nD τ).loc main_arg4)

theorem enter_v0 : V1 m ρ c main_v0 = (truncf .bf16 (arg0 m c : FVec Ideal S8x64x2048 .f32) bitsLt_bf16_f32 : FVec Ideal S8x64x2048 .bf16) :=
  KHost.left_v0 (W0 m ρ c)
theorem enter_v1 : V1 m ρ c main_v1 = (truncf .bf16 (arg1 m c : FVec Ideal S8x64x2048 .f32) bitsLt_bf16_f32 : FVec Ideal S8x64x2048 .bf16) :=
  KHost.left_v1 (W0 m ρ c)
theorem enter_v4 : V1 m ρ c main_v4 = KHost.extended (arg2 m c) := KHost.left_v4 (W0 m ρ c)
theorem enter_v10 : V1 m ρ c main_v10 = KHost.table (KHost.extended (arg3 m c)) := KHost.left_v10 (W0 m ρ c)
theorem enter_v11 : V1 m ρ c main_v11 = shapeCast S8x1 (arg4 m c : FVec Ideal S8 .f32) shapeCasts_S8_S8x1 := KHost.left_v11 (W0 m ρ c)

theorem row_eq (b : Fin 8) (n : Fin 2048) : KPoint0.rowOf (V1 m ρ) c b n = row (arg0 m c) (arg1 m c) (arg4 m c) b n := by
  unfold KPoint0.rowOf row
  rw [enter_v0, enter_v1, enter_v11, KHost.temperature_apply]
  rfl

/-- After the first kernel: the correspondences, -/
theorem mid_corres : W2 m ρ c (main_v12_0 : DevRef τ sig) = KPoint0.corres (V1 m ρ) c :=
  (W2_arr m ρ c 4).trans (KPoint0.final4 (V1 m ρ) c)

/-- the weights, -/
theorem mid_weight : W2 m ρ c (main_v12_1 : DevRef τ sig) = KPoint0.weight (V1 m ρ) c :=
  (W2_arr m ρ c 5).trans (KPoint0.final5 (V1 m ρ) c)

/-- and the picked target points. -/
theorem mid_picked : W2 m ρ c (main_v12_2 : DevRef τ sig) = KPoint0.picked (V1 m ρ) c :=
  (W2_arr m ρ c 6).trans (KPoint0.final6 (V1 m ρ) c)

theorem last_corres (b : Fin 8) (n : Fin 2048) :
    (W5 m ρ c (main_v12_0 : DevRef τ sig) : S8x2048x1.Idx → BitVec 32) (ix3 b n 0) = KBody.least (row (arg0 m c) (arg1 m c) (arg4 m c) b n) := by
  rw [W5_of m ρ c main_v12_0 (by decide), W4_of_ne m ρ c main_v12_0 (by decide), W3_of m ρ c main_v12_0 (by decide), mid_corres]
  exact congrArg KBody.least (row_eq m ρ c b n)

theorem last_weight (b : Fin 8) (n : Fin 2048) :
    (W5 m ρ c (main_v12_1 : DevRef τ sig) : S8x2048x1.Idx → EReal) (ix3 b n 0) = weight (arg0 m c) (arg1 m c) (arg4 m c) b n := by
  rw [W5_of m ρ c main_v12_1 (by decide), W4_of_ne m ρ c main_v12_1 (by decide), W3_of m ρ c main_v12_1 (by decide), mid_weight]
  exact congrArg KBody.weight (row_eq m ρ c b n)

/-- The second kernel finds the weights, -/
theorem found_weight (b : Fin 8) : KMoments.weigh (V3 m ρ) c b = weight (arg0 m c) (arg1 m c) (arg4 m c) b := by
  funext n
  have e : V3 m ρ c main_v13 = _ := KHost.left_v13 (W2 m ρ c)
  unfold KMoments.weigh
  rw [e, KHost.weights_apply, mid_weight]
  exact congrArg KBody.weight (row_eq m ρ c b n)

/-- the source points, -/
theorem found_source (b : Fin 8) (i : Fin 3) : KMoments.source (V3 m ρ) c b (i.castLE (by decide)) = coordinate (arg2 m c) b i := by
  funext n
  have e : V3 m ρ c main_v4 = _ := (W3_of m ρ c main_v4 (by decide)).trans ((W2_of_ne m ρ c main_v4 (by decide)).trans (enter_v4 m ρ c))
  unfold KMoments.source
  rw [e, KHost.extended_apply]
  rfl

/-- and the picked target points. -/
theorem found_picked (b : Fin 8) (i : Fin 3) :
    KMoments.picked (V3 m ρ) c b (i.castLE (by decide)) = picked (arg0 m c) (arg1 m c) (arg3 m c) (arg4 m c) b i := by
  funext n
  have e : V3 m ρ c main_v12_2 = _ := (W3_of m ρ c main_v12_2 (by decide)).trans (mid_picked m ρ c)
  unfold KMoments.picked
  rw [e]
  refine congrArg₂ (fun x y : EReal => x + y) (congrArg₂ KBody.pick (row_eq m ρ c b n) (funext fun k => ?_))
    (congrArg₂ KBody.pick (row_eq m ρ c b n) (funext fun k => ?_))
  · rw [enter_v10]
    exact (KHost.table_first _ b _ k).trans (KHost.extended_apply _ b i k)
  · rw [enter_v10]
    refine (KHost.table_second _ b _ k).trans ?_
    rw [KHost.extended_apply]
    rfl

theorem last_cov (b : Fin 8) (i j : Fin 3) :
    (W5 m ρ c (main_v15 : DevRef τ sig) : S8x3x3.Idx → EReal) (ix3 b i j)
      = KMoments.cov (weight (arg0 m c) (arg1 m c) (arg4 m c) b) (picked (arg0 m c) (arg1 m c) (arg3 m c) (arg4 m c) b i)
          (coordinate (arg2 m c) b j) := by
  have e : W5 m ρ c (main_v15 : DevRef τ sig) = _ := KHost.left_v15 (W4 m ρ c)
  rw [e, KHost.corner_apply, show W4 m ρ c (main_v14_0 : DevRef τ sig) = _ from (W4_arr m ρ c 3).trans (KMoments.final3 (V3 m ρ) c),
    ← found_weight m ρ c b, ← found_picked m ρ c b i, ← found_source m ρ c b j]
  rfl

theorem last_meanY (b : Fin 8) (i : Fin 3) :
    (W5 m ρ c (main_v17 : DevRef τ sig) : S8x3.Idx → EReal) (ix2 b i)
      = KMoments.mean (weight (arg0 m c) (arg1 m c) (arg4 m c) b) (picked (arg0 m c) (arg1 m c) (arg3 m c) (arg4 m c) b i) := by
  have e : W5 m ρ c (main_v17 : DevRef τ sig) = _ := KHost.left_v17 (W4 m ρ c)
  rw [e, KHost.first_apply, show W4 m ρ c (main_v14_1 : DevRef τ sig) = _ from (W4_arr m ρ c 4).trans (KMoments.final4 (V3 m ρ) c),
    ← found_weight m ρ c b, ← found_picked m ρ c b i]
  exact KMoments.means_first (V3 m ρ) c b _

theorem last_meanX (b : Fin 8) (i : Fin 3) :
    (W5 m ρ c (main_v19 : DevRef τ sig) : S8x3.Idx → EReal) (ix2 b i)
      = KMoments.mean (weight (arg0 m c) (arg1 m c) (arg4 m c) b) (coordinate (arg2 m c) b i) := by
  have e : W5 m ρ c (main_v19 : DevRef τ sig) = _ := KHost.left_v19 (W4 m ρ c)
  rw [e, KHost.second_apply, show W4 m ρ c (main_v14_1 : DevRef τ sig) = _ from (W4_arr m ρ c 4).trans (KMoments.final4 (V3 m ρ) c),
    ← found_weight m ρ c b, ← found_source m ρ c b i]
  exact KMoments.means_second (V3 m ρ) c b _

end Run

end Cert.KValue
-- ==== Proof.RefRows.lean ====
/-
  The reference's score rows, read at an index: the scores, a row's maximum, its softmax, and the first column at which
  the softmax is greatest.
-/
module

public import proofs.«01_k».proof.Proof.KValue

@[expose] public section

set_option maxRecDepth 16384

noncomputable section

namespace Cert.RefRows

open Cert.ReferenceIdeal Cert.ReferenceIdeal.Gen Cert.RefRun Cert.Row
open Idealize.ShloMosaic hiding ix1 ix2 ix3
open Idealize.ShloMosaic.ValueIdx

/-! ## The constants -/

theorem bits_bot : Ideal.ofBits .f32 0xFF800000#32 = (⊥ : EReal) := by
  simp [Ideal.ofBits, Ideal.ieee]

theorem bits_zero : Ideal.ofBits .f32 0x00000000#32 = (0 : EReal) := by
  simp [Ideal.ofBits, Ideal.ieee]

theorem bits_one : Ideal.ofBits .f32 0x3F800000#32 = (1 : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

/-! ## The scores -/

theorem scores_apply (a0 a1 : FVec Ideal S8x64x2048 .f32) (a4 : FVec Ideal S8 .f32) (b : Fin 8) (n k : Fin 2048) :
    scores a0 a1 a4 (ix3 b n k)
      = (a4 (ix1 b) : EReal) * Ideal.div (∑ d : Fin 64, (a0 (ix3 b d n) : EReal) * a1 (ix3 b d k)) (Ideal.ofBits .f32 0x41000000#32) := by
  refine congrArg₂ (fun x y : EReal => x * y) ?_ (congrArg₂ Ideal.div ?_ rfl)
  · refine (broadcastInDim_apply _ _ _ _ (ix3 b 0 0) fun a => ?_).trans (shapeCast_apply a4 _ _ _ ?_)
    · match a with
      | ⟨0, _⟩ => rfl
      | ⟨1, _⟩ => rfl
      | ⟨2, _⟩ => rfl
    · rw [Shape.rowMajor_val_one, Shape.rowMajor_val_three]
      show b.val = (b.val * 1 + 0) * 1 + 0
      omega
  · refine (Ideal.dotGeneral_apply _ _ _ _ _ _).trans ?_
    have hr : dot_S8x64x2048_S8x64x2048_S8x2048x2048_1_1_2_2_0_0.contr.rank = 1 := rfl
    have hs : dot_S8x64x2048_S8x64x2048_S8x2048x2048_1_1_2_2_0_0.contr.size ⟨0, by omega⟩ = 64 := rfl
    rw [← Equiv.sum_comp (contrEquiv1 dot_S8x64x2048_S8x64x2048_S8x2048x2048_1_1_2_2_0_0 64 hr hs).symm]
    refine Finset.sum_congr rfl fun (d : Fin 64) _ => ?_
    refine congrArg₂ (fun x y : EReal => x * y) (congrArg a0 (funext fun c => Fin.ext ?_)) (congrArg a1 (funext fun c => Fin.ext ?_))
    · match c with
      | ⟨0, _⟩ => rfl
      | ⟨1, _⟩ => exact contrEquiv1_symm_val _ 64 hr hs d
      | ⟨2, _⟩ => rfl
    · match c with
      | ⟨0, _⟩ => rfl
      | ⟨1, _⟩ => exact contrEquiv1_symm_val _ 64 hr hs d
      | ⟨2, _⟩ => rfl

/-! ## Reductions along a row -/

theorem reduces_row : S8x2048x2048.Reduces [2] S8x2048 := by decide

theorem lift_row (b : Fin 8) (n m : Fin 2048) : reduces_row.lift (ix2 b n) m = ix3 b n m := by
  funext a
  match a with
  | ⟨0, _⟩ => rfl
  | ⟨1, _⟩ => rfl
  | ⟨2, _⟩ => rfl

theorem spread_apply (x : FVec Ideal S8x2048 .f32) (b : Fin 8) (n m : Fin 2048) : spread x (ix3 b n m) = x (ix2 b n) := by
  refine (broadcastInDim_apply _ _ _ _ (ix3 b n 0) fun a => ?_).trans (broadcastInDim_apply _ _ x _ _ fun a => ?_)
  · match a with
    | ⟨0, _⟩ => rfl
    | ⟨1, _⟩ => rfl
    | ⟨2, _⟩ => rfl
  · match a with
    | ⟨0, _⟩ => rfl
    | ⟨1, _⟩ => rfl

/-- A value per row and minus infinity: the greater is the value. -/
theorem maximumf_bot (x : FVec Ideal S8x2048 .f32) (j : S8x2048.Idx) :
    maximumf (broadcastInDim S8x2048 ![] bcast_S_S8x2048 (constant S_ .f32 0xFF800000#32)) x j = x j := by
  show max (Ideal.ofBits .f32 0xFF800000#32) (x j : EReal) = _
  rw [bits_bot]
  exact max_eq_right bot_le

theorem exp_apply (x y : FVec Ideal S8x2048x2048 .f32) (j : S8x2048x2048.Idx) :
    Host.exp (subf x y) j = Ideal.exp ((x j : EReal) - y j) := rfl

theorem divf_apply (x y : FVec Ideal S8x2048x2048 .f32) (j : S8x2048x2048.Idx) :
    Host.divf x y j = Ideal.div (x j) (y j) := rfl

theorem rowMax_apply (x : FVec Ideal S8x2048x2048 .f32) (b : Fin 8) (n : Fin 2048) :
    rowMax x (ix2 b n) = Finset.univ.fold max (⊥ : EReal) fun m : Fin 2048 => (x (ix3 b n m) : EReal) := by
  unfold rowMax
  refine (Host.reduce_eq_fold_single _ x _ _ reduces_row _ (ix2 b n)).trans ?_
  show Finset.univ.fold max (Ideal.ofBits .f32 0xFF800000#32) (fun m : Fin 2048 => (x (reduces_row.lift (ix2 b n) m) : EReal)) = _
  simp only [lift_row, bits_bot]

theorem rowSum_apply (x : FVec Ideal S8x2048x2048 .f32) (b : Fin 8) (n : Fin 2048) :
    (Host.reduceAdd x (constant S_ .f32 0x00000000#32) reducesTo_S8x2048x2048_S8x2048_d2 h_S_ : FVec Ideal S8x2048 .f32) (ix2 b n)
      = ∑ m : Fin 2048, (x (ix3 b n m) : EReal) := by
  show Ideal.hostReduceAdd reducesTo_S8x2048x2048_S8x2048_d2 x (Ideal.ofBits .f32 0x00000000#32) (ix2 b n) = _
  rw [Ideal.hostReduceAdd_single _ reduces_row, bits_zero, zero_add]
  exact Finset.sum_congr rfl fun (m : Fin 2048) _ => congrArg x (lift_row b n m)

/-! ## The softmax of a row of real scores -/

section Softmax

variable (z : FVec Ideal S8x2048x2048 .f32) (b : Fin 8) (n : Fin 2048) (f : Fin 2048 → ℝ) (k : Fin 2048)
  (hz : ∀ m, z (ix3 b n m) = ((f m : ℝ) : EReal)) (hk : IsFirst f k)

include hz hk

theorem rowMax_real : rowMax z (ix2 b n) = ((f k : ℝ) : EReal) := by
  rw [rowMax_apply, fold_max _ k fun m => by rw [hz, hz]; exact EReal.coe_le_coe_iff.2 (hk.le m)]
  exact hz k

theorem expRows_real (m : Fin 2048) : expRows z (ix3 b n m) = Ideal.exp (((f m : ℝ) : EReal) - ((f k : ℝ) : EReal)) := by
  unfold expRows
  rw [exp_apply, spread_apply, maximumf_bot, rowMax_real z b n f k hz hk, hz]

theorem softmax_real (m : Fin 2048) : softmax z (ix3 b n m) = ((soft f k m : ℝ) : EReal) := by
  unfold softmax
  rw [divf_apply, spread_apply, rowSum_apply, expRows_real z b n f k hz hk,
    Finset.sum_congr rfl fun m _ => expRows_real z b n f k hz hk m, sum_exp f k, div_exp f k m]

theorem rowMax_softmax : rowMax (softmax z) (ix2 b n) = ((soft f k k : ℝ) : EReal) := by
  rw [rowMax_apply, fold_max _ k fun m => by
    rw [softmax_real z b n f k hz hk, softmax_real z b n f k hz hk]; exact EReal.coe_le_coe_iff.2 (soft_le hk m)]
  exact softmax_real z b n f k hz hk k

end Softmax

end Cert.RefRows
-- ==== Proof.RefFirst.lean ====
/-
  The reference's correspondences: the pair fold along a row that keeps the greater value, and on equal values the
  smaller column, ends at the first column at which the row is greatest.
-/
module

public import proofs.«01_k».proof.Proof.RefRows

@[expose] public section

set_option maxRecDepth 16384

noncomputable section

namespace Cert.RefRows

open Cert.ReferenceIdeal Cert.ReferenceIdeal.Gen Cert.RefRun Cert.Row
open Idealize.ShloMosaic hiding ix1 ix2 ix3
open Idealize.ShloMosaic.ValueIdx

/-- The pair fold over an increasing list that holds `i`, when what comes before `i` has lesser values and what comes
    after has values no greater and greater labels: the pair at `i`. -/
theorem foldl_increasing {N : ℕ} (q : Fin N → Ideal .f32) (w : Fin N → BitVec 32) (L : List (Fin N)) (hL : L.Pairwise (· < ·))
    (i : Fin N) (hi : i ∈ L) (hlt : ∀ m ∈ L, m < i → (q m : EReal) < q i) (hle : ∀ m ∈ L, (q m : EReal) ≤ q i)
    (hw : ∀ m ∈ L, i < m → (w i).slt (w m) = true) (a : Ideal .f32 × BitVec 32) (ha : (a.1 : EReal) < q i) :
    L.foldl (fun r m => reducer_argmax_f32_i32 r (q m, w m)) a = (q i, w i) := by
  obtain ⟨pre, post, rfl⟩ := List.append_of_mem hi
  obtain ⟨_, hpost, hcross⟩ := List.pairwise_append.1 hL
  refine foldl_first q w pre post i (fun m hm => ?_) (fun m hm => ?_) (fun m hm => ?_) a ha
  · exact hlt m (List.mem_append_left _ hm) (hcross m hm i List.mem_cons_self)
  · exact hle m (List.mem_append_right _ (List.mem_cons_of_mem _ hm))
  · exact hw m (List.mem_append_right _ (List.mem_cons_of_mem _ hm)) ((List.pairwise_cons.1 hpost).1 m hm)

/-- The same fold as an array operation's: over the indices that reduce to `j`, in row-major order. -/
theorem reduce2_first {s t u : Shape} {axes : List (Fin s.rank)} (h : s.ReducesTo axes t) (hu : 0 < u.numel)
    (x : s.Idx → Ideal .f32) (y : s.Idx → BitVec 32) (ix : u.Idx → Ideal .f32) (iy : u.Idx → BitVec 32) (j : t.Idx) (i : s.Idx)
    (hi : h.drop i = j) (hlt : ∀ i', h.drop i' = j → s.rowMajor i' < s.rowMajor i → (x i' : EReal) < x i)
    (hle : ∀ i', h.drop i' = j → (x i' : EReal) ≤ x i)
    (hw : ∀ i', h.drop i' = j → s.rowMajor i < s.rowMajor i' → (y i).slt (y i') = true)
    (ha : (ix (Shape.Idx.first hu) : EReal) < x i) :
    Host.reduce2 reducer_argmax_f32_i32 x y ix iy h hu j = (x i, y i) := by
  unfold Host.reduce2
  have hx : x (s.rowMajor.symm (s.rowMajor i)) = x i := congrArg x (s.rowMajor.symm_apply_apply i)
  have hy : y (s.rowMajor.symm (s.rowMajor i)) = y i := congrArg y (s.rowMajor.symm_apply_apply i)
  rw [← hx, ← hy]
  refine foldl_increasing (fun m => x (s.rowMajor.symm m)) (fun m => y (s.rowMajor.symm m)) _
    (List.Pairwise.filter _ (List.pairwise_lt_finRange _)) (s.rowMajor i) ?_ (fun m hm hmi => ?_) (fun m hm => ?_)
    (fun m hm hmi => ?_) _ ?_
  · exact List.mem_filter.2 ⟨List.mem_finRange _, by rw [s.rowMajor.symm_apply_apply]; exact decide_eq_true hi⟩
  · rw [hx]
    exact hlt _ (of_decide_eq_true (List.mem_filter.1 hm).2) (by rw [s.rowMajor.apply_symm_apply]; exact hmi)
  · rw [hx]
    exact hle _ (of_decide_eq_true (List.mem_filter.1 hm).2)
  · rw [hy]
    exact hw _ (of_decide_eq_true (List.mem_filter.1 hm).2) (by rw [s.rowMajor.apply_symm_apply]; exact hmi)
  · rw [hx]
    exact ha

/-- An index that reduces to a row lies in that row. -/
theorem of_drop (i : S8x2048x2048.Idx) (b : Fin 8) (n : Fin 2048)
    (h : reducesTo_S8x2048x2048_S8x2048_d2.drop i = ix2 b n) : ∃ m : Fin 2048, i = ix3 b n m := by
  refine ⟨i 2, funext fun a => Fin.ext ?_⟩
  have h0 := congrArg (fun j : S8x2048.Idx => (j 0).val) h
  have h1 := congrArg (fun j : S8x2048.Idx => (j 1).val) h
  match a with
  | ⟨0, _⟩ => exact h0
  | ⟨1, _⟩ => exact h1
  | ⟨2, _⟩ => rfl

/-- The order of a row's indices is that of their columns. -/
theorem row_lt (b : Fin 8) (n m k : Fin 2048)
    (h : S8x2048x2048.rowMajor (ix3 b n m) < S8x2048x2048.rowMajor (ix3 b n k)) : m < k := by
  have h' := Fin.lt_def.1 h
  rw [Shape.rowMajor_val_three, Shape.rowMajor_val_three] at h'
  exact Fin.lt_def.2 (Nat.lt_of_add_lt_add_left h')

theorem slt_columns (m k : Fin 2048) (h : k < m) : (BitVec.ofNat 32 k.val).slt (BitVec.ofNat 32 m.val) = true := by
  unfold BitVec.slt
  rw [toInt_column, toInt_column]
  exact decide_eq_true (Int.ofNat_lt.2 h)

/-- The pair at the first column at which a row is greatest. -/
theorem argReduce_apply (p : FVec Ideal S8x2048x2048 .f32) (y : IVec S8x2048x2048 32) (ix : FVec Ideal S_ .f32) (iy : IVec S_ 32)
    (b : Fin 8) (n k : Fin 2048) (hy : ∀ m, y (ix3 b n m) = BitVec.ofNat 32 m.val)
    (hlt : ∀ m, m < k → (p (ix3 b n m) : EReal) < p (ix3 b n k)) (hle : ∀ m, (p (ix3 b n m) : EReal) ≤ p (ix3 b n k))
    (hbot : (ix (Shape.Idx.first h_S_) : EReal) < p (ix3 b n k)) :
    Host.argReduce reducer_argmax_f32_i32 p y ix iy reducesTo_S8x2048x2048_S8x2048_d2 h_S_ (ix2 b n)
      = (p (ix3 b n k), y (ix3 b n k)) := by
  refine (congrFun (Ideal.argReduce_eq_reduce2 _ _ _ _ _ _ _) (ix2 b n)).trans ?_
  refine reduce2_first reducesTo_S8x2048x2048_S8x2048_d2 h_S_ p y ix iy (ix2 b n) (ix3 b n k) ?_ ?_ ?_ ?_ hbot
  · funext a
    match a with
    | ⟨0, _⟩ => rfl
    | ⟨1, _⟩ => rfl
  · intro i hi hlt'
    obtain ⟨m, rfl⟩ := of_drop i b n hi
    exact hlt m (row_lt b n m k hlt')
  · intro i hi
    obtain ⟨m, rfl⟩ := of_drop i b n hi
    exact hle m
  · intro i hi hlt'
    obtain ⟨m, rfl⟩ := of_drop i b n hi
    rw [hy, hy]
    exact slt_columns m k (row_lt b n k m hlt')

/-- The labels of an array of pairs. -/
def labels (g : S8x2048.Idx → Ideal .f32 × BitVec 32) : IVec S8x2048 32 := fun j => (g j).2

theorem labels_apply (g : S8x2048.Idx → Ideal .f32 × BitVec 32) (j : S8x2048.Idx) (x : Ideal .f32) (k l : BitVec 32)
    (h : g j = (x, k)) (hk : k = l) : labels g j = l := by
  unfold labels
  rw [h]
  exact hk

theorem firstMax_eq (p : FVec Ideal S8x2048x2048 .f32) :
    firstMax p = labels (Host.argReduce reducer_argmax_f32_i32 p (iotaInDim S8x2048x2048 32 2)
      (constant S_ .f32 0xFF800000#32) (constantI S_ 32 0#32) reducesTo_S8x2048x2048_S8x2048_d2 h_S_) := rfl

/-- The first column at which a row is greatest. -/
theorem firstMax_apply (p : FVec Ideal S8x2048x2048 .f32) (b : Fin 8) (n k : Fin 2048)
    (hlt : ∀ m, m < k → (p (ix3 b n m) : EReal) < p (ix3 b n k)) (hle : ∀ m, (p (ix3 b n m) : EReal) ≤ p (ix3 b n k))
    (hbot : (⊥ : EReal) < p (ix3 b n k)) : firstMax p (ix2 b n) = BitVec.ofNat 32 k.val := by
  have hb : ((constant S_ .f32 0xFF800000#32 : FVec Ideal S_ .f32) (Shape.Idx.first h_S_) : EReal) < p (ix3 b n k) :=
    lt_of_eq_of_lt bits_bot hbot
  have hy : ∀ m, iotaInDim S8x2048x2048 32 2 (ix3 b n m) = BitVec.ofNat 32 m.val := fun _ => rfl
  rw [firstMax_eq]
  exact labels_apply _ _ _ _ _ (argReduce_apply p _ _ _ b n k hy hlt hle hb) (hy k)

/-- The first column at which the softmax of a row of real scores is greatest: the scores' own. -/
theorem firstMax_softmax (z : FVec Ideal S8x2048x2048 .f32) (b : Fin 8) (n : Fin 2048) (f : Fin 2048 → ℝ) (k : Fin 2048)
    (hz : ∀ m, z (ix3 b n m) = ((f m : ℝ) : EReal)) (hk : IsFirst f k) :
    firstMax (softmax z) (ix2 b n) = BitVec.ofNat 32 k.val := by
  refine firstMax_apply _ b n k (fun m hm => ?_) (fun m => ?_) ?_ <;> simp only [softmax_real z b n f k hz hk]
  · exact EReal.coe_lt_coe_iff.2 (soft_lt hk hm)
  · exact EReal.coe_le_coe_iff.2 (soft_le hk m)
  · exact EReal.bot_lt_coe _

end Cert.RefRows
-- ==== Proof.RefPoints.lean ====
/-
  The reference's points and weights, read at an index: the matched target points, the normalised weights, the weighted
  means and the covariance.
-/
module

public import proofs.«01_k».proof.Proof.RefFirst

@[expose] public section

set_option maxRecDepth 16384

noncomputable section

namespace Cert.RefRows

open Cert.ReferenceIdeal Cert.ReferenceIdeal.Gen Cert.RefRun Cert.Row
open Idealize.ShloMosaic hiding ix1 ix2 ix3
open Idealize.ShloMosaic.ValueIdx

/-! ## Correspondences and weights with their unit axis -/

theorem addUnit_apply {α : Type} (x : S8x2048.Idx → α) (b : Fin 8) (n : Fin 2048) :
    shapeCast S8x2048x1 x shapeCasts_S8x2048_S8x2048x1 (ix3 b n 0) = x (ix2 b n) :=
  shapeCast_apply x _ _ _ (by
    rw [Shape.rowMajor_val_two, Shape.rowMajor_val_three]
    show b.val * 2048 + n.val = (b.val * 2048 + n.val) * 1 + 0
    omega)

theorem dropUnit_apply {α : Type} (x : S8x2048x1.Idx → α) (b : Fin 8) (n : Fin 2048) :
    shapeCast S8x2048 x shapeCasts_S8x2048x1_S8x2048 (ix2 b n) = x (ix3 b n 0) :=
  shapeCast_apply x _ _ _ (by
    rw [Shape.rowMajor_val_two, Shape.rowMajor_val_three]
    show (b.val * 2048 + n.val) * 1 + 0 = b.val * 2048 + n.val
    omega)

theorem column_apply {α : Type} (x : S8x2048.Idx → α) (b : Fin 8) (n : Fin 2048) :
    broadcastInDim S8x2048x1 ![0, 1] bcast_S8x2048_S8x2048x1_0_1 x (ix3 b n 0) = x (ix2 b n) :=
  broadcastInDim_apply _ _ x _ _ fun a => by
    match a with
    | ⟨0, _⟩ => rfl
    | ⟨1, _⟩ => rfl

theorem weight_apply (p : FVec Ideal S8x2048x2048 .f32) (b : Fin 8) (n : Fin 2048) :
    RefRun.weight p (ix3 b n 0) = rowMax p (ix2 b n) := column_apply _ b n

theorem corres_apply (p : FVec Ideal S8x2048x2048 .f32) (b : Fin 8) (n : Fin 2048) :
    corres p (ix3 b n 0) = firstMax p (ix2 b n) := addUnit_apply _ b n

/-! ## The matched points -/

/-- A row number that is not negative is read as it is. -/
theorem rowNumbers_apply (k : IVec S8x2048x1 32) (b : Fin 8) (n m : Fin 2048) (hk : k (ix3 b n 0) = BitVec.ofNat 32 m.val) :
    rowNumbers k (ix3 b n 0) = BitVec.ofNat 32 m.val := by
  unfold rowNumbers
  rw [column_apply]
  show Scalar.select (IntOp.cmpi .slt (shapeCast S8x2048 k shapeCasts_S8x2048x1_S8x2048 (ix2 b n)) 0#32)
    (IntOp.addi (shapeCast S8x2048 k shapeCasts_S8x2048x1_S8x2048 (ix2 b n)) 2048#32)
    (shapeCast S8x2048 k shapeCasts_S8x2048x1_S8x2048 (ix2 b n)) = _
  rw [dropUnit_apply, hk]
  have h : (BitVec.ofNat 32 m.val).slt 0#32 = false := by
    unfold BitVec.slt
    rw [toInt_column]
    exact decide_eq_false (by simp)
  simp [IntOp.cmpi, h, Scalar.select]

theorem points_apply (a : FVec Ideal S8x3x2048 .f32) (b : Fin 8) (n : Fin 2048) (i : Fin 3) :
    points a (ix3 b n i) = a (ix3 b i n) :=
  transpose_apply _ a _ _ _ fun c => by
    match c with
    | ⟨0, _⟩ => rfl
    | ⟨1, _⟩ => rfl
    | ⟨2, _⟩ => rfl

/-- The row read, clamped into the table. -/
theorem gather_apply {α : Type} (x : S8x2048x3.Idx → α) (r : IVec S8x2048x1 32) (b : Fin 8) (n m : Fin 2048) (i : Fin 3)
    (hr : r (ix3 b n 0) = BitVec.ofNat 32 m.val) :
    Host.gather gather_S8x2048x3_S8x2048x1_S8x2048x3_2_1_0_0_1_2_113 x r (ix3 b n i) = x (ix3 b m i) := by
  unfold Host.gather
  refine congrArg x (funext fun a => Fin.ext ?_)
  show gather_S8x2048x3_S8x2048x1_S8x2048x3_2_1_0_0_1_2_113.start (ix3 b n i) r a
    + gather_S8x2048x3_S8x2048x1_S8x2048x3_2_1_0_0_1_2_113.batchCoord (ix3 b n i) a
    + gather_S8x2048x3_S8x2048x1_S8x2048x3_2_1_0_0_1_2_113.offCoord (ix3 b n i) a = (ix3 b m i a).val
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x2048x3_S8x2048x1_S8x2048x3_2_1_0_0_1_2_113.operandBatchingDims from List.mem_singleton.mpr rfl)]
    rfl
  · rw [GatherDims.batchCoord_eq_zero _ _ _ (fun h => by simp [gather_S8x2048x3_S8x2048x1_S8x2048x3_2_1_0_0_1_2_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x2048x3_S8x2048x1_S8x2048x3_2_1_0_0_1_2_113.startIndexMap from List.mem_singleton.mpr rfl)]
    have hsi : gather_S8x2048x3_S8x2048x1_S8x2048x3_2_1_0_0_1_2_113.siIdx (ix3 b n i)
        ⟨List.idxOf (1 : Fin 3) gather_S8x2048x3_S8x2048x1_S8x2048x3_2_1_0_0_1_2_113.startIndexMap,
          List.idxOf_lt_length_iff.2 (List.mem_singleton.mpr rfl)⟩ = ix3 b n 0 := by
      funext c
      refine Fin.ext ?_
      match c with
      | ⟨0, _⟩ => rfl
      | ⟨1, _⟩ => rfl
      | ⟨2, _⟩ => rfl
    refine (congrArg (fun v : BitVec 32 => min v.toInt.toNat (2048 - 1)) ((congrArg r hsi).trans hr)).trans ?_
    rw [toInt_column]
    show min m.val 2047 = m.val
    have := m.isLt
    omega
  · rw [GatherDims.batchCoord_eq_zero _ _ _ (fun h => by simp [gather_S8x2048x3_S8x2048x1_S8x2048x3_2_1_0_0_1_2_113] at h)]
    unfold GatherDims.start GatherDims.offCoord
    rw [dif_neg (show (2 : Fin 3) ∉ gather_S8x2048x3_S8x2048x1_S8x2048x3_2_1_0_0_1_2_113.startIndexMap from by decide),
      dif_pos (show (2 : Fin 3) ∈ gather_S8x2048x3_S8x2048x1_S8x2048x3_2_1_0_0_1_2_113.sKept from by decide)]
    simp only [Nat.zero_add]
    rfl

theorem matched_apply (a3 : FVec Ideal S8x3x2048 .f32) (k : IVec S8x2048x1 32) (b : Fin 8) (n m : Fin 2048) (i : Fin 3)
    (hk : k (ix3 b n 0) = BitVec.ofNat 32 m.val) : matched a3 k (ix3 b n i) = a3 (ix3 b i m) := by
  unfold matched
  rw [gather_apply _ _ b n m i (rowNumbers_apply k b n m hk), points_apply]

/-! ## The normalised weights -/

/-- An index that reduces to a batch entry is one of its rows. -/
theorem drop_batch (b : Fin 8) (i : S8x2048x1.Idx) (h : reducesTo_S8x2048x1_S8_d1_2.drop i = ix1 b) :
    i = ix3 b (i 1) 0 := by
  have h0 := congrArg (fun j : S8.Idx => (j 0).val) h
  funext a
  refine Fin.ext ?_
  match a with
  | ⟨0, _⟩ => exact h0
  | ⟨1, _⟩ => rfl
  | ⟨2, _⟩ => exact Nat.lt_one_iff.1 (i 2).isLt

theorem batchSum_apply (x : FVec Ideal S8x2048x1 .f32) (b : Fin 8) :
    (Host.reduceAdd x (constant S_ .f32 0x00000000#32) reducesTo_S8x2048x1_S8_d1_2 h_S_ : FVec Ideal S8 .f32) (ix1 b)
      = ∑ n : Fin 2048, (x (ix3 b n 0) : EReal) := by
  show Ideal.hostReduceAdd reducesTo_S8x2048x1_S8_d1_2 x (Ideal.ofBits .f32 0x00000000#32) (ix1 b) = _
  unfold Ideal.hostReduceAdd
  rw [bits_zero, zero_add]
  refine Finset.sum_nbij' (fun i : S8x2048x1.Idx => (i 1 : Fin 2048)) (fun n : Fin 2048 => ix3 b n 0) ?_ ?_ ?_ ?_ ?_
  · intro i _
    exact Finset.mem_univ _
  · intro n _
    refine Finset.mem_filter.2 ⟨Finset.mem_univ _, funext fun a => ?_⟩
    match a with
    | ⟨0, _⟩ => rfl
  · intro i hi
    exact (drop_batch b i (Finset.mem_filter.1 hi).2).symm
  · intro n _
    rfl
  · intro i hi
    exact congrArg x (drop_batch b i (Finset.mem_filter.1 hi).2)

/-- The weights repeated for three coordinates. -/
theorem repeated_apply (w : FVec Ideal S8x2048x1 .f32) (b : Fin 8) (n : Fin 2048) (i : Fin 3) :
    shapeCast S8x2048x3 (broadcastInDim S1x8x1x2048x3x1 ![0, 1, 2, 3, 4, 5] bcast_S1x8x1x2048x1x1_S1x8x1x2048x3x1_0_1_2_3_4_5
      (shapeCast S1x8x1x2048x1x1 w shapeCasts_S8x2048x1_S1x8x1x2048x1x1)) shapeCasts_S1x8x1x2048x3x1_S8x2048x3 (ix3 b n i)
      = w (ix3 b n 0) := by
  let j : S1x8x1x2048x3x1.Idx := fun a => match a with
    | ⟨0, _⟩ => (0 : Fin 1) | ⟨1, _⟩ => b | ⟨2, _⟩ => (0 : Fin 1) | ⟨3, _⟩ => n | ⟨4, _⟩ => i | ⟨5, _⟩ => (0 : Fin 1)
  let j' : S1x8x1x2048x1x1.Idx := fun a => match a with
    | ⟨0, _⟩ => (0 : Fin 1) | ⟨1, _⟩ => b | ⟨2, _⟩ => (0 : Fin 1) | ⟨3, _⟩ => n | ⟨4, _⟩ => (0 : Fin 1) | ⟨5, _⟩ => (0 : Fin 1)
  refine (shapeCast_apply _ _ _ j ?_).trans ((broadcastInDim_apply _ _ _ _ j' ?_).trans (shapeCast_apply w _ _ _ ?_))
  · rw [Shape.rowMajor_val_three]
    show (Shape.rowMajorPi _ j).val = _
    simp only [Shape.rowMajorPi_succ_val, Shape.rowMajorPi_zero, Fin.prod_univ_succ, Fin.prod_univ_zero]
    show 0 * (8 * (1 * (2048 * (3 * (1 * 1))))) + (b.val * (1 * (2048 * (3 * (1 * 1)))) + (0 * (2048 * (3 * (1 * 1))) + (n.val * (3 * (1 * 1)) + (i.val * (1 * 1) + (0 * 1 + 0)))))
      = (b.val * 2048 + n.val) * 3 + i.val
    omega
  · intro a
    match a with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_three]
    show _ = (Shape.rowMajorPi _ j').val
    simp only [Shape.rowMajorPi_succ_val, Shape.rowMajorPi_zero, Fin.prod_univ_succ, Fin.prod_univ_zero]
    show (b.val * 2048 + n.val) * 1 + 0
      = 0 * (8 * (1 * (2048 * (1 * (1 * 1))))) + (b.val * (1 * (2048 * (1 * (1 * 1)))) + (0 * (2048 * (1 * (1 * 1))) + (n.val * (1 * (1 * 1)) + (0 * (1 * 1) + (0 * 1 + 0)))))
    omega

/-- The normalised weights, when the weights are not negative. -/
theorem normed_apply (w : FVec Ideal S8x2048x1 .f32) (b : Fin 8) (n : Fin 2048) (i : Fin 3)
    (hw : ∀ n, (0 : EReal) ≤ w (ix3 b n 0)) :
    normed w (ix3 b n i) = KMoments.norm (fun n => w (ix3 b n 0)) n := by
  refine congrArg₂ Ideal.div (repeated_apply w b n i) ?_
  refine (broadcastInDim_apply _ _ _ _ (ix3 b 0 0) fun a => ?_).trans
    ((broadcastInDim_apply _ _ _ _ (ix1 b) fun a => ?_).trans (congrArg₂ (fun x y : EReal => x + y) ?_ rfl))
  · match a with
    | ⟨0, _⟩ => rfl
    | ⟨1, _⟩ => rfl
    | ⟨2, _⟩ => rfl
  · match a with
    | ⟨0, _⟩ => rfl
  · refine (batchSum_apply _ b).trans (Finset.sum_congr rfl fun (m : Fin 2048) _ => ?_)
    exact max_eq_left ((EReal.neg_le_zero.2 (hw m)).trans (hw m))

/-! ## The means and the covariance -/

theorem reduces_points : S8x2048x3.Reduces [1] S8x3 := by decide

theorem lift_points (b : Fin 8) (i : Fin 3) (n : Fin 2048) : reduces_points.lift (ix2 b i) n = ix3 b n i := by
  funext a
  match a with
  | ⟨0, _⟩ => rfl
  | ⟨1, _⟩ => rfl
  | ⟨2, _⟩ => rfl

theorem mean_apply (nw x : FVec Ideal S8x2048x3 .f32) (b : Fin 8) (i : Fin 3) :
    RefRun.mean nw x (ix3 b 0 i) = ∑ n : Fin 2048, (nw (ix3 b n i) : EReal) * x (ix3 b n i) := by
  refine (broadcastInDim_apply _ _ _ _ (ix2 b i) fun a => ?_).trans ?_
  · match a with
    | ⟨0, _⟩ => rfl
    | ⟨1, _⟩ => rfl
  · show Ideal.hostReduceAdd reducesTo_S8x2048x3_S8x3_d1 (mulf nw x) (Ideal.ofBits .f32 0x00000000#32) (ix2 b i) = _
    rw [Ideal.hostReduceAdd_single _ reduces_points, bits_zero, zero_add]
    exact Finset.sum_congr rfl fun (n : Fin 2048) _ =>
      congrArg (fun j => (nw j : EReal) * x j) (lift_points b i n)

theorem centred_apply (x : FVec Ideal S8x2048x3 .f32) (mu : FVec Ideal S8x1x3 .f32) (b : Fin 8) (n : Fin 2048) (i : Fin 3) :
    centred x mu (ix3 b n i) = (x (ix3 b n i) : EReal) - mu (ix3 b 0 i) := by
  refine congrArg (fun y : EReal => (x (ix3 b n i) : EReal) - y) (broadcastInDim_apply _ _ _ _ (ix3 b 0 i) fun a => ?_)
  match a with
  | ⟨0, _⟩ => rfl
  | ⟨1, _⟩ => rfl
  | ⟨2, _⟩ => rfl

theorem cov_apply (nw y x : FVec Ideal S8x2048x3 .f32) (muy mux : FVec Ideal S8x1x3 .f32) (b : Fin 8) (i j : Fin 3) :
    RefRun.cov nw y x muy mux (ix3 b i j)
      = ∑ n : Fin 2048, ((y (ix3 b n i) : EReal) - muy (ix3 b 0 i)) * ((nw (ix3 b n j) : EReal) * ((x (ix3 b n j) : EReal) - mux (ix3 b 0 j))) := by
  refine (Ideal.dotGeneral_apply _ _ _ _ _ _).trans ?_
  have hr : dot_S8x3x2048_S8x2048x3_S8x3x3_2_1_1_2_0_0.contr.rank = 1 := rfl
  have hs : dot_S8x3x2048_S8x2048x3_S8x3x3_2_1_1_2_0_0.contr.size ⟨0, by omega⟩ = 2048 := rfl
  rw [← Equiv.sum_comp (contrEquiv1 dot_S8x3x2048_S8x2048x3_S8x3x3_2_1_1_2_0_0 2048 hr hs).symm]
  refine Finset.sum_congr rfl fun (n : Fin 2048) _ => ?_
  refine congrArg₂ (fun x y : EReal => x * y) ?_ ?_
  · refine Eq.trans (congrArg _ (show _ = ix3 b i n from funext fun c => Fin.ext ?_)) ?_
    · match c with
      | ⟨0, _⟩ => rfl
      | ⟨1, _⟩ => rfl
      | ⟨2, _⟩ => exact contrEquiv1_symm_val _ 2048 hr hs n
    refine (transpose_apply _ _ _ _ (ix3 b n i) fun c => ?_).trans (centred_apply y muy b n i)
    match c with
    | ⟨0, _⟩ => rfl
    | ⟨1, _⟩ => rfl
    | ⟨2, _⟩ => rfl
  · refine Eq.trans (congrArg _ (show _ = ix3 b n j from funext fun c => Fin.ext ?_)) ?_
    · match c with
      | ⟨0, _⟩ => rfl
      | ⟨1, _⟩ => exact contrEquiv1_symm_val _ 2048 hr hs n
      | ⟨2, _⟩ => rfl
    exact congrArg (fun y : EReal => (nw (ix3 b n j) : EReal) * y) (centred_apply x mux b n j)

theorem flat_apply (mu : FVec Ideal S8x1x3 .f32) (b : Fin 8) (i : Fin 3) : flat mu (ix2 b i) = mu (ix3 b 0 i) :=
  shapeCast_apply mu _ _ _ (by
    rw [Shape.rowMajor_val_two, Shape.rowMajor_val_three]
    show (b.val * 1 + 0) * 3 + i.val = b.val * 3 + i.val
    omega)

end Cert.RefRows
-- ==== Proof.Finite.lean ====
/-
  What the precondition says of the arguments at the ideal values: the embeddings, the target points and the
  temperature are real numbers.
-/
module

public import proofs.«01_k».proof.Proof.RefPoints
public import proofs.«01_k».proof.Proof.Gen.Pre_finite

@[expose] public section

set_option maxRecDepth 16384

noncomputable section

namespace Cert.Finite

open Cert.Pre_finite
open Idealize.ShloMosaic

theorem andi_ones (c d : BitVec 1) : IntOp.andi c d = 1#1 ↔ c = 1#1 ∧ d = 1#1 := by revert c d; decide

/-- A conjunction folded along a list is one only when every word of the list is. -/
theorem foldl_andi {ι : Type} (x : ι → BitVec 1) (L : List ι) (a : BitVec 1)
    (h : L.foldl (fun r n => IntOp.andi r (x n)) a = 1#1) : a = 1#1 ∧ ∀ n ∈ L, x n = 1#1 := by
  induction L generalizing a with
  | nil => exact ⟨h, fun n hn => absurd hn List.not_mem_nil⟩
  | cons n L ih =>
    rw [List.foldl_cons] at h
    obtain ⟨h1, h2⟩ := ih _ h
    obtain ⟨ha, hn⟩ := (andi_ones _ _).1 h1
    exact ⟨ha, fun k hk => (List.mem_cons.1 hk).elim (fun e => e ▸ hn) (h2 k)⟩

/-- The same for an array reduced along every axis. -/
theorem reduce_andi {s t u : Shape} {axes : List (Fin s.rank)} (x : s.Idx → BitVec 1) (init : u.Idx → BitVec 1)
    (h : s.ReducesTo axes t) (hu : 0 < u.numel) (ht : ∀ j j' : t.Idx, j = j') (j : t.Idx)
    (hone : Host.reduce IntOp.andi x init h hu j = 1#1) (i : s.Idx) : x i = 1#1 := by
  unfold Host.reduce at hone
  have := (foldl_andi _ _ _ hone).2 (s.rowMajor i) (List.mem_filter.2 ⟨List.mem_finRange _, decide_eq_true (ht _ _)⟩)
  rwa [s.rowMajor.symm_apply_apply] at this

theorem bits_top : Ideal.ofBits .f32 0x7F800000#32 = (⊤ : EReal) := by
  simp [Ideal.ofBits, Ideal.ieee]

/-- A value of absolute value below infinity is real. -/
theorem real_of_lt (x : EReal) (h : Ideal.cmp .olt (max x (-x)) (Ideal.ofBits .f32 0x7F800000#32) = 1#1) : ((x.toReal : ℝ) : EReal) = x := by
  have h' : max x (-x) < ⊤ := by
    rw [bits_top] at h
    by_contra hn
    simp [Ideal.cmp, hn] at h
  refine EReal.coe_toReal (fun e => ?_) (fun e => ?_)
  · subst e
    exact absurd h' (by simp)
  · subst e
    exact absurd h' (by simp)

variable (a0 a1 : FVec Ideal S8x64x2048 .f32) (a2 a3 : FVec Ideal S8x3x2048 .f32) (a4 : FVec Ideal S8 .f32) (a5 : IVec S_ 32)

/-- Every element of an array is real. -/
def AllReal {s : Shape} (x : s.Idx → EReal) : Prop := ∀ i, (((x i).toReal : ℝ) : EReal) = x i

theorem idx_scalar (j j' : S_.Idx) : j = j' := funext fun a => a.elim0

theorem of_pre (h : Cert.Pre_finite.fn (F := Ideal) a0 a1 a2 a3 a4 a5 = fun _ => 1#1) :
    AllReal a0 ∧ AllReal a1 ∧ AllReal a3 ∧ AllReal a4 := by
  have h0 := congrFun h (fun a => a.elim0)
  unfold Cert.Pre_finite.fn Cert.Pre_finite.fn_part1 at h0
  obtain ⟨h012, h4⟩ := (andi_ones _ _).1 h0
  obtain ⟨h01, h3⟩ := (andi_ones _ _).1 h012
  obtain ⟨h0', h1⟩ := (andi_ones _ _).1 h01
  exact ⟨fun i => real_of_lt _ (reduce_andi _ _ _ _ idx_scalar _ h0' i), fun i => real_of_lt _ (reduce_andi _ _ _ _ idx_scalar _ h1 i),
    fun i => real_of_lt _ (reduce_andi _ _ _ _ idx_scalar _ h3 i), fun i => real_of_lt _ (reduce_andi _ _ _ _ idx_scalar _ h4 i)⟩

end Cert.Finite
-- ==== Proof.Joined.lean ====
/-
  The two programs' results agree: what the kernel's formulas give at an index is what the reference's arrays hold there,
  for real embeddings, target points and temperatures.
-/
module

public import proofs.«01_k».proof.Proof.Finite

@[expose] public section

set_option maxRecDepth 16384

noncomputable section

namespace Cert.Joined

open Cert.ReferenceIdeal Cert.Row Cert.RefRows Cert.Finite
open Idealize.ShloMosaic hiding ix1 ix2 ix3
open Idealize.ShloMosaic.ValueIdx

/-! ## The kernel's formulas on a row of real scores -/

section Row

variable (z : Fin 2048 → EReal) (f : Fin 2048 → ℝ) (k : Fin 2048) (hz : ∀ m, z m = ((f m : ℝ) : EReal)) (hk : IsFirst f k)

include hz hk

theorem top_real : KBody.top z = ((f k : ℝ) : EReal) := by
  unfold KBody.top
  rw [bits_bot, fold_max z k fun m => by rw [hz, hz]; exact EReal.coe_le_coe_iff.2 (hk.le m)]
  exact hz k

theorem least_real : KBody.least z = BitVec.ofNat 32 k.val := by
  unfold KBody.least
  rw [top_real z f k hz hk]
  refine fold_minsi _ k ?_ fun m => ?_
  · simp [Ideal.cmp, Scalar.select, hz]
  · rw [hz]
    by_cases h : f m = f k
    · have e : Scalar.select (Ideal.cmp .oeq ((f m : ℝ) : EReal) ((f k : ℝ) : EReal)) (BitVec.ofNat 32 m.val) 2048#32 = BitVec.ofNat 32 m.val := by
        simp [Ideal.cmp, Scalar.select, h]
      rw [e, toInt_column]
      exact Int.ofNat_le.2 (hk.first m h)
    · have e : Scalar.select (Ideal.cmp .oeq ((f m : ℝ) : EReal) ((f k : ℝ) : EReal)) (BitVec.ofNat 32 m.val) 2048#32 = 2048#32 := by
        simp [Ideal.cmp, Scalar.select, h]
      rw [e]
      have : (2048#32).toInt = 2048 := by decide
      have := k.isLt
      omega

theorem weight_real : KBody.weight z = ((soft f k k : ℝ) : EReal) := by
  unfold KBody.weight
  rw [top_real z f k hz hk, bits_one, Finset.sum_congr rfl fun m _ => by rw [hz m], sum_exp f k, one_div_total f k]

/-- The product with the one-hot vector is the vector's element at the first greatest column. -/
theorem pick_real (t : Fin 2048 → EReal) : KBody.pick z t = t k := by
  unfold KBody.pick
  rw [least_real z f k hz hk, bits_one, bits_zero, Finset.sum_eq_single k]
  · simp [IntOp.cmpi, Scalar.select]
  · intro m _ hm
    have hne : BitVec.ofNat 32 m.val ≠ BitVec.ofNat 32 k.val := fun e => hm (by
      have := congrArg BitVec.toInt e
      rw [toInt_column, toInt_column] at this
      exact Fin.ext (by exact_mod_cast this))
    have e : IntOp.cmpi .eq (BitVec.ofNat 32 m.val) (BitVec.ofNat 32 k.val) = 0#1 := by
      unfold IntOp.cmpi
      rw [beq_eq_false_iff_ne.2 hne]
      rfl
    rw [e]
    exact mul_zero _
  · exact fun h => absurd (Finset.mem_univ k) h

end Row

/-! ## The scores are real -/

variable (a0 a1 : S8x64x2048.Idx → EReal) (a2 a3 : S8x3x2048.Idx → EReal) (a4 : S8.Idx → EReal)

/-- The dot product of two embeddings, of their real values. -/
def dot (b : Fin 8) (n m : Fin 2048) : ℝ := ∑ d : Fin 64, (a0 (ix3 b d n)).toReal * (a1 (ix3 b d m)).toReal

/-- A row's scores. -/
def real (b : Fin 8) (n m : Fin 2048) : ℝ := (a4 (ix1 b)).toReal * (dot a0 a1 b n m / 8)

theorem coe_sum {ι : Type} (s : Finset ι) (g : ι → ℝ) : ∑ i ∈ s, ((g i : ℝ) : EReal) = ((∑ i ∈ s, g i : ℝ) : EReal) :=
  (map_sum (⟨⟨fun x : ℝ => (x : EReal), EReal.coe_zero⟩, EReal.coe_add⟩ : ℝ →+ EReal) g s).symm

section Scores

variable (h0 : AllReal a0) (h1 : AllReal a1) (h3 : AllReal a3) (h4 : AllReal a4)

include h0 h1

theorem dot_real (b : Fin 8) (n m : Fin 2048) : ∑ d : Fin 64, a0 (ix3 b d n) * a1 (ix3 b d m) = ((dot a0 a1 b n m : ℝ) : EReal) := by
  unfold dot
  rw [← coe_sum]
  refine Finset.sum_congr rfl fun d _ => ?_
  rw [EReal.coe_mul, h0, h1]

include h4

theorem row_real (b : Fin 8) (n m : Fin 2048) : KValue.row a0 a1 a4 b n m = ((real a0 a1 a4 b n m : ℝ) : EReal) := by
  show (∑ d : Fin 64, a0 (ix3 b d n) * a1 (ix3 b d m)) * Ideal.ofBits .f32 0x3E000000#32 * a4 (ix1 b) = _
  rw [dot_real a0 a1 h0 h1, bits_eighth, ← h4 (ix1 b), ← EReal.coe_mul, ← EReal.coe_mul]
  congr 1
  show dot a0 a1 b n m * (1 / 8) * (a4 (ix1 b)).toReal = (a4 (ix1 b)).toReal * (dot a0 a1 b n m / 8)
  ring

theorem scores_real (b : Fin 8) (n m : Fin 2048) :
    RefRun.scores (F := Ideal) a0 a1 a4 (ix3 b n m) = ((real a0 a1 a4 b n m : ℝ) : EReal) := by
  refine (scores_apply a0 a1 a4 b n m).trans ?_
  rw [dot_real a0 a1 h0 h1, bits_eight, Ideal.div_coe (by norm_num), ← h4 (ix1 b), ← EReal.coe_mul, ← EReal.coe_mul]
  congr 1
  show (a4 (ix1 b)).toReal * (dot a0 a1 b n m * (1 / 8)) = (a4 (ix1 b)).toReal * (dot a0 a1 b n m / 8)
  ring

/-! ## Correspondences, weights and matched points -/

/-- A row's first greatest column, and the four values that rest on it. -/
theorem row_first (b : Fin 8) (n : Fin 2048) : ∃ k : Fin 2048,
    KBody.least (KValue.row a0 a1 a4 b n) = BitVec.ofNat 32 k.val
    ∧ RefRun.resCorres (F := Ideal) a0 a1 a4 (ix3 b n 0) = BitVec.ofNat 32 k.val
    ∧ KValue.weight a0 a1 a4 b n = ((soft (real a0 a1 a4 b n) k k : ℝ) : EReal)
    ∧ RefRun.resWeight (F := Ideal) a0 a1 a4 (ix3 b n 0) = ((soft (real a0 a1 a4 b n) k k : ℝ) : EReal)
    ∧ ∀ t, KBody.pick (KValue.row a0 a1 a4 b n) t = t k := by
  obtain ⟨k, hk⟩ := exists_first (real a0 a1 a4 b n)
  have hz := row_real a0 a1 a4 h0 h1 h4 b n
  have hs := scores_real a0 a1 a4 h0 h1 h4 b n
  refine ⟨k, least_real _ _ k hz hk, ?_, weight_real _ _ k hz hk, ?_, pick_real _ _ k hz hk⟩
  · exact (corres_apply _ b n).trans (firstMax_softmax _ b n _ k hs hk)
  · exact (weight_apply _ b n).trans (rowMax_softmax _ b n _ k hs hk)

theorem corres_eq (b : Fin 8) (n : Fin 2048) :
    KBody.least (KValue.row a0 a1 a4 b n) = RefRun.resCorres (F := Ideal) a0 a1 a4 (ix3 b n 0) := by
  obtain ⟨k, hl, hc, -⟩ := row_first a0 a1 a4 h0 h1 h4 b n
  rw [hl, hc]

theorem weight_eq (b : Fin 8) (n : Fin 2048) :
    RefRun.resWeight (F := Ideal) a0 a1 a4 (ix3 b n 0) = KValue.weight a0 a1 a4 b n := by
  obtain ⟨k, -, -, hw, hr, -⟩ := row_first a0 a1 a4 h0 h1 h4 b n
  rw [hw, hr]

theorem weight_nonneg (b : Fin 8) (n : Fin 2048) : (0 : EReal) ≤ RefRun.resWeight (F := Ideal) a0 a1 a4 (ix3 b n 0) := by
  obtain ⟨k, -, -, -, hr, -⟩ := row_first a0 a1 a4 h0 h1 h4 b n
  rw [hr]
  exact EReal.coe_nonneg.2 (soft_pos _ k k).le

theorem normed_eq (b : Fin 8) (n : Fin 2048) (i : Fin 3) :
    RefRun.resNormed (F := Ideal) a0 a1 a4 (ix3 b n i) = KMoments.norm (KValue.weight a0 a1 a4 b) n := by
  refine (normed_apply _ b n i (weight_nonneg a0 a1 a4 h0 h1 h4 b)).trans ?_
  rw [show (fun n : Fin 2048 => RefRun.resWeight (F := Ideal) a0 a1 a4 (ix3 b n 0)) = KValue.weight a0 a1 a4 b from
    funext fun n => weight_eq a0 a1 a4 h0 h1 h4 b n]

theorem meanX_eq (b : Fin 8) (i : Fin 3) :
    RefRun.resMeanX (F := Ideal) a0 a1 a2 a4 (ix3 b 0 i) = KMoments.mean (KValue.weight a0 a1 a4 b) (KValue.coordinate a2 b i) := by
  refine (mean_apply _ _ b i).trans (Finset.sum_congr rfl fun n _ => ?_)
  exact congrArg₂ (fun x y : EReal => x * y) (normed_eq a0 a1 a4 h0 h1 h4 b n i) (points_apply a2 b n i)

include h3

/-- The two rounded halves of a real coordinate add up to it: at the ideal values the second half is nought. -/
theorem matched_eq (b : Fin 8) (n : Fin 2048) (i : Fin 3) :
    RefRun.resMatched (F := Ideal) a0 a1 a3 a4 (ix3 b n i) = KValue.picked a0 a1 a3 a4 b i n := by
  obtain ⟨k, -, hc, -, -, hp⟩ := row_first a0 a1 a4 h0 h1 h4 b n
  refine (matched_apply a3 _ b n k i hc).trans ?_
  unfold KValue.picked
  rw [hp, hp]
  show a3 (ix3 b i k) = a3 (ix3 b i k) + (a3 (ix3 b i k) - a3 (ix3 b i k))
  rw [← h3 (ix3 b i k), ← EReal.coe_sub, sub_self, EReal.coe_zero, add_zero]

theorem meanY_eq (b : Fin 8) (i : Fin 3) :
    RefRun.resMeanY (F := Ideal) a0 a1 a3 a4 (ix3 b 0 i) = KMoments.mean (KValue.weight a0 a1 a4 b) (KValue.picked a0 a1 a3 a4 b i) := by
  refine (mean_apply _ _ b i).trans (Finset.sum_congr rfl fun n _ => ?_)
  exact congrArg₂ (fun x y : EReal => x * y) (normed_eq a0 a1 a4 h0 h1 h4 b n i) (matched_eq a0 a1 a3 a4 h0 h1 h3 h4 b n i)

theorem cov_eq (b : Fin 8) (i j : Fin 3) :
    RefRun.resCov (F := Ideal) a0 a1 a2 a3 a4 (ix3 b i j)
      = KMoments.cov (KValue.weight a0 a1 a4 b) (KValue.picked a0 a1 a3 a4 b i) (KValue.coordinate a2 b j) := by
  refine (cov_apply _ _ _ _ _ b i j).trans (Finset.sum_congr rfl fun n _ => ?_)
  rw [meanY_eq a0 a1 a3 a4 h0 h1 h3 h4, meanX_eq a0 a1 a2 a4 h0 h1 h4, matched_eq a0 a1 a3 a4 h0 h1 h3 h4, normed_eq a0 a1 a4 h0 h1 h4]
  rw [points_apply]
  rfl

end Scores

end Cert.Joined
-- ==== Proof.KRun.lean ====
/-
  The run of the kernel program, read at any buffer: it ends at the contents that the generated fold gives the last
  boundary. Then the value claim's results: nothing after the second kernel's slices writes them, so each is what an
  earlier boundary holds there.
-/
module

public import proofs.«01_k».proof.Proof.Joined
public import proofs.«01_k».proof.Proof.Gen.KernelIdeal.Frame

@[expose] public section

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution of the kernel program terminates, nothing faulting, and leaves in every unscoped buffer
    the contents at the last boundary. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W167 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W167 m ρ c b)
    (hfin := fun c s' => by
      iintro ⟨⟨Hh, -⟩, HSI⟩
      unfold StableHlo.held
      imodintro
      iapply (pointsTo_read_all (Pipeline.ucRefs τ sig) (fun b => (((c : Thread nD τ)).1, b)) (W167 m ρ c) s')
      isplitl [Hh] <;> iassumption)
    (hQ := fun s h _ c b hb => h c _ (mem_uc b hb))

/-- The stretches after the slices, each with the references that it writes. -/
def rest : List { p : List (HloOp τ sig (Elt F)) × List (Ref sig .tc) //
    p.1.Forall fun op => op.writes ⊆ (p.2.map (Proc.devRef (τ := τ) .tc)).toFinset } :=
  [ ⟨(hostOps2_1, hostOps2_1_W), hostOps2_1_writes⟩,
    ⟨(hostOps2_2, hostOps2_2_W), hostOps2_2_writes⟩,
    ⟨(hostOps2_3, hostOps2_3_W), hostOps2_3_writes⟩,
    ⟨(hostOps2_4, hostOps2_4_W), hostOps2_4_writes⟩,
    ⟨(hostOps2_5, hostOps2_5_W), hostOps2_5_writes⟩,
    ⟨(hostOps2_6, hostOps2_6_W), hostOps2_6_writes⟩,
    ⟨(hostOps2_7, hostOps2_7_W), hostOps2_7_writes⟩,
    ⟨(hostOps2_8, hostOps2_8_W), hostOps2_8_writes⟩,
    ⟨(hostOps2_9, hostOps2_9_W), hostOps2_9_writes⟩,
    ⟨(hostOps2_10, hostOps2_10_W), hostOps2_10_writes⟩,
    ⟨(hostOps2_11, hostOps2_11_W), hostOps2_11_writes⟩,
    ⟨(hostOps2_12, hostOps2_12_W), hostOps2_12_writes⟩,
    ⟨(hostOps2_13, hostOps2_13_W), hostOps2_13_writes⟩,
    ⟨(hostOps2_14, hostOps2_14_W), hostOps2_14_writes⟩,
    ⟨(hostOps2_15, hostOps2_15_W), hostOps2_15_writes⟩,
    ⟨(hostOps2_16, hostOps2_16_W), hostOps2_16_writes⟩,
    ⟨(hostOps2_17, hostOps2_17_W), hostOps2_17_writes⟩,
    ⟨(hostOps2_18, hostOps2_18_W), hostOps2_18_writes⟩,
    ⟨(hostOps2_19, hostOps2_19_W), hostOps2_19_writes⟩,
    ⟨(hostOps2_20, hostOps2_20_W), hostOps2_20_writes⟩,
    ⟨(hostOps2_21, hostOps2_21_W), hostOps2_21_writes⟩,
    ⟨(hostOps2_22, hostOps2_22_W), hostOps2_22_writes⟩,
    ⟨(hostOps2_23, hostOps2_23_W), hostOps2_23_writes⟩,
    ⟨(hostOps2_24, hostOps2_24_W), hostOps2_24_writes⟩,
    ⟨(hostOps2_25, hostOps2_25_W), hostOps2_25_writes⟩,
    ⟨(hostOps2_26, hostOps2_26_W), hostOps2_26_writes⟩,
    ⟨(hostOps2_27, hostOps2_27_W), hostOps2_27_writes⟩,
    ⟨(hostOps2_28, hostOps2_28_W), hostOps2_28_writes⟩,
    ⟨(hostOps2_29, hostOps2_29_W), hostOps2_29_writes⟩,
    ⟨(hostOps2_30, hostOps2_30_W), hostOps2_30_writes⟩,
    ⟨(hostOps2_31, hostOps2_31_W), hostOps2_31_writes⟩,
    ⟨(hostOps2_32, hostOps2_32_W), hostOps2_32_writes⟩,
    ⟨(hostOps2_33, hostOps2_33_W), hostOps2_33_writes⟩,
    ⟨(hostOps2_34, hostOps2_34_W), hostOps2_34_writes⟩,
    ⟨(hostOps2_35, hostOps2_35_W), hostOps2_35_writes⟩,
    ⟨(hostOps2_36, hostOps2_36_W), hostOps2_36_writes⟩,
    ⟨(hostOps2_37, hostOps2_37_W), hostOps2_37_writes⟩,
    ⟨(hostOps2_38, hostOps2_38_W), hostOps2_38_writes⟩,
    ⟨(hostOps2_39, hostOps2_39_W), hostOps2_39_writes⟩,
    ⟨(hostOps2_40, hostOps2_40_W), hostOps2_40_writes⟩,
    ⟨(hostOps2_41, hostOps2_41_W), hostOps2_41_writes⟩,
    ⟨(hostOps2_42, hostOps2_42_W), hostOps2_42_writes⟩,
    ⟨(hostOps2_43, hostOps2_43_W), hostOps2_43_writes⟩,
    ⟨(hostOps2_44, hostOps2_44_W), hostOps2_44_writes⟩,
    ⟨(hostOps2_45, hostOps2_45_W), hostOps2_45_writes⟩,
    ⟨(hostOps2_46, hostOps2_46_W), hostOps2_46_writes⟩,
    ⟨(hostOps2_47, hostOps2_47_W), hostOps2_47_writes⟩,
    ⟨(hostOps2_48, hostOps2_48_W), hostOps2_48_writes⟩,
    ⟨(hostOps2_49, hostOps2_49_W), hostOps2_49_writes⟩,
    ⟨(hostOps2_50, hostOps2_50_W), hostOps2_50_writes⟩,
    ⟨(hostOps2_51, hostOps2_51_W), hostOps2_51_writes⟩,
    ⟨(hostOps2_52, hostOps2_52_W), hostOps2_52_writes⟩,
    ⟨(hostOps2_53, hostOps2_53_W), hostOps2_53_writes⟩,
    ⟨(hostOps2_54, hostOps2_54_W), hostOps2_54_writes⟩,
    ⟨(hostOps2_55, hostOps2_55_W), hostOps2_55_writes⟩,
    ⟨(hostOps2_56, hostOps2_56_W), hostOps2_56_writes⟩,
    ⟨(hostOps2_57, hostOps2_57_W), hostOps2_57_writes⟩,
    ⟨(hostOps2_58, hostOps2_58_W), hostOps2_58_writes⟩,
    ⟨(hostOps2_59, hostOps2_59_W), hostOps2_59_writes⟩,
    ⟨(hostOps2_60, hostOps2_60_W), hostOps2_60_writes⟩,
    ⟨(hostOps2_61, hostOps2_61_W), hostOps2_61_writes⟩,
    ⟨(hostOps2_62, hostOps2_62_W), hostOps2_62_writes⟩,
    ⟨(hostOps2_63, hostOps2_63_W), hostOps2_63_writes⟩,
    ⟨(hostOps2_64, hostOps2_64_W), hostOps2_64_writes⟩,
    ⟨(hostOps2_65, hostOps2_65_W), hostOps2_65_writes⟩,
    ⟨(hostOps2_66, hostOps2_66_W), hostOps2_66_writes⟩,
    ⟨(hostOps2_67, hostOps2_67_W), hostOps2_67_writes⟩,
    ⟨(hostOps2_68, hostOps2_68_W), hostOps2_68_writes⟩,
    ⟨(hostOps2_69, hostOps2_69_W), hostOps2_69_writes⟩,
    ⟨(hostOps2_70, hostOps2_70_W), hostOps2_70_writes⟩,
    ⟨(hostOps2_71, hostOps2_71_W), hostOps2_71_writes⟩,
    ⟨(hostOps2_72, hostOps2_72_W), hostOps2_72_writes⟩,
    ⟨(hostOps2_73, hostOps2_73_W), hostOps2_73_writes⟩,
    ⟨(hostOps2_74, hostOps2_74_W), hostOps2_74_writes⟩,
    ⟨(hostOps2_75, hostOps2_75_W), hostOps2_75_writes⟩,
    ⟨(hostOps2_76, hostOps2_76_W), hostOps2_76_writes⟩,
    ⟨(hostOps2_77, hostOps2_77_W), hostOps2_77_writes⟩,
    ⟨(hostOps2_78, hostOps2_78_W), hostOps2_78_writes⟩,
    ⟨(hostOps2_79, hostOps2_79_W), hostOps2_79_writes⟩,
    ⟨(hostOps2_80, hostOps2_80_W), hostOps2_80_writes⟩,
    ⟨(hostOps2_81, hostOps2_81_W), hostOps2_81_writes⟩,
    ⟨(hostOps2_82, hostOps2_82_W), hostOps2_82_writes⟩,
    ⟨(hostOps2_83, hostOps2_83_W), hostOps2_83_writes⟩,
    ⟨(hostOps2_84, hostOps2_84_W), hostOps2_84_writes⟩,
    ⟨(hostOps2_85, hostOps2_85_W), hostOps2_85_writes⟩,
    ⟨(hostOps2_86, hostOps2_86_W), hostOps2_86_writes⟩,
    ⟨(hostOps2_87, hostOps2_87_W), hostOps2_87_writes⟩,
    ⟨(hostOps2_88, hostOps2_88_W), hostOps2_88_writes⟩,
    ⟨(hostOps2_89, hostOps2_89_W), hostOps2_89_writes⟩,
    ⟨(hostOps2_90, hostOps2_90_W), hostOps2_90_writes⟩,
    ⟨(hostOps2_91, hostOps2_91_W), hostOps2_91_writes⟩,
    ⟨(hostOps2_92, hostOps2_92_W), hostOps2_92_writes⟩,
    ⟨(hostOps2_93, hostOps2_93_W), hostOps2_93_writes⟩,
    ⟨(hostOps2_94, hostOps2_94_W), hostOps2_94_writes⟩,
    ⟨(hostOps2_95, hostOps2_95_W), hostOps2_95_writes⟩,
    ⟨(hostOps2_96, hostOps2_96_W), hostOps2_96_writes⟩,
    ⟨(hostOps2_97, hostOps2_97_W), hostOps2_97_writes⟩,
    ⟨(hostOps2_98, hostOps2_98_W), hostOps2_98_writes⟩,
    ⟨(hostOps2_99, hostOps2_99_W), hostOps2_99_writes⟩,
    ⟨(hostOps2_100, hostOps2_100_W), hostOps2_100_writes⟩,
    ⟨(hostOps2_101, hostOps2_101_W), hostOps2_101_writes⟩,
    ⟨(hostOps2_102, hostOps2_102_W), hostOps2_102_writes⟩,
    ⟨(hostOps2_103, hostOps2_103_W), hostOps2_103_writes⟩,
    ⟨(hostOps2_104, hostOps2_104_W), hostOps2_104_writes⟩,
    ⟨(hostOps2_105, hostOps2_105_W), hostOps2_105_writes⟩,
    ⟨(hostOps2_106, hostOps2_106_W), hostOps2_106_writes⟩,
    ⟨(hostOps2_107, hostOps2_107_W), hostOps2_107_writes⟩,
    ⟨(hostOps2_108, hostOps2_108_W), hostOps2_108_writes⟩,
    ⟨(hostOps2_109, hostOps2_109_W), hostOps2_109_writes⟩,
    ⟨(hostOps2_110, hostOps2_110_W), hostOps2_110_writes⟩,
    ⟨(hostOps2_111, hostOps2_111_W), hostOps2_111_writes⟩,
    ⟨(hostOps2_112, hostOps2_112_W), hostOps2_112_writes⟩,
    ⟨(hostOps2_113, hostOps2_113_W), hostOps2_113_writes⟩,
    ⟨(hostOps2_114, hostOps2_114_W), hostOps2_114_writes⟩,
    ⟨(hostOps2_115, hostOps2_115_W), hostOps2_115_writes⟩,
    ⟨(hostOps2_116, hostOps2_116_W), hostOps2_116_writes⟩,
    ⟨(hostOps2_117, hostOps2_117_W), hostOps2_117_writes⟩,
    ⟨(hostOps2_118, hostOps2_118_W), hostOps2_118_writes⟩,
    ⟨(hostOps2_119, hostOps2_119_W), hostOps2_119_writes⟩,
    ⟨(hostOps2_120, hostOps2_120_W), hostOps2_120_writes⟩,
    ⟨(hostOps2_121, hostOps2_121_W), hostOps2_121_writes⟩,
    ⟨(hostOps2_122, hostOps2_122_W), hostOps2_122_writes⟩,
    ⟨(hostOps2_123, hostOps2_123_W), hostOps2_123_writes⟩,
    ⟨(hostOps2_124, hostOps2_124_W), hostOps2_124_writes⟩,
    ⟨(hostOps2_125, hostOps2_125_W), hostOps2_125_writes⟩,
    ⟨(hostOps2_126, hostOps2_126_W), hostOps2_126_writes⟩,
    ⟨(hostOps2_127, hostOps2_127_W), hostOps2_127_writes⟩,
    ⟨(hostOps2_128, hostOps2_128_W), hostOps2_128_writes⟩,
    ⟨(hostOps2_129, hostOps2_129_W), hostOps2_129_writes⟩,
    ⟨(hostOps2_130, hostOps2_130_W), hostOps2_130_writes⟩,
    ⟨(hostOps2_131, hostOps2_131_W), hostOps2_131_writes⟩,
    ⟨(hostOps2_132, hostOps2_132_W), hostOps2_132_writes⟩,
    ⟨(hostOps2_133, hostOps2_133_W), hostOps2_133_writes⟩,
    ⟨(hostOps2_134, hostOps2_134_W), hostOps2_134_writes⟩,
    ⟨(hostOps2_135, hostOps2_135_W), hostOps2_135_writes⟩,
    ⟨(hostOps2_136, hostOps2_136_W), hostOps2_136_writes⟩,
    ⟨(hostOps2_137, hostOps2_137_W), hostOps2_137_writes⟩,
    ⟨(hostOps2_138, hostOps2_138_W), hostOps2_138_writes⟩,
    ⟨(hostOps2_139, hostOps2_139_W), hostOps2_139_writes⟩,
    ⟨(hostOps2_140, hostOps2_140_W), hostOps2_140_writes⟩,
    ⟨(hostOps2_141, hostOps2_141_W), hostOps2_141_writes⟩,
    ⟨(hostOps2_142, hostOps2_142_W), hostOps2_142_writes⟩,
    ⟨(hostOps2_143, hostOps2_143_W), hostOps2_143_writes⟩,
    ⟨(hostOps2_144, hostOps2_144_W), hostOps2_144_writes⟩,
    ⟨(hostOps2_145, hostOps2_145_W), hostOps2_145_writes⟩,
    ⟨(hostOps2_146, hostOps2_146_W), hostOps2_146_writes⟩,
    ⟨(hostOps2_147, hostOps2_147_W), hostOps2_147_writes⟩,
    ⟨(hostOps2_148, hostOps2_148_W), hostOps2_148_writes⟩,
    ⟨(hostOps2_149, hostOps2_149_W), hostOps2_149_writes⟩,
    ⟨(hostOps2_150, hostOps2_150_W), hostOps2_150_writes⟩,
    ⟨(hostOps2_151, hostOps2_151_W), hostOps2_151_writes⟩,
    ⟨(hostOps2_152, hostOps2_152_W), hostOps2_152_writes⟩,
    ⟨(hostOps2_153, hostOps2_153_W), hostOps2_153_writes⟩,
    ⟨(hostOps2_154, hostOps2_154_W), hostOps2_154_writes⟩,
    ⟨(hostOps2_155, hostOps2_155_W), hostOps2_155_writes⟩,
    ⟨(hostOps2_156, hostOps2_156_W), hostOps2_156_writes⟩,
    ⟨(hostOps2_157, hostOps2_157_W), hostOps2_157_writes⟩,
    ⟨(hostOps2_158, hostOps2_158_W), hostOps2_158_writes⟩,
    ⟨(hostOps2_159, hostOps2_159_W), hostOps2_159_writes⟩,
    ⟨(hostOps2_160, hostOps2_160_W), hostOps2_160_writes⟩,
    ⟨(hostOps2_161, hostOps2_161_W), hostOps2_161_writes⟩,
    ⟨(hostOps2_162, hostOps2_162_W), hostOps2_162_writes⟩ ]

/-- The last boundary's contents are the rest of the stretches, run from the slices' boundary. -/
theorem last_eq (c : Dev nD) : W167 m ρ c = rest.foldl (fun V p => StableHlo.after p.1.1 V) (W5 m ρ c) := rfl

/-- Stretches keep a reference that is in none of their lists. -/
theorem foldl_keep (L : List { p : List (HloOp τ sig (Elt F)) × List (Ref sig .tc) //
      p.1.Forall fun op => op.writes ⊆ (p.2.map (Proc.devRef (τ := τ) .tc)).toFinset })
    (V : Valuation τ sig (Elt F)) (r : Ref sig .tc) (h : ∀ p ∈ L, r ∉ p.1.2) :
    L.foldl (fun V p => StableHlo.after p.1.1 V) V (Proc.devRef .tc r) = V (Proc.devRef .tc r) := by
  induction L generalizing V with
  | nil => rfl
  | cons p L ih =>
    rw [List.foldl_cons, ih _ fun q hq => h q (List.mem_cons_of_mem _ hq)]
    exact StableHlo.after_of_writes_sub _ _ p.2 (h p List.mem_cons_self)

/-- The results that the value claim speaks of. -/
def resRefs : List (Ref sig .tc) := [main_v12_0, main_v12_1, main_v15, main_v17, main_v19]

/-- What the rest of the stretches write, stretch by stretch. -/
def restW : List (List (Ref sig .tc)) :=
  [hostOps2_1_W, hostOps2_2_W, hostOps2_3_W, hostOps2_4_W, hostOps2_5_W, hostOps2_6_W, hostOps2_7_W,
    hostOps2_8_W, hostOps2_9_W, hostOps2_10_W, hostOps2_11_W, hostOps2_12_W, hostOps2_13_W, hostOps2_14_W,
    hostOps2_15_W, hostOps2_16_W, hostOps2_17_W, hostOps2_18_W, hostOps2_19_W, hostOps2_20_W, hostOps2_21_W,
    hostOps2_22_W, hostOps2_23_W, hostOps2_24_W, hostOps2_25_W, hostOps2_26_W, hostOps2_27_W, hostOps2_28_W,
    hostOps2_29_W, hostOps2_30_W, hostOps2_31_W, hostOps2_32_W, hostOps2_33_W, hostOps2_34_W, hostOps2_35_W,
    hostOps2_36_W, hostOps2_37_W, hostOps2_38_W, hostOps2_39_W, hostOps2_40_W, hostOps2_41_W, hostOps2_42_W,
    hostOps2_43_W, hostOps2_44_W, hostOps2_45_W, hostOps2_46_W, hostOps2_47_W, hostOps2_48_W, hostOps2_49_W,
    hostOps2_50_W, hostOps2_51_W, hostOps2_52_W, hostOps2_53_W, hostOps2_54_W, hostOps2_55_W, hostOps2_56_W,
    hostOps2_57_W, hostOps2_58_W, hostOps2_59_W, hostOps2_60_W, hostOps2_61_W, hostOps2_62_W, hostOps2_63_W,
    hostOps2_64_W, hostOps2_65_W, hostOps2_66_W, hostOps2_67_W, hostOps2_68_W, hostOps2_69_W, hostOps2_70_W,
    hostOps2_71_W, hostOps2_72_W, hostOps2_73_W, hostOps2_74_W, hostOps2_75_W, hostOps2_76_W, hostOps2_77_W,
    hostOps2_78_W, hostOps2_79_W, hostOps2_80_W, hostOps2_81_W, hostOps2_82_W, hostOps2_83_W, hostOps2_84_W,
    hostOps2_85_W, hostOps2_86_W, hostOps2_87_W, hostOps2_88_W, hostOps2_89_W, hostOps2_90_W, hostOps2_91_W,
    hostOps2_92_W, hostOps2_93_W, hostOps2_94_W, hostOps2_95_W, hostOps2_96_W, hostOps2_97_W, hostOps2_98_W,
    hostOps2_99_W, hostOps2_100_W, hostOps2_101_W, hostOps2_102_W, hostOps2_103_W, hostOps2_104_W,
    hostOps2_105_W, hostOps2_106_W, hostOps2_107_W, hostOps2_108_W, hostOps2_109_W, hostOps2_110_W,
    hostOps2_111_W, hostOps2_112_W, hostOps2_113_W, hostOps2_114_W, hostOps2_115_W, hostOps2_116_W,
    hostOps2_117_W, hostOps2_118_W, hostOps2_119_W, hostOps2_120_W, hostOps2_121_W, hostOps2_122_W,
    hostOps2_123_W, hostOps2_124_W, hostOps2_125_W, hostOps2_126_W, hostOps2_127_W, hostOps2_128_W,
    hostOps2_129_W, hostOps2_130_W, hostOps2_131_W, hostOps2_132_W, hostOps2_133_W, hostOps2_134_W,
    hostOps2_135_W, hostOps2_136_W, hostOps2_137_W, hostOps2_138_W, hostOps2_139_W, hostOps2_140_W,
    hostOps2_141_W, hostOps2_142_W, hostOps2_143_W, hostOps2_144_W, hostOps2_145_W, hostOps2_146_W,
    hostOps2_147_W, hostOps2_148_W, hostOps2_149_W, hostOps2_150_W, hostOps2_151_W, hostOps2_152_W,
    hostOps2_153_W, hostOps2_154_W, hostOps2_155_W, hostOps2_156_W, hostOps2_157_W, hostOps2_158_W,
    hostOps2_159_W, hostOps2_160_W, hostOps2_161_W, hostOps2_162_W]

/-- No stretch of the rest writes one of them. -/
theorem restW_keeps : ∀ l ∈ restW, ∀ r ∈ resRefs, r ∉ l := by
  decide +kernel
theorem rest_keeps : ∀ l ∈ (rest (F := F)).map (fun p => p.1.2), ∀ r ∈ resRefs, r ∉ l := restW_keeps

/-- Each of them is at the last boundary what it is after the slices. -/
theorem last_of (c : Dev nD) (r : Ref sig .tc) (hr : r ∈ resRefs) :
    W167 m ρ c (Proc.devRef .tc r) = W5 m ρ c (Proc.devRef .tc r) := by
  rw [last_eq]
  exact foldl_keep _ _ r fun p hp => rest_keeps _ (List.mem_map_of_mem hp) r hr

end Cert.KRun
-- ==== Proof.Agree.lean ====
/-
  The value claim: both programs run, and the results that the mask selects end at the same arrays, named as the
  reference's functions of the arguments.
-/
module

public import proofs.«01_k».proof.Defs
public import proofs.«01_k».proof.Proof.KRun
public import proofs.«01_k».proof.Proof.Gen.On_all_but_rotation

@[expose] public section

set_option maxRecDepth 16384

noncomputable section

namespace Cert.Agree

open Idealize.ShloMosaic hiding ix1 ix2 ix3
open Idealize.ShloMosaic.ValueIdx Idealize.ShloMosaic.StableHlo
open Idealize.SL.Sem

/-! ## The kernel's results as the reference's functions -/

section Kernel

open Cert.KernelIdeal Cert.KernelIdeal.Gen Cert.KValue Cert.Finite

variable (m : (ℓ : Loc nD τ sig) → Buf (Elt Ideal) ℓ) (ρ : Dev nD → PrngReg) (c : Dev nD)
  (h0 : AllReal (arg0 m c)) (h1 : AllReal (arg1 m c)) (h3 : AllReal (arg3 m c)) (h4 : AllReal (arg4 m c))

theorem eq_column (i : S8x2048x1.Idx) : ∃ (b : Fin 8) (n : Fin 2048), i = ix3 b n 0 := by
  refine ⟨i 0, i 1, funext fun a => Fin.ext ?_⟩
  match a with
  | ⟨0, _⟩ => rfl
  | ⟨1, _⟩ => rfl
  | ⟨2, _⟩ => exact Nat.lt_one_iff.1 (i 2).isLt

theorem eq_square (i : S8x3x3.Idx) : ∃ (b : Fin 8) (j k : Fin 3), i = ix3 b j k := by
  refine ⟨i 0, i 1, i 2, funext fun a => Fin.ext ?_⟩
  match a with
  | ⟨0, _⟩ => rfl
  | ⟨1, _⟩ => rfl
  | ⟨2, _⟩ => rfl

theorem eq_point (i : S8x3.Idx) : ∃ (b : Fin 8) (j : Fin 3), i = ix2 b j := by
  refine ⟨i 0, i 1, funext fun a => Fin.ext ?_⟩
  match a with
  | ⟨0, _⟩ => rfl
  | ⟨1, _⟩ => rfl

include h0 h1 h4

theorem corres : (W167 m ρ c (Proc.devRef .tc main_v12_0) : S8x2048x1.Idx → BitVec 32)
    = RefRun.resCorres (F := Ideal) (arg0 m c) (arg1 m c) (arg4 m c) := by
  rw [KRun.last_of m ρ c main_v12_0 (by decide)]
  funext i
  obtain ⟨b, n, rfl⟩ := eq_column i
  exact (last_corres m ρ c b n).trans (Joined.corres_eq _ _ _ h0 h1 h4 b n)

theorem weight : (W167 m ρ c (Proc.devRef .tc main_v12_1) : S8x2048x1.Idx → EReal)
    = RefRun.resWeight (F := Ideal) (arg0 m c) (arg1 m c) (arg4 m c) := by
  rw [KRun.last_of m ρ c main_v12_1 (by decide)]
  funext i
  obtain ⟨b, n, rfl⟩ := eq_column i
  exact (last_weight m ρ c b n).trans (Joined.weight_eq _ _ _ h0 h1 h4 b n).symm

theorem meanX : (W167 m ρ c (Proc.devRef .tc main_v19) : S8x3.Idx → EReal)
    = RefRun.flat (F := Ideal) (RefRun.resMeanX (arg0 m c) (arg1 m c) (arg2 m c) (arg4 m c)) := by
  rw [KRun.last_of m ρ c main_v19 (by decide)]
  funext i
  obtain ⟨b, j, rfl⟩ := eq_point i
  exact (last_meanX m ρ c b j).trans ((RefRows.flat_apply _ b j).trans (Joined.meanX_eq _ _ _ _ h0 h1 h4 b j)).symm

include h3

theorem meanY : (W167 m ρ c (Proc.devRef .tc main_v17) : S8x3.Idx → EReal)
    = RefRun.flat (F := Ideal) (RefRun.resMeanY (arg0 m c) (arg1 m c) (arg3 m c) (arg4 m c)) := by
  rw [KRun.last_of m ρ c main_v17 (by decide)]
  funext i
  obtain ⟨b, j, rfl⟩ := eq_point i
  exact (last_meanY m ρ c b j).trans ((RefRows.flat_apply _ b j).trans (Joined.meanY_eq _ _ _ _ h0 h1 h3 h4 b j)).symm

theorem cov : (W167 m ρ c (Proc.devRef .tc main_v15) : S8x3x3.Idx → EReal)
    = RefRun.resCov (F := Ideal) (arg0 m c) (arg1 m c) (arg2 m c) (arg3 m c) (arg4 m c) := by
  rw [KRun.last_of m ρ c main_v15 (by decide)]
  funext i
  obtain ⟨b, j, k, rfl⟩ := eq_square i
  exact (last_cov m ρ c b j k).trans (Joined.cov_eq _ _ _ _ _ h0 h1 h3 h4 b j k).symm

end Kernel

/-! ## The mask leaves R and T out -/

section Mask

open Cert.On_all_but_rotation

variable (a0 a1 : FVec Ideal S8x64x2048 .f32) (a2 a3 : FVec Ideal S8x3x2048 .f32) (a4 : FVec Ideal S8 .f32) (a5 : IVec S_ 32)

theorem mask_first (i : (⟨3, ![8, 3, 3]⟩ : Shape).Idx) : ¬ (Cert.On_all_but_rotation.fn (F := Ideal) a0 a1 a2 a3 a4 a5).1 i = 1#1 := by
  show ¬ (0#1 = 1#1)
  decide

theorem mask_second (i : (⟨3, ![8, 3, 3]⟩ : Shape).Idx) : ¬ (Cert.On_all_but_rotation.fn (F := Ideal) a0 a1 a2 a3 a4 a5).2.1 i = 1#1 := by
  show ¬ (0#1 = 1#1)
  decide

end Mask

/-! ## The reference's frame -/

section Reference

open Cert.ReferenceIdeal Cert.ReferenceIdeal.Gen

variable (m : (ℓ : Loc nD τ sig) → Buf (Elt Ideal) ℓ) (ρ : Dev nD → PrngReg)

/-- The arguments: what no operation writes. -/
def argRefs : List (Ref sig .tc) := [main_arg0, main_arg1, main_arg2, main_arg3, main_arg4, main_arg5]

theorem arg_kept (V : Valuation τ sig (Elt Ideal)) : ∀ r ∈ argRefs, after RefRun.ops V (Proc.devRef .tc r) = V (Proc.devRef .tc r) :=
  fun r hr => RefRun.keep V r (by revert r; decide) (by revert r; decide) (by revert r; decide) (by revert r; decide)
    (by revert r; decide) (by revert r; decide) (by revert r; decide) (by revert r; decide)

theorem arg_end (c : Dev nD) (b : Ref sig .tc) (hb : b ∈ argRefs) (M : (ℓ : Loc nD τ sig) → Buf (Elt Ideal) ℓ)
    (h : M ((c.tc : Thread nD τ).loc b) = after RefRun.ops (launchContents m c) (Proc.devRef .tc b)) :
    M ((c.tc : Thread nD τ).loc b) = m ((c.tc : Thread nD τ).loc b) :=
  h.trans (arg_kept _ b hb)

theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨arg_end m c main_arg0 (by decide) _ (h.1 c main_arg0), arg_end m c main_arg1 (by decide) _ (h.1 c main_arg1),
      arg_end m c main_arg2 (by decide) _ (h.1 c main_arg2), arg_end m c main_arg3 (by decide) _ (h.1 c main_arg3),
      arg_end m c main_arg4 (by decide) _ (h.1 c main_arg4), arg_end m c main_arg5 (by decide) _ (h.1 c main_arg5)⟩, h.2⟩)
    (RefRun.run m ρ)

end Reference

/-! ## The claim -/

theorem algebraic : Cert.algebraic_KernelIdeal_ReferenceIdeal_on_all_but_rotation_pre_finite := by
  intro m g m' g' hpre hargs
  have hreal := fun c => Finite.of_pre _ _ _ _ _ _ (hpre c)
  refine ⟨fun c => m ((c.tc : Thread KernelIdeal.nD KernelIdeal.τ).loc KernelIdeal.main_v2456),
    fun c => m ((c.tc : Thread KernelIdeal.nD KernelIdeal.τ).loc KernelIdeal.main_v2465),
    fun c => RefRun.resCorres (F := Ideal) (KValue.arg0 m c) (KValue.arg1 m c) (KValue.arg4 m c),
    fun c => RefRun.resWeight (F := Ideal) (KValue.arg0 m c) (KValue.arg1 m c) (KValue.arg4 m c),
    fun c => RefRun.resCov (F := Ideal) (KValue.arg0 m c) (KValue.arg1 m c) (KValue.arg2 m c) (KValue.arg3 m c) (KValue.arg4 m c),
    fun c => RefRun.flat (F := Ideal) (RefRun.resMeanY (KValue.arg0 m c) (KValue.arg1 m c) (KValue.arg3 m c) (KValue.arg4 m c)),
    fun c => RefRun.flat (F := Ideal) (RefRun.resMeanX (KValue.arg0 m c) (KValue.arg1 m c) (KValue.arg2 m c) (KValue.arg4 m c)),
    (θ_run _ _ _).mono (fun r h c => ?_) (KRun.run m g), (θ_run _ _ _).mono (fun r h c => ?_) (RefRun.run m' g')⟩
  · obtain ⟨h0, h1, h3, h4⟩ := hreal c
    have e := h c
    refine ⟨fun i hi => absurd hi (mask_first _ _ _ _ _ _ i), fun i hi => absurd hi (mask_second _ _ _ _ _ _ i),
      fun i _ => congrFun ((e KernelIdeal.main_v12_0 (by decide)).trans (corres m g c h0 h1 h4)) i,
      fun i _ => congrFun ((e KernelIdeal.main_v12_1 (by decide)).trans (weight m g c h0 h1 h4)) i,
      fun i _ => congrFun ((e KernelIdeal.main_v15 (by decide)).trans (cov m g c h0 h1 h3 h4)) i,
      fun i _ => congrFun ((e KernelIdeal.main_v17 (by decide)).trans (meanY m g c h0 h1 h3 h4)) i,
      fun i _ => congrFun ((e KernelIdeal.main_v19 (by decide)).trans (meanX m g c h0 h1 h4)) i,
      (e KernelIdeal.main_arg0 (by decide)).trans (KernelIdeal.Gen.W167_main_arg0 m g c),
      (e KernelIdeal.main_arg1 (by decide)).trans (KernelIdeal.Gen.W167_main_arg1 m g c),
      (e KernelIdeal.main_arg2 (by decide)).trans (KernelIdeal.Gen.W167_main_arg2 m g c),
      (e KernelIdeal.main_arg3 (by decide)).trans (KernelIdeal.Gen.W167_main_arg3 m g c),
      (e KernelIdeal.main_arg4 (by decide)).trans (KernelIdeal.Gen.W167_main_arg4 m g c),
      (e KernelIdeal.main_arg5 (by decide)).trans (KernelIdeal.Gen.W167_main_arg5 m g c)⟩
  · obtain ⟨ha0, ha1, ha2, ha3, ha4, -⟩ := hargs c
    have e := h.1 c
    have f0 : launchContents m' c (Proc.devRef .tc ReferenceIdeal.main_arg0) = KValue.arg0 m c := ha0
    have f1 : launchContents m' c (Proc.devRef .tc ReferenceIdeal.main_arg1) = KValue.arg1 m c := ha1
    have f2 : launchContents m' c (Proc.devRef .tc ReferenceIdeal.main_arg2) = KValue.arg2 m c := ha2
    have f3 : launchContents m' c (Proc.devRef .tc ReferenceIdeal.main_arg3) = KValue.arg3 m c := ha3
    have f4 : launchContents m' c (Proc.devRef .tc ReferenceIdeal.main_arg4) = KValue.arg4 m c := ha4
    have ec := (e ReferenceIdeal.main_v19).trans (RefRun.corres_after (launchContents m' c))
    have ew := (e ReferenceIdeal.main_v20).trans (RefRun.weight_after (launchContents m' c))
    have ev := (e ReferenceIdeal.main_v53).trans (RefRun.cov_after (launchContents m' c))
    have ey := (e ReferenceIdeal.main_v54).trans (RefRun.meanY_after (launchContents m' c))
    have ex := (e ReferenceIdeal.main_v55).trans (RefRun.meanX_after (launchContents m' c))
    rw [f0, f1, f4] at ec ew
    rw [f0, f1, f2, f3, f4] at ev
    rw [f0, f1, f3, f4] at ey
    rw [f0, f1, f2, f4] at ex
    exact ⟨fun i hi => absurd hi (mask_first _ _ _ _ _ _ i), fun i hi => absurd hi (mask_second _ _ _ _ _ _ i),
      fun i _ => congrFun ec i, fun i _ => congrFun ew i, fun i _ => congrFun ev i, fun i _ => congrFun ey i, fun i _ => congrFun ex i,
      arg_end m' c ReferenceIdeal.main_arg0 (by decide) _ (e _), arg_end m' c ReferenceIdeal.main_arg1 (by decide) _ (e _),
      arg_end m' c ReferenceIdeal.main_arg2 (by decide) _ (e _), arg_end m' c ReferenceIdeal.main_arg3 (by decide) _ (e _),
      arg_end m' c ReferenceIdeal.main_arg4 (by decide) _ (e _), arg_end m' c ReferenceIdeal.main_arg5 (by decide) _ (e _)⟩

end Cert.Agree
-- ==== Proof.Translation.lean ====
/-
  The translation, from the rotation and the two weighted means: the kernel's sum of products along a rotation's row is the
  reference's product of the rotation and a column, and what both subtract it from is the same mean.
-/
module

public import proofs.«01_k».proof.Defs
public import proofs.«01_k».proof.Proof.Agree
public import proofs.«01_k».proof.Proof.Gen.Reference2Ideal.Run

@[expose] public section

noncomputable section

namespace Cert.Translation

open Idealize.ShloMosaic hiding ix1 ix2 ix3
open Idealize.ShloMosaic.ValueIdx Idealize.SL.Sem

/-! ## The kernel's lines -/

section Kernel

open Cert.Kernel2Ideal Cert.Kernel2Ideal.Gen

variable (R : FVec Ideal S8x3x3 .f32) (y x : FVec Ideal S8x3 .f32)

/-- A mean, repeated along the rows. -/
def alongRows (v : FVec Ideal S8x3 .f32) : FVec Ideal S8x3x3 .f32 :=
  broadcastInDim S8x3x3 ![0, 1, 2] bcast_S8x1x3_S8x3x3_0_1_2 (broadcastInDim S8x1x3 ![0, 2] bcast_S8x3_S8x1x3_0_2 v)

/-- The sums of a rotation's rows, weighted by a mean. -/
def rowSums : FVec Ideal S8x3 .f32 :=
  Host.reduceAdd (mulf R (alongRows x)) (constant S_ .f32 0x00000000#32) reducesTo_S8x3x3_S8x3_d2 h_S_

/-- The kernel's translation. -/
def kernelT : FVec Ideal S8x3x3 .f32 :=
  subf (alongRows y)
    (broadcastInDim S8x3x3 ![0, 1, 2] bcast_S8x3x1_S8x3x3_0_1_2 (broadcastInDim S8x3x1 ![0, 1] bcast_S8x3_S8x3x1_0_1 (rowSums R x)))

theorem alongRows_apply (b : Fin 8) (i j : Fin 3) : alongRows y (ix3 b i j) = y (ix2 b j) := by
  refine (broadcastInDim_apply _ _ _ _ (ix3 b 0 j) fun a => ?_).trans (broadcastInDim_apply _ _ _ _ (ix2 b j) fun a => ?_)
  · match a with
    | ⟨0, _⟩ => rfl
    | ⟨1, _⟩ => rfl
    | ⟨2, _⟩ => rfl
  · match a with
    | ⟨0, _⟩ => rfl
    | ⟨1, _⟩ => rfl

theorem reduces_row : S8x3x3.Reduces [2] S8x3 := by decide

theorem lift_row (b : Fin 8) (i k : Fin 3) : reduces_row.lift (ix2 b i) k = ix3 b i k := by
  funext a
  match a with
  | ⟨0, _⟩ => rfl
  | ⟨1, _⟩ => rfl
  | ⟨2, _⟩ => rfl

theorem rowSums_apply (b : Fin 8) (i : Fin 3) :
    rowSums R x (ix2 b i) = ∑ k : Fin 3, (R (ix3 b i k) : EReal) * x (ix2 b k) := by
  show Ideal.hostReduceAdd reducesTo_S8x3x3_S8x3_d2 (mulf R (alongRows x)) (Ideal.ofBits .f32 0x00000000#32) (ix2 b i) = _
  rw [Ideal.hostReduceAdd_single _ reduces_row, RefRows.bits_zero, zero_add]
  refine Finset.sum_congr rfl fun (k : Fin 3) _ => ?_
  rw [lift_row b i k]
  exact congrArg (fun z : EReal => (R (ix3 b i k) : EReal) * z) (alongRows_apply x b i k)

theorem kernelT_apply (b : Fin 8) (i j : Fin 3) :
    kernelT R y x (ix3 b i j) = (y (ix2 b j) : EReal) - ∑ k : Fin 3, (R (ix3 b i k) : EReal) * x (ix2 b k) := by
  refine congrArg₂ (fun p q : EReal => p - q) (alongRows_apply y b i j) ?_
  refine (broadcastInDim_apply _ _ _ _ (ix3 b i 0) fun a => ?_).trans
    ((broadcastInDim_apply _ _ _ _ (ix2 b i) fun a => ?_).trans (rowSums_apply R x b i))
  · match a with
    | ⟨0, _⟩ => rfl
    | ⟨1, _⟩ => rfl
    | ⟨2, _⟩ => rfl
  · match a with
    | ⟨0, _⟩ => rfl
    | ⟨1, _⟩ => rfl

/-- The kernel's run, with its result named. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = kernelT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Kernel2Ideal.Value.run m ρ

/-- There is no semaphore, so every counter is at zero. -/
theorem kernel_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c => (h c).2, funext fun g => by
      rcases g with ⟨_, ⟨⟨_, hs⟩⟩ | ⟨⟨_, hs⟩⟩⟩ <;> exact absurd hs (Nat.not_lt_zero _)⟩)
    (Cert.Kernel2Ideal.Value.run m ρ)

end Kernel

/-- The same frame at the machine's floats. -/
theorem machine_frame (m : (ℓ : Loc Kernel2.nD Kernel2.τ Kernel2.sig) → Buf (Elt Bits) ℓ) (ρ : Dev Kernel2.nD → PrngReg) :
    θ_run (Kernel2.defs (F := Bits)) (onTc (τ := Kernel2.τ) (Kernel2.main (F := Bits))) ⟨m, fun _ => 0, ρ⟩ fun r => (∀ c : Dev Kernel2.nD,
      r.2.mem ((c.tc : Thread Kernel2.nD Kernel2.τ).loc Kernel2.main_arg0) = m ((c.tc : Thread Kernel2.nD Kernel2.τ).loc Kernel2.main_arg0)
      ∧ r.2.mem ((c.tc : Thread Kernel2.nD Kernel2.τ).loc Kernel2.main_arg1) = m ((c.tc : Thread Kernel2.nD Kernel2.τ).loc Kernel2.main_arg1)
      ∧ r.2.mem ((c.tc : Thread Kernel2.nD Kernel2.τ).loc Kernel2.main_arg2) = m ((c.tc : Thread Kernel2.nD Kernel2.τ).loc Kernel2.main_arg2))
      ∧ r.2.sem = fun _ => 0 :=
  (θ_run Kernel2.defs _ _).mono (fun _ h => ⟨fun c => (h c).2, funext fun g => by
      rcases g with ⟨_, ⟨⟨_, hs⟩⟩ | ⟨⟨_, hs⟩⟩⟩ <;> exact absurd hs (Nat.not_lt_zero _)⟩)
    (Cert.Kernel2.Value.run m ρ)

/-! ## The reference's lines -/

section Reference

open Cert.Reference2Ideal Cert.Reference2Ideal.Gen

variable (R : FVec Ideal S8x3x3 .f32) (y x : FVec Ideal S8x3 .f32)

/-- A mean as a row of one batch entry. -/
def asRow (v : FVec Ideal S8x3 .f32) : FVec Ideal S8x1x3 .f32 := broadcastInDim S8x1x3 ![0, 2] bcast_S8x3_S8x1x3_0_2 v

/-- The product of a rotation and a mean, as a column. -/
def turned : FVec Ideal S8x3x1 .f32 :=
  Host.dotGeneral dot_S8x3x3_S8x3x1_S8x3x1_2_1_1_2_0_0 none R (transpose S8x3x1 [0, 2, 1] (asRow x) transposes_S8x1x3_S8x3x1_0_2_1)

/-- The reference's translation. -/
def referenceT : FVec Ideal S8x3x3 .f32 :=
  subf (broadcastInDim S8x3x3 ![0, 1, 2] bcast_S8x1x3_S8x3x3_0_1_2 (asRow (shapeCast S8x3 (asRow y) shapeCasts_S8x1x3_S8x3)))
    (broadcastInDim S8x3x3 ![0, 1, 2] bcast_S8x3x1_S8x3x3_0_1_2 (turned R x))

theorem asRow_apply (b : Fin 8) (j : Fin 3) : asRow y (ix3 b 0 j) = y (ix2 b j) := by
  refine broadcastInDim_apply _ _ _ _ (ix2 b j) fun a => ?_
  match a with
  | ⟨0, _⟩ => rfl
  | ⟨1, _⟩ => rfl

theorem squeezed_apply (b : Fin 8) (j : Fin 3) : shapeCast S8x3 (asRow y) shapeCasts_S8x1x3_S8x3 (ix2 b j) = y (ix2 b j) :=
  (shapeCast_apply (asRow y) _ _ (ix3 b 0 j) (by
    rw [Shape.rowMajor_val_two, Shape.rowMajor_val_three]
    show (b.val * 1 + 0) * 3 + j.val = b.val * 3 + j.val
    omega)).trans (asRow_apply y b j)

theorem turned_apply (b : Fin 8) (i : Fin 3) :
    turned R x (ix3 b i 0) = ∑ k : Fin 3, (R (ix3 b i k) : EReal) * x (ix2 b k) := by
  refine (Ideal.dotGeneral_apply _ _ _ _ _ _).trans ?_
  have hr : dot_S8x3x3_S8x3x1_S8x3x1_2_1_1_2_0_0.contr.rank = 1 := rfl
  have hs : dot_S8x3x3_S8x3x1_S8x3x1_2_1_1_2_0_0.contr.size ⟨0, by omega⟩ = 3 := rfl
  rw [← Equiv.sum_comp (contrEquiv1 dot_S8x3x3_S8x3x1_S8x3x1_2_1_1_2_0_0 3 hr hs).symm]
  refine Finset.sum_congr rfl fun (k : Fin 3) _ => ?_
  refine congrArg₂ (fun p q : EReal => p * q) ?_ ?_
  · refine congrArg R (show _ = ix3 b i k from funext fun c => Fin.ext ?_)
    match c with
    | ⟨0, _⟩ => rfl
    | ⟨1, _⟩ => rfl
    | ⟨2, _⟩ => exact contrEquiv1_symm_val _ 3 hr hs k
  · refine Eq.trans (congrArg _ (show _ = ix3 b k 0 from funext fun c => Fin.ext ?_)) ?_
    · match c with
      | ⟨0, _⟩ => rfl
      | ⟨1, _⟩ => exact contrEquiv1_symm_val _ 3 hr hs k
      | ⟨2, _⟩ => rfl
    refine (transpose_apply _ _ _ _ (ix3 b 0 k) fun c => ?_).trans (asRow_apply x b k)
    match c with
    | ⟨0, _⟩ => rfl
    | ⟨1, _⟩ => rfl
    | ⟨2, _⟩ => rfl

theorem referenceT_apply (b : Fin 8) (i j : Fin 3) :
    referenceT R y x (ix3 b i j) = (y (ix2 b j) : EReal) - ∑ k : Fin 3, (R (ix3 b i k) : EReal) * x (ix2 b k) := by
  refine congrArg₂ (fun p q : EReal => p - q) ?_ ?_
  · refine (broadcastInDim_apply _ _ _ _ (ix3 b 0 j) fun a => ?_).trans ((asRow_apply _ b j).trans (squeezed_apply y b j))
    match a with
    | ⟨0, _⟩ => rfl
    | ⟨1, _⟩ => rfl
    | ⟨2, _⟩ => rfl
  · refine (broadcastInDim_apply _ _ _ _ (ix3 b i 0) fun a => ?_).trans (turned_apply R x b i)
    match a with
    | ⟨0, _⟩ => rfl
    | ⟨1, _⟩ => rfl
    | ⟨2, _⟩ => rfl

/-- The reference's run, with its result named. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = referenceT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference2Ideal.Value.run m ρ

/-- There is no semaphore here either. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c => (h c).2, funext fun g => by
      rcases g with ⟨_, ⟨⟨_, hs⟩⟩ | ⟨⟨_, hs⟩⟩⟩ <;> exact absurd hs (Nat.not_lt_zero _)⟩)
    (Cert.Reference2Ideal.Value.run m ρ)

end Reference

/-! ## The claim -/

/-- The two translations are the same function. -/
theorem translations_eq (R : FVec Ideal Kernel2Ideal.S8x3x3 .f32) (y x : FVec Ideal Kernel2Ideal.S8x3 .f32) :
    referenceT R y x = kernelT R y x := by
  funext i
  obtain ⟨b, j, k, rfl⟩ := Agree.eq_square i
  exact (referenceT_apply R y x b j k).trans (kernelT_apply R y x b j k).symm

theorem algebraic : Cert.algebraic_Kernel2Ideal_Reference2Ideal := by
  intro m g m' g' _ hargs
  refine ⟨fun c => kernelT (m ((c.tc : Thread Kernel2Ideal.nD Kernel2Ideal.τ).loc Kernel2Ideal.main_arg0))
    (m ((c.tc : Thread Kernel2Ideal.nD Kernel2Ideal.τ).loc Kernel2Ideal.main_arg1))
    (m ((c.tc : Thread Kernel2Ideal.nD Kernel2Ideal.τ).loc Kernel2Ideal.main_arg2)), kernel_run m g,
    (θ_run _ _ _).mono (fun r h c => ⟨(h c).1.trans ?_, (h c).2⟩) (reference_run m' g')⟩
  obtain ⟨h0, h1, h2⟩ := hargs c
  rw [h0, h1, h2]
  exact translations_eq _ _ _

end Cert.Translation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Run
public import proofs.«01_k».proof.Proof.Gen.Kernel2Ideal
public import proofs.«01_k».proof.Proof.Gen.Kernel2Ideal.Run
public import proofs.«01_k».proof.Proof.Gen.Reference2Ideal
public import proofs.«01_k».proof.Proof.Gen.Reference2Ideal.Run
public import proofs.«01_k».proof.Proof.Gen.Pre_finite
public import proofs.«01_k».proof.Proof.Gen.On_all_but_rotation
public import proofs.«01_k».proof.Proof.Agree
public import proofs.«01_k».proof.Proof.Translation

@[expose] public section

noncomputable section

namespace Cert.Proof

/-- All the claims. The frames under the precondition are the frames without it. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Gen.facts,
    Cert.On_all_but_rotation.Gen.facts,
    fun m ρ _ => Cert.Kernel.Gen.frame m ρ,
    fun m ρ _ => Cert.KernelIdeal.Gen.frame m ρ,
    fun m ρ _ => Cert.KernelIdeal.Gen.frame m ρ,
    fun m ρ _ => Cert.Agree.frame m ρ,
    fun m ρ _ => Cert.Agree.frame m ρ,
    fun m ρ _ => Cert.Translation.machine_frame m ρ,
    fun m ρ _ => Cert.Translation.kernel_frame m ρ,
    fun m ρ _ => Cert.Translation.reference_frame m ρ,
    trivial,
    Cert.Agree.algebraic,
    trivial,
    Cert.Translation.algebraic⟩

end Cert.Proof

end
